-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 16384]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![16384, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S14x64x1024 : Shape := ⟨3, ![14, 64, 1024]⟩
abbrev S4x32x1024 : Shape := ⟨3, ![4, 32, 1024]⟩
abbrev S6x32x1024 : Shape := ⟨3, ![6, 32, 1024]⟩
abbrev S14x4 : Shape := ⟨2, ![14, 4]⟩
abbrev S6x2 : Shape := ⟨2, ![6, 2]⟩
abbrev S_ : Shape := ⟨0, ![]⟩
abbrev S64x512 : Shape := ⟨2, ![64, 512]⟩
abbrev S64x1024 : Shape := ⟨2, ![64, 1024]⟩
abbrev S1x1 : Shape := ⟨2, ![1, 1]⟩
abbrev S1x16x1024 : Shape := ⟨3, ![1, 16, 1024]⟩
abbrev S16x1024 : Shape := ⟨2, ![16, 1024]⟩
abbrev S1x32x1024 : Shape := ⟨3, ![1, 32, 1024]⟩
abbrev S32x1024 : Shape := ⟨2, ![32, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S1024x1024, .f32⟩
  | .local _ .vmem, ⟨0, _⟩ => ⟨S1024x512, .f32⟩
  | .local _ .vmem, ⟨1, _⟩ => ⟨S512x1024, .f32⟩
  | .local _ .vmem, ⟨2, _⟩ => ⟨S1024x1024, .f32⟩
  | .local _ .vmem, ⟨3, _⟩ => ⟨S14x64x1024, .f32⟩
  | .local _ .vmem, ⟨4, _⟩ => ⟨S14x64x1024, .f32⟩
  | .local _ .vmem, ⟨5, _⟩ => ⟨S4x32x1024, .f32⟩
  | .local _ .vmem, ⟨6, _⟩ => ⟨S6x32x1024, .f32⟩
  | _, _ => ⟨S1024x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 251 → Bool
  | ⟨i, _⟩ => dmaSemScopedAt i

abbrev sig : RefSig :=
  (ofTc nBuf bufTy 1 251 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_20 : BitVec 32 := 8#32
  let v44 : BitVec 32 := Scalar.subi v2 c8_i32_20
  let c32_i32_21 : BitVec 32 := 32#32
  let c0_i32_22 : BitVec 32 := 0#32
  let v45 : BitVec 1 := Scalar.cmpi .eq c32_i32_21 c0_i32_22
  let c1_i32_23 : BitVec 32 := 1#32
  let v46 : BitVec 32 := Scalar.select v45 c1_i32_23 c32_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let c1_i32_67 : BitVec 32 := 1#32
  let v99 : BitVec 32 := Scalar.muli v54 c1_i32_67
  let v100 : BitVec 32 := Scalar.addi c0_i32_68 v99
  v100.toNat
def k0_dev2 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_27 : BitVec 32 := 8#32
  let v55 : BitVec 32 := Scalar.addi v2 c8_i32_27
  let c32_i32_28 : BitVec 32 := 32#32
  let c0_i32_29 : BitVec 32 := 0#32
  let v56 : BitVec 1 := Scalar.cmpi .eq c32_i32_28 c0_i32_29
  let c1_i32_30 : BitVec 32 := 1#32
  let v57 : BitVec 32 := Scalar.select v56 c1_i32_30 c32_i32_28
  let v58 : BitVec 32 := Scalar.remsi v55 v57
  let c0_i32_32 : BitVec 32 := 0#32
  let v60 : BitVec 1 := Scalar.cmpi .slt v58 c0_i32_32
  let c0_i32_33 : BitVec 32 := 0#32
  let v61 : BitVec 1 := Scalar.cmpi .slt v57 c0_i32_33
  let v62 : BitVec 1 := Scalar.xori v60 v61
  let c0_i32_31 : BitVec 32 := 0#32
  let v59 : BitVec 1 := Scalar.cmpi .ne v58 c0_i32_31
  let v63 : BitVec 1 := Scalar.andi v62 v59
  let v64 : BitVec 32 := Scalar.addi v58 v57
  let v65 : BitVec 32 := Scalar.select v63 v64 v58
  let c1_i32_70 : BitVec 32 := 1#32
  let v101 : BitVec 32 := Scalar.muli v65 c1_i32_70
  let v102 : BitVec 32 := Scalar.addi c0_i32_71 v101
  v102.toNat
def k0_dev3 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_73 : BitVec 32 := 1#32
  let v103 : BitVec 32 := Scalar.muli v97 c1_i32_73
  let v104 : BitVec 32 := Scalar.addi c0_i32_74 v103
  v104.toNat
def k0_dev4 (d0 : Dev nD) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_76 : BitVec 32 := 1#32
  let v105 : BitVec 32 := Scalar.muli v81 c1_i32_76
  let v106 : BitVec 32 := Scalar.addi c0_i32_77 v105
  v106.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c8_i32_79 : BitVec 32 := 8#32
  let c0_i32_80 : BitVec 32 := 0#32
  let v107 : BitVec 1 := Scalar.cmpi .eq c8_i32_79 c0_i32_80
  let c1_i32_81 : BitVec 32 := 1#32
  let v108 : BitVec 32 := Scalar.select v107 c1_i32_81 c8_i32_79
  let v109 : BitVec 32 := Scalar.remsi v43 v108
  let c0_i32_83 : BitVec 32 := 0#32
  let v111 : BitVec 1 := Scalar.cmpi .slt v109 c0_i32_83
  let c0_i32_84 : BitVec 32 := 0#32
  let v112 : BitVec 1 := Scalar.cmpi .slt v108 c0_i32_84
  let v113 : BitVec 1 := Scalar.xori v111 v112
  let c0_i32_82 : BitVec 32 := 0#32
  let v110 : BitVec 1 := Scalar.cmpi .ne v109 c0_i32_82
  let v114 : BitVec 1 := Scalar.andi v113 v110
  let v115 : BitVec 32 := Scalar.addi v109 v108
  let v116 : BitVec 32 := Scalar.select v114 v115 v109
  let c64_i32 : BitVec 32 := 64#32
  let v117 : BitVec 32 := Scalar.muli v116 c64_i32
  let v118 : Index := Scalar.indexCast v117
  let c0 : Index := 0#32
  ![v118.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c8_i32_79 : BitVec 32 := 8#32
  let c0_i32_80 : BitVec 32 := 0#32
  let v107 : BitVec 1 := Scalar.cmpi .eq c8_i32_79 c0_i32_80
  let c1_i32_81 : BitVec 32 := 1#32
  let v108 : BitVec 32 := Scalar.select v107 c1_i32_81 c8_i32_79
  let v109 : BitVec 32 := Scalar.remsi v43 v108
  let c0_i32_83 : BitVec 32 := 0#32
  let v111 : BitVec 1 := Scalar.cmpi .slt v109 c0_i32_83
  let c0_i32_84 : BitVec 32 := 0#32
  let v112 : BitVec 1 := Scalar.cmpi .slt v108 c0_i32_84
  let v113 : BitVec 1 := Scalar.xori v111 v112
  let c0_i32_82 : BitVec 32 := 0#32
  let v110 : BitVec 1 := Scalar.cmpi .ne v109 c0_i32_82
  let v114 : BitVec 1 := Scalar.andi v113 v110
  let v115 : BitVec 32 := Scalar.addi v109 v108
  let v116 : BitVec 32 := Scalar.select v114 v115 v109
  let c64_i32 : BitVec 32 := 64#32
  let v117 : BitVec 32 := Scalar.muli v116 c64_i32
  let v124 : Index := Scalar.indexCast v117
  let c0_87 : Index := 0#32
  ![v124.toNat, 0]
def k0_off3 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c8_i32_88 : BitVec 32 := 8#32
  let c0_i32_89 : BitVec 32 := 0#32
  let v126 : BitVec 1 := Scalar.cmpi .eq c8_i32_88 c0_i32_89
  let c1_i32_90 : BitVec 32 := 1#32
  let v127 : BitVec 32 := Scalar.select v126 c1_i32_90 c8_i32_88
  let v128 : BitVec 32 := Scalar.remsi v43 v127
  let c0_i32_92 : BitVec 32 := 0#32
  let v130 : BitVec 1 := Scalar.cmpi .slt v128 c0_i32_92
  let c0_i32_93 : BitVec 32 := 0#32
  let v131 : BitVec 1 := Scalar.cmpi .slt v127 c0_i32_93
  let v132 : BitVec 1 := Scalar.xori v130 v131
  let c0_i32_91 : BitVec 32 := 0#32
  let v129 : BitVec 1 := Scalar.cmpi .ne v128 c0_i32_91
  let v133 : BitVec 1 := Scalar.andi v132 v129
  let v134 : BitVec 32 := Scalar.addi v128 v127
  let v135 : BitVec 32 := Scalar.select v133 v134 v128
  let c64_i32_94 : BitVec 32 := 64#32
  let v136 : BitVec 32 := Scalar.muli v135 c64_i32_94
  let v137 : BitVec 32 := Scalar.addi c512_i32 v136
  let v138 : Index := Scalar.indexCast v137
  let c0_95 : Index := 0#32
  ![v138.toNat, 0]
def k0_off4 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c8_i32_88 : BitVec 32 := 8#32
  let c0_i32_89 : BitVec 32 := 0#32
  let v126 : BitVec 1 := Scalar.cmpi .eq c8_i32_88 c0_i32_89
  let c1_i32_90 : BitVec 32 := 1#32
  let v127 : BitVec 32 := Scalar.select v126 c1_i32_90 c8_i32_88
  let v128 : BitVec 32 := Scalar.remsi v43 v127
  let c0_i32_92 : BitVec 32 := 0#32
  let v130 : BitVec 1 := Scalar.cmpi .slt v128 c0_i32_92
  let c0_i32_93 : BitVec 32 := 0#32
  let v131 : BitVec 1 := Scalar.cmpi .slt v127 c0_i32_93
  let v132 : BitVec 1 := Scalar.xori v130 v131
  let c0_i32_91 : BitVec 32 := 0#32
  let v129 : BitVec 1 := Scalar.cmpi .ne v128 c0_i32_91
  let v133 : BitVec 1 := Scalar.andi v132 v129
  let v134 : BitVec 32 := Scalar.addi v128 v127
  let v135 : BitVec 32 := Scalar.select v133 v134 v128
  let c64_i32_94 : BitVec 32 := 64#32
  let v136 : BitVec 32 := Scalar.muli v135 c64_i32_94
  let v137 : BitVec 32 := Scalar.addi c512_i32 v136
  let v144 : Index := Scalar.indexCast v137
  let c0_99 : Index := 0#32
  ![v144.toNat, 0]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_100 : BitVec 32 := 1#32
  let v146 : BitVec 32 := Scalar.subi v43 c1_i32_100
  let c8_i32_101 : BitVec 32 := 8#32
  let c0_i32_102 : BitVec 32 := 0#32
  let v147 : BitVec 1 := Scalar.cmpi .eq c8_i32_101 c0_i32_102
  let c1_i32_103 : BitVec 32 := 1#32
  let v148 : BitVec 32 := Scalar.select v147 c1_i32_103 c8_i32_101
  let v149 : BitVec 32 := Scalar.remsi v146 v148
  let c0_i32_105 : BitVec 32 := 0#32
  let v151 : BitVec 1 := Scalar.cmpi .slt v149 c0_i32_105
  let c0_i32_106 : BitVec 32 := 0#32
  let v152 : BitVec 1 := Scalar.cmpi .slt v148 c0_i32_106
  let v153 : BitVec 1 := Scalar.xori v151 v152
  let c0_i32_104 : BitVec 32 := 0#32
  let v150 : BitVec 1 := Scalar.cmpi .ne v149 c0_i32_104
  let v154 : BitVec 1 := Scalar.andi v153 v150
  let v155 : BitVec 32 := Scalar.addi v149 v148
  let v156 : BitVec 32 := Scalar.select v154 v155 v149
  let c64_i32_107 : BitVec 32 := 64#32
  let v157 : BitVec 32 := Scalar.muli v156 c64_i32_107
  let v158 : Index := Scalar.indexCast v157
  let c0_108 : Index := 0#32
  ![v158.toNat, 0]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_100 : BitVec 32 := 1#32
  let v146 : BitVec 32 := Scalar.subi v43 c1_i32_100
  let c8_i32_101 : BitVec 32 := 8#32
  let c0_i32_102 : BitVec 32 := 0#32
  let v147 : BitVec 1 := Scalar.cmpi .eq c8_i32_101 c0_i32_102
  let c1_i32_103 : BitVec 32 := 1#32
  let v148 : BitVec 32 := Scalar.select v147 c1_i32_103 c8_i32_101
  let v149 : BitVec 32 := Scalar.remsi v146 v148
  let c0_i32_105 : BitVec 32 := 0#32
  let v151 : BitVec 1 := Scalar.cmpi .slt v149 c0_i32_105
  let c0_i32_106 : BitVec 32 := 0#32
  let v152 : BitVec 1 := Scalar.cmpi .slt v148 c0_i32_106
  let v153 : BitVec 1 := Scalar.xori v151 v152
  let c0_i32_104 : BitVec 32 := 0#32
  let v150 : BitVec 1 := Scalar.cmpi .ne v149 c0_i32_104
  let v154 : BitVec 1 := Scalar.andi v153 v150
  let v155 : BitVec 32 := Scalar.addi v149 v148
  let v156 : BitVec 32 := Scalar.select v154 v155 v149
  let c64_i32_107 : BitVec 32 := 64#32
  let v157 : BitVec 32 := Scalar.muli v156 c64_i32_107
  let v164 : Index := Scalar.indexCast v157
  let c0_112 : Index := 0#32
  ![v164.toNat, 0]
def k0_off7 (d0 : Dev nD) : Fin 2 → Nat :=
  let c512_i32_121 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_113 : BitVec 32 := 1#32
  let v166 : BitVec 32 := Scalar.addi v43 c1_i32_113
  let c8_i32_114 : BitVec 32 := 8#32
  let c0_i32_115 : BitVec 32 := 0#32
  let v167 : BitVec 1 := Scalar.cmpi .eq c8_i32_114 c0_i32_115
  let c1_i32_116 : BitVec 32 := 1#32
  let v168 : BitVec 32 := Scalar.select v167 c1_i32_116 c8_i32_114
  let v169 : BitVec 32 := Scalar.remsi v166 v168
  let c0_i32_118 : BitVec 32 := 0#32
  let v171 : BitVec 1 := Scalar.cmpi .slt v169 c0_i32_118
  let c0_i32_119 : BitVec 32 := 0#32
  let v172 : BitVec 1 := Scalar.cmpi .slt v168 c0_i32_119
  let v173 : BitVec 1 := Scalar.xori v171 v172
  let c0_i32_117 : BitVec 32 := 0#32
  let v170 : BitVec 1 := Scalar.cmpi .ne v169 c0_i32_117
  let v174 : BitVec 1 := Scalar.andi v173 v170
  let v175 : BitVec 32 := Scalar.addi v169 v168
  let v176 : BitVec 32 := Scalar.select v174 v175 v169
  let c64_i32_120 : BitVec 32 := 64#32
  let v177 : BitVec 32 := Scalar.muli v176 c64_i32_120
  let v178 : BitVec 32 := Scalar.addi c512_i32_121 v177
  let v179 : Index := Scalar.indexCast v178
  let c0_122 : Index := 0#32
  ![v179.toNat, 0]
def k0_off8 (d0 : Dev nD) : Fin 2 → Nat :=
  let c512_i32_121 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_113 : BitVec 32 := 1#32
  let v166 : BitVec 32 := Scalar.addi v43 c1_i32_113
  let c8_i32_114 : BitVec 32 := 8#32
  let c0_i32_115 : BitVec 32 := 0#32
  let v167 : BitVec 1 := Scalar.cmpi .eq c8_i32_114 c0_i32_115
  let c1_i32_116 : BitVec 32 := 1#32
  let v168 : BitVec 32 := Scalar.select v167 c1_i32_116 c8_i32_114
  let v169 : BitVec 32 := Scalar.remsi v166 v168
  let c0_i32_118 : BitVec 32 := 0#32
  let v171 : BitVec 1 := Scalar.cmpi .slt v169 c0_i32_118
  let c0_i32_119 : BitVec 32 := 0#32
  let v172 : BitVec 1 := Scalar.cmpi .slt v168 c0_i32_119
  let v173 : BitVec 1 := Scalar.xori v171 v172
  let c0_i32_117 : BitVec 32 := 0#32
  let v170 : BitVec 1 := Scalar.cmpi .ne v169 c0_i32_117
  let v174 : BitVec 1 := Scalar.andi v173 v170
  let v175 : BitVec 32 := Scalar.addi v169 v168
  let v176 : BitVec 32 := Scalar.select v174 v175 v169
  let c64_i32_120 : BitVec 32 := 64#32
  let v177 : BitVec 32 := Scalar.muli v176 c64_i32_120
  let v178 : BitVec 32 := Scalar.addi c512_i32_121 v177
  let v185 : Index := Scalar.indexCast v178
  let c0_126 : Index := 0#32
  ![v185.toNat, 0]
def k0_off9 (d0 : Dev nD) (c0_i32_134 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c8_i32_127 : BitVec 32 := 8#32
  let c0_i32_128 : BitVec 32 := 0#32
  let v187 : BitVec 1 := Scalar.cmpi .eq c8_i32_127 c0_i32_128
  let c1_i32_129 : BitVec 32 := 1#32
  let v188 : BitVec 32 := Scalar.select v187 c1_i32_129 c8_i32_127
  let v189 : BitVec 32 := Scalar.remsi v43 v188
  let c0_i32_131 : BitVec 32 := 0#32
  let v191 : BitVec 1 := Scalar.cmpi .slt v189 c0_i32_131
  let c0_i32_132 : BitVec 32 := 0#32
  let v192 : BitVec 1 := Scalar.cmpi .slt v188 c0_i32_132
  let v193 : BitVec 1 := Scalar.xori v191 v192
  let c0_i32_130 : BitVec 32 := 0#32
  let v190 : BitVec 1 := Scalar.cmpi .ne v189 c0_i32_130
  let v194 : BitVec 1 := Scalar.andi v193 v190
  let v195 : BitVec 32 := Scalar.addi v189 v188
  let v196 : BitVec 32 := Scalar.select v194 v195 v189
  let c64_i32_133 : BitVec 32 := 64#32
  let v197 : BitVec 32 := Scalar.muli v196 c64_i32_133
  let v198 : BitVec 32 := Scalar.addi v197 c0_i32_134
  let c0_i32_202 : BitVec 32 := 0#32
  ![v198.toNat, 0]
def k0_dev5 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_198 : BitVec 32 := 1#32
  let v287 : BitVec 32 := Scalar.muli v81 c1_i32_198
  let v288 : BitVec 32 := Scalar.addi c0_i32_199 v287
  v288.toNat
def k0_off10 (d0 : Dev nD) (c0_i32_143 : BitVec 32) : Fin 2 → Nat :=
  let c512_i32_142 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c8_i32_135 : BitVec 32 := 8#32
  let c0_i32_136 : BitVec 32 := 0#32
  let v199 : BitVec 1 := Scalar.cmpi .eq c8_i32_135 c0_i32_136
  let c1_i32_137 : BitVec 32 := 1#32
  let v200 : BitVec 32 := Scalar.select v199 c1_i32_137 c8_i32_135
  let v201 : BitVec 32 := Scalar.remsi v43 v200
  let c0_i32_139 : BitVec 32 := 0#32
  let v203 : BitVec 1 := Scalar.cmpi .slt v201 c0_i32_139
  let c0_i32_140 : BitVec 32 := 0#32
  let v204 : BitVec 1 := Scalar.cmpi .slt v200 c0_i32_140
  let v205 : BitVec 1 := Scalar.xori v203 v204
  let c0_i32_138 : BitVec 32 := 0#32
  let v202 : BitVec 1 := Scalar.cmpi .ne v201 c0_i32_138
  let v206 : BitVec 1 := Scalar.andi v205 v202
  let v207 : BitVec 32 := Scalar.addi v201 v200
  let v208 : BitVec 32 := Scalar.select v206 v207 v201
  let c64_i32_141 : BitVec 32 := 64#32
  let v209 : BitVec 32 := Scalar.muli v208 c64_i32_141
  let v210 : BitVec 32 := Scalar.addi c512_i32_142 v209
  let v211 : BitVec 32 := Scalar.addi v210 c0_i32_143
  let c0_i32_212 : BitVec 32 := 0#32
  ![v211.toNat, 0]
def k0_dev6 (d0 : Dev nD) : Nat :=
  let c0_i32_209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_208 : BitVec 32 := 1#32
  let v296 : BitVec 32 := Scalar.muli v97 c1_i32_208
  let v297 : BitVec 32 := Scalar.addi c0_i32_209 v296
  v297.toNat
def k0_dev7 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_218 : BitVec 32 := 1#32
  let v305 : BitVec 32 := Scalar.muli v81 c1_i32_218
  let v306 : BitVec 32 := Scalar.addi c0_i32_219 v305
  v306.toNat
def k0_dev8 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_228 : BitVec 32 := 1#32
  let v314 : BitVec 32 := Scalar.muli v97 c1_i32_228
  let v315 : BitVec 32 := Scalar.addi c0_i32_229 v314
  v315.toNat
def k0_dev9 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_238 : BitVec 32 := 1#32
  let v323 : BitVec 32 := Scalar.muli v81 c1_i32_238
  let v324 : BitVec 32 := Scalar.addi c0_i32_239 v323
  v324.toNat
def k0_dev10 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_248 : BitVec 32 := 1#32
  let v332 : BitVec 32 := Scalar.muli v97 c1_i32_248
  let v333 : BitVec 32 := Scalar.addi c0_i32_249 v332
  v333.toNat
def k0_dev11 (d0 : Dev nD) : Nat :=
  let c0_i32_259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_258 : BitVec 32 := 1#32
  let v341 : BitVec 32 := Scalar.muli v81 c1_i32_258
  let v342 : BitVec 32 := Scalar.addi c0_i32_259 v341
  v342.toNat
def k0_dev12 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_268 : BitVec 32 := 1#32
  let v350 : BitVec 32 := Scalar.muli v97 c1_i32_268
  let v351 : BitVec 32 := Scalar.addi c0_i32_269 v350
  v351.toNat
def k0_off11 (d0 : Dev nD) (c0_i32_273 : BitVec 32) (c0_i32_300 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v359 : BitVec 32 := Scalar.subi v43 c0_i32_273
  let c1_i32_274 : BitVec 32 := 1#32
  let v360 : BitVec 32 := Scalar.subi v359 c1_i32_274
  let c8_i32_275 : BitVec 32 := 8#32
  let c0_i32_276 : BitVec 32 := 0#32
  let v361 : BitVec 1 := Scalar.cmpi .eq c8_i32_275 c0_i32_276
  let c1_i32_277 : BitVec 32 := 1#32
  let v362 : BitVec 32 := Scalar.select v361 c1_i32_277 c8_i32_275
  let v363 : BitVec 32 := Scalar.remsi v360 v362
  let c0_i32_279 : BitVec 32 := 0#32
  let v365 : BitVec 1 := Scalar.cmpi .slt v363 c0_i32_279
  let c0_i32_280 : BitVec 32 := 0#32
  let v366 : BitVec 1 := Scalar.cmpi .slt v362 c0_i32_280
  let v367 : BitVec 1 := Scalar.xori v365 v366
  let c0_i32_278 : BitVec 32 := 0#32
  let v364 : BitVec 1 := Scalar.cmpi .ne v363 c0_i32_278
  let v368 : BitVec 1 := Scalar.andi v367 v364
  let v369 : BitVec 32 := Scalar.addi v363 v362
  let v370 : BitVec 32 := Scalar.select v368 v369 v363
  let c64_i32_299 : BitVec 32 := 64#32
  let v390 : BitVec 32 := Scalar.muli v370 c64_i32_299
  let v391 : BitVec 32 := Scalar.addi v390 c0_i32_300
  let v392 : Index := Scalar.indexCast v391
  let c0_301 : Index := 0#32
  ![v392.toNat, 0]
def k0_off12 (d0 : Dev nD) (c0_i32_273 : BitVec 32) (c0_i32_307 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v359 : BitVec 32 := Scalar.subi v43 c0_i32_273
  let c1_i32_274 : BitVec 32 := 1#32
  let v360 : BitVec 32 := Scalar.subi v359 c1_i32_274
  let c8_i32_275 : BitVec 32 := 8#32
  let c0_i32_276 : BitVec 32 := 0#32
  let v361 : BitVec 1 := Scalar.cmpi .eq c8_i32_275 c0_i32_276
  let c1_i32_277 : BitVec 32 := 1#32
  let v362 : BitVec 32 := Scalar.select v361 c1_i32_277 c8_i32_275
  let v363 : BitVec 32 := Scalar.remsi v360 v362
  let c0_i32_279 : BitVec 32 := 0#32
  let v365 : BitVec 1 := Scalar.cmpi .slt v363 c0_i32_279
  let c0_i32_280 : BitVec 32 := 0#32
  let v366 : BitVec 1 := Scalar.cmpi .slt v362 c0_i32_280
  let v367 : BitVec 1 := Scalar.xori v365 v366
  let c0_i32_278 : BitVec 32 := 0#32
  let v364 : BitVec 1 := Scalar.cmpi .ne v363 c0_i32_278
  let v368 : BitVec 1 := Scalar.andi v367 v364
  let v369 : BitVec 32 := Scalar.addi v363 v362
  let v370 : BitVec 32 := Scalar.select v368 v369 v363
  let c64_i32_306 : BitVec 32 := 64#32
  let v400 : BitVec 32 := Scalar.muli v370 c64_i32_306
  let v401 : BitVec 32 := Scalar.addi v400 c0_i32_307
  let c0_i32_317 : BitVec 32 := 0#32
  ![v401.toNat, 0]
def k0_dev13 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_313 : BitVec 32 := 1#32
  let v402 : BitVec 32 := Scalar.muli v81 c1_i32_313
  let v403 : BitVec 32 := Scalar.addi c0_i32_314 v402
  v403.toNat
def k0_off13 (d0 : Dev nD) (c0_i32_281 : BitVec 32) (c0_i32_330 : BitVec 32) : Fin 2 → Nat :=
  let c512_i32_329 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v371 : BitVec 32 := Scalar.addi v43 c0_i32_281
  let c1_i32_282 : BitVec 32 := 1#32
  let v372 : BitVec 32 := Scalar.addi v371 c1_i32_282
  let c8_i32_283 : BitVec 32 := 8#32
  let c0_i32_284 : BitVec 32 := 0#32
  let v373 : BitVec 1 := Scalar.cmpi .eq c8_i32_283 c0_i32_284
  let c1_i32_285 : BitVec 32 := 1#32
  let v374 : BitVec 32 := Scalar.select v373 c1_i32_285 c8_i32_283
  let v375 : BitVec 32 := Scalar.remsi v372 v374
  let c0_i32_287 : BitVec 32 := 0#32
  let v377 : BitVec 1 := Scalar.cmpi .slt v375 c0_i32_287
  let c0_i32_288 : BitVec 32 := 0#32
  let v378 : BitVec 1 := Scalar.cmpi .slt v374 c0_i32_288
  let v379 : BitVec 1 := Scalar.xori v377 v378
  let c0_i32_286 : BitVec 32 := 0#32
  let v376 : BitVec 1 := Scalar.cmpi .ne v375 c0_i32_286
  let v380 : BitVec 1 := Scalar.andi v379 v376
  let v381 : BitVec 32 := Scalar.addi v375 v374
  let v382 : BitVec 32 := Scalar.select v380 v381 v375
  let c64_i32_328 : BitVec 32 := 64#32
  let v418 : BitVec 32 := Scalar.muli v382 c64_i32_328
  let v419 : BitVec 32 := Scalar.addi c512_i32_329 v418
  let v420 : BitVec 32 := Scalar.addi v419 c0_i32_330
  let v421 : Index := Scalar.indexCast v420
  let c0_331 : Index := 0#32
  ![v421.toNat, 0]
def k0_off14 (d0 : Dev nD) (c0_i32_281 : BitVec 32) (c0_i32_338 : BitVec 32) : Fin 2 → Nat :=
  let c512_i32_337 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v371 : BitVec 32 := Scalar.addi v43 c0_i32_281
  let c1_i32_282 : BitVec 32 := 1#32
  let v372 : BitVec 32 := Scalar.addi v371 c1_i32_282
  let c8_i32_283 : BitVec 32 := 8#32
  let c0_i32_284 : BitVec 32 := 0#32
  let v373 : BitVec 1 := Scalar.cmpi .eq c8_i32_283 c0_i32_284
  let c1_i32_285 : BitVec 32 := 1#32
  let v374 : BitVec 32 := Scalar.select v373 c1_i32_285 c8_i32_283
  let v375 : BitVec 32 := Scalar.remsi v372 v374
  let c0_i32_287 : BitVec 32 := 0#32
  let v377 : BitVec 1 := Scalar.cmpi .slt v375 c0_i32_287
  let c0_i32_288 : BitVec 32 := 0#32
  let v378 : BitVec 1 := Scalar.cmpi .slt v374 c0_i32_288
  let v379 : BitVec 1 := Scalar.xori v377 v378
  let c0_i32_286 : BitVec 32 := 0#32
  let v376 : BitVec 1 := Scalar.cmpi .ne v375 c0_i32_286
  let v380 : BitVec 1 := Scalar.andi v379 v376
  let v381 : BitVec 32 := Scalar.addi v375 v374
  let v382 : BitVec 32 := Scalar.select v380 v381 v375
  let c64_i32_336 : BitVec 32 := 64#32
  let v429 : BitVec 32 := Scalar.muli v382 c64_i32_336
  let v430 : BitVec 32 := Scalar.addi c512_i32_337 v429
  let v431 : BitVec 32 := Scalar.addi v430 c0_i32_338
  let c0_i32_348 : BitVec 32 := 0#32
  ![v431.toNat, 0]
def k0_dev14 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_344 : BitVec 32 := 1#32
  let v432 : BitVec 32 := Scalar.muli v97 c1_i32_344
  let v433 : BitVec 32 := Scalar.addi c0_i32_345 v432
  v433.toNat
def k0_dev15 (d0 : Dev nD) : Nat :=
  let c0_i32_373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_372 : BitVec 32 := 1#32
  let v460 : BitVec 32 := Scalar.muli v81 c1_i32_372
  let v461 : BitVec 32 := Scalar.addi c0_i32_373 v460
  v461.toNat
def k0_dev16 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_403 : BitVec 32 := 1#32
  let v490 : BitVec 32 := Scalar.muli v97 c1_i32_403
  let v491 : BitVec 32 := Scalar.addi c0_i32_404 v490
  v491.toNat
def k0_dev17 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_431 : BitVec 32 := 1#32
  let v518 : BitVec 32 := Scalar.muli v81 c1_i32_431
  let v519 : BitVec 32 := Scalar.addi c0_i32_432 v518
  v519.toNat
def k0_dev18 (d0 : Dev nD) : Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_462 : BitVec 32 := 1#32
  let v548 : BitVec 32 := Scalar.muli v97 c1_i32_462
  let v549 : BitVec 32 := Scalar.addi c0_i32_463 v548
  v549.toNat
def k0_dev19 (d0 : Dev nD) : Nat :=
  let c0_i32_491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_490 : BitVec 32 := 1#32
  let v576 : BitVec 32 := Scalar.muli v81 c1_i32_490
  let v577 : BitVec 32 := Scalar.addi c0_i32_491 v576
  v577.toNat
def k0_dev20 (d0 : Dev nD) : Nat :=
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_521 : BitVec 32 := 1#32
  let v606 : BitVec 32 := Scalar.muli v97 c1_i32_521
  let v607 : BitVec 32 := Scalar.addi c0_i32_522 v606
  v607.toNat
def k0_off15 (d0 : Dev nD) (c0_i32_526 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v615 : BitVec 32 := Scalar.subi v43 c0_i32_526
  let c2_i32_527 : BitVec 32 := 2#32
  let v616 : BitVec 32 := Scalar.subi v615 c2_i32_527
  let c8_i32_528 : BitVec 32 := 8#32
  let c0_i32_529 : BitVec 32 := 0#32
  let v617 : BitVec 1 := Scalar.cmpi .eq c8_i32_528 c0_i32_529
  let c1_i32_530 : BitVec 32 := 1#32
  let v618 : BitVec 32 := Scalar.select v617 c1_i32_530 c8_i32_528
  let v619 : BitVec 32 := Scalar.remsi v616 v618
  let c0_i32_532 : BitVec 32 := 0#32
  let v621 : BitVec 1 := Scalar.cmpi .slt v619 c0_i32_532
  let c0_i32_533 : BitVec 32 := 0#32
  let v622 : BitVec 1 := Scalar.cmpi .slt v618 c0_i32_533
  let v623 : BitVec 1 := Scalar.xori v621 v622
  let c0_i32_531 : BitVec 32 := 0#32
  let v620 : BitVec 1 := Scalar.cmpi .ne v619 c0_i32_531
  let v624 : BitVec 1 := Scalar.andi v623 v620
  let v625 : BitVec 32 := Scalar.addi v619 v618
  let v626 : BitVec 32 := Scalar.select v624 v625 v619
  let c64_i32_534 : BitVec 32 := 64#32
  let v627 : BitVec 32 := Scalar.muli v626 c64_i32_534
  let v628 : Index := Scalar.indexCast v627
  let c0_535 : Index := 0#32
  ![v628.toNat, 0]
def k0_off16 (d0 : Dev nD) (c0_i32_526 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v615 : BitVec 32 := Scalar.subi v43 c0_i32_526
  let c2_i32_527 : BitVec 32 := 2#32
  let v616 : BitVec 32 := Scalar.subi v615 c2_i32_527
  let c8_i32_528 : BitVec 32 := 8#32
  let c0_i32_529 : BitVec 32 := 0#32
  let v617 : BitVec 1 := Scalar.cmpi .eq c8_i32_528 c0_i32_529
  let c1_i32_530 : BitVec 32 := 1#32
  let v618 : BitVec 32 := Scalar.select v617 c1_i32_530 c8_i32_528
  let v619 : BitVec 32 := Scalar.remsi v616 v618
  let c0_i32_532 : BitVec 32 := 0#32
  let v621 : BitVec 1 := Scalar.cmpi .slt v619 c0_i32_532
  let c0_i32_533 : BitVec 32 := 0#32
  let v622 : BitVec 1 := Scalar.cmpi .slt v618 c0_i32_533
  let v623 : BitVec 1 := Scalar.xori v621 v622
  let c0_i32_531 : BitVec 32 := 0#32
  let v620 : BitVec 1 := Scalar.cmpi .ne v619 c0_i32_531
  let v624 : BitVec 1 := Scalar.andi v623 v620
  let v625 : BitVec 32 := Scalar.addi v619 v618
  let v626 : BitVec 32 := Scalar.select v624 v625 v619
  let c64_i32_534 : BitVec 32 := 64#32
  let v627 : BitVec 32 := Scalar.muli v626 c64_i32_534
  let v634 : Index := Scalar.indexCast v627
  let c0_539 : Index := 0#32
  ![v634.toNat, 0]
def k0_off17 (d0 : Dev nD) (c0_i32_540 : BitVec 32) : Fin 2 → Nat :=
  let c512_i32_549 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v636 : BitVec 32 := Scalar.addi v43 c0_i32_540
  let c2_i32_541 : BitVec 32 := 2#32
  let v637 : BitVec 32 := Scalar.addi v636 c2_i32_541
  let c8_i32_542 : BitVec 32 := 8#32
  let c0_i32_543 : BitVec 32 := 0#32
  let v638 : BitVec 1 := Scalar.cmpi .eq c8_i32_542 c0_i32_543
  let c1_i32_544 : BitVec 32 := 1#32
  let v639 : BitVec 32 := Scalar.select v638 c1_i32_544 c8_i32_542
  let v640 : BitVec 32 := Scalar.remsi v637 v639
  let c0_i32_546 : BitVec 32 := 0#32
  let v642 : BitVec 1 := Scalar.cmpi .slt v640 c0_i32_546
  let c0_i32_547 : BitVec 32 := 0#32
  let v643 : BitVec 1 := Scalar.cmpi .slt v639 c0_i32_547
  let v644 : BitVec 1 := Scalar.xori v642 v643
  let c0_i32_545 : BitVec 32 := 0#32
  let v641 : BitVec 1 := Scalar.cmpi .ne v640 c0_i32_545
  let v645 : BitVec 1 := Scalar.andi v644 v641
  let v646 : BitVec 32 := Scalar.addi v640 v639
  let v647 : BitVec 32 := Scalar.select v645 v646 v640
  let c64_i32_548 : BitVec 32 := 64#32
  let v648 : BitVec 32 := Scalar.muli v647 c64_i32_548
  let v649 : BitVec 32 := Scalar.addi c512_i32_549 v648
  let v650 : Index := Scalar.indexCast v649
  let c0_550 : Index := 0#32
  ![v650.toNat, 0]
def k0_off18 (d0 : Dev nD) (c0_i32_540 : BitVec 32) : Fin 2 → Nat :=
  let c512_i32_549 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v636 : BitVec 32 := Scalar.addi v43 c0_i32_540
  let c2_i32_541 : BitVec 32 := 2#32
  let v637 : BitVec 32 := Scalar.addi v636 c2_i32_541
  let c8_i32_542 : BitVec 32 := 8#32
  let c0_i32_543 : BitVec 32 := 0#32
  let v638 : BitVec 1 := Scalar.cmpi .eq c8_i32_542 c0_i32_543
  let c1_i32_544 : BitVec 32 := 1#32
  let v639 : BitVec 32 := Scalar.select v638 c1_i32_544 c8_i32_542
  let v640 : BitVec 32 := Scalar.remsi v637 v639
  let c0_i32_546 : BitVec 32 := 0#32
  let v642 : BitVec 1 := Scalar.cmpi .slt v640 c0_i32_546
  let c0_i32_547 : BitVec 32 := 0#32
  let v643 : BitVec 1 := Scalar.cmpi .slt v639 c0_i32_547
  let v644 : BitVec 1 := Scalar.xori v642 v643
  let c0_i32_545 : BitVec 32 := 0#32
  let v641 : BitVec 1 := Scalar.cmpi .ne v640 c0_i32_545
  let v645 : BitVec 1 := Scalar.andi v644 v641
  let v646 : BitVec 32 := Scalar.addi v640 v639
  let v647 : BitVec 32 := Scalar.select v645 v646 v640
  let c64_i32_548 : BitVec 32 := 64#32
  let v648 : BitVec 32 := Scalar.muli v647 c64_i32_548
  let v649 : BitVec 32 := Scalar.addi c512_i32_549 v648
  let v656 : Index := Scalar.indexCast v649
  let c0_554 : Index := 0#32
  ![v656.toNat, 0]
def k0_dev21 (d0 : Dev nD) : Nat :=
  let c0_i32_595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_594 : BitVec 32 := 1#32
  let v701 : BitVec 32 := Scalar.muli v81 c1_i32_594
  let v702 : BitVec 32 := Scalar.addi c0_i32_595 v701
  v702.toNat
def k0_dev22 (d0 : Dev nD) : Nat :=
  let c0_i32_626 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_625 : BitVec 32 := 1#32
  let v731 : BitVec 32 := Scalar.muli v97 c1_i32_625
  let v732 : BitVec 32 := Scalar.addi c0_i32_626 v731
  v732.toNat
def k0_dev23 (d0 : Dev nD) : Nat :=
  let c0_i32_655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_654 : BitVec 32 := 1#32
  let v759 : BitVec 32 := Scalar.muli v81 c1_i32_654
  let v760 : BitVec 32 := Scalar.addi c0_i32_655 v759
  v760.toNat
def k0_dev24 (d0 : Dev nD) : Nat :=
  let c0_i32_686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_685 : BitVec 32 := 1#32
  let v789 : BitVec 32 := Scalar.muli v97 c1_i32_685
  let v790 : BitVec 32 := Scalar.addi c0_i32_686 v789
  v790.toNat
def k0_dev25 (d0 : Dev nD) : Nat :=
  let c0_i32_715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_714 : BitVec 32 := 1#32
  let v817 : BitVec 32 := Scalar.muli v81 c1_i32_714
  let v818 : BitVec 32 := Scalar.addi c0_i32_715 v817
  v818.toNat
def k0_dev26 (d0 : Dev nD) : Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_745 : BitVec 32 := 1#32
  let v847 : BitVec 32 := Scalar.muli v97 c1_i32_745
  let v848 : BitVec 32 := Scalar.addi c0_i32_746 v847
  v848.toNat
def k0_dev27 (d0 : Dev nD) : Nat :=
  let c0_i32_775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_774 : BitVec 32 := 1#32
  let v875 : BitVec 32 := Scalar.muli v81 c1_i32_774
  let v876 : BitVec 32 := Scalar.addi c0_i32_775 v875
  v876.toNat
def k0_dev28 (d0 : Dev nD) : Nat :=
  let c0_i32_806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_805 : BitVec 32 := 1#32
  let v905 : BitVec 32 := Scalar.muli v97 c1_i32_805
  let v906 : BitVec 32 := Scalar.addi c0_i32_806 v905
  v906.toNat
def k0_dev29 (d0 : Dev nD) : Nat :=
  let c0_i32_879 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_878 : BitVec 32 := 1#32
  let v1000 : BitVec 32 := Scalar.muli v81 c1_i32_878
  let v1001 : BitVec 32 := Scalar.addi c0_i32_879 v1000
  v1001.toNat
def k0_dev30 (d0 : Dev nD) : Nat :=
  let c0_i32_910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_909 : BitVec 32 := 1#32
  let v1030 : BitVec 32 := Scalar.muli v97 c1_i32_909
  let v1031 : BitVec 32 := Scalar.addi c0_i32_910 v1030
  v1031.toNat
def k0_dev31 (d0 : Dev nD) : Nat :=
  let c0_i32_939 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_938 : BitVec 32 := 1#32
  let v1058 : BitVec 32 := Scalar.muli v81 c1_i32_938
  let v1059 : BitVec 32 := Scalar.addi c0_i32_939 v1058
  v1059.toNat
def k0_dev32 (d0 : Dev nD) : Nat :=
  let c0_i32_970 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_969 : BitVec 32 := 1#32
  let v1088 : BitVec 32 := Scalar.muli v97 c1_i32_969
  let v1089 : BitVec 32 := Scalar.addi c0_i32_970 v1088
  v1089.toNat
def k0_dev33 (d0 : Dev nD) : Nat :=
  let c0_i32_999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_998 : BitVec 32 := 1#32
  let v1116 : BitVec 32 := Scalar.muli v81 c1_i32_998
  let v1117 : BitVec 32 := Scalar.addi c0_i32_999 v1116
  v1117.toNat
def k0_dev34 (d0 : Dev nD) : Nat :=
  let c0_i32_1030 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_1029 : BitVec 32 := 1#32
  let v1146 : BitVec 32 := Scalar.muli v97 c1_i32_1029
  let v1147 : BitVec 32 := Scalar.addi c0_i32_1030 v1146
  v1147.toNat
def k0_dev35 (d0 : Dev nD) : Nat :=
  let c0_i32_1059 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_1058 : BitVec 32 := 1#32
  let v1174 : BitVec 32 := Scalar.muli v81 c1_i32_1058
  let v1175 : BitVec 32 := Scalar.addi c0_i32_1059 v1174
  v1175.toNat
def k0_dev36 (d0 : Dev nD) : Nat :=
  let c0_i32_1090 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_1089 : BitVec 32 := 1#32
  let v1204 : BitVec 32 := Scalar.muli v97 c1_i32_1089
  let v1205 : BitVec 32 := Scalar.addi c0_i32_1090 v1204
  v1205.toNat
def k0_dev37 (d0 : Dev nD) : Nat :=
  let c0_i32_1163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_1162 : BitVec 32 := 1#32
  let v1299 : BitVec 32 := Scalar.muli v81 c1_i32_1162
  let v1300 : BitVec 32 := Scalar.addi c0_i32_1163 v1299
  v1300.toNat
def k0_dev38 (d0 : Dev nD) : Nat :=
  let c0_i32_1194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_1193 : BitVec 32 := 1#32
  let v1329 : BitVec 32 := Scalar.muli v97 c1_i32_1193
  let v1330 : BitVec 32 := Scalar.addi c0_i32_1194 v1329
  v1330.toNat
def k0_dev39 (d0 : Dev nD) : Nat :=
  let c0_i32_1223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_1222 : BitVec 32 := 1#32
  let v1357 : BitVec 32 := Scalar.muli v81 c1_i32_1222
  let v1358 : BitVec 32 := Scalar.addi c0_i32_1223 v1357
  v1358.toNat
def k0_dev40 (d0 : Dev nD) : Nat :=
  let c0_i32_1254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_1253 : BitVec 32 := 1#32
  let v1387 : BitVec 32 := Scalar.muli v97 c1_i32_1253
  let v1388 : BitVec 32 := Scalar.addi c0_i32_1254 v1387
  v1388.toNat
def k0_dev41 (d0 : Dev nD) : Nat :=
  let c0_i32_1283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_1282 : BitVec 32 := 1#32
  let v1415 : BitVec 32 := Scalar.muli v81 c1_i32_1282
  let v1416 : BitVec 32 := Scalar.addi c0_i32_1283 v1415
  v1416.toNat
def k0_dev42 (d0 : Dev nD) : Nat :=
  let c0_i32_1314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_1313 : BitVec 32 := 1#32
  let v1445 : BitVec 32 := Scalar.muli v97 c1_i32_1313
  let v1446 : BitVec 32 := Scalar.addi c0_i32_1314 v1445
  v1446.toNat
def k0_dev43 (d0 : Dev nD) : Nat :=
  let c0_i32_1343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_1342 : BitVec 32 := 1#32
  let v1473 : BitVec 32 := Scalar.muli v81 c1_i32_1342
  let v1474 : BitVec 32 := Scalar.addi c0_i32_1343 v1473
  v1474.toNat
def k0_dev44 (d0 : Dev nD) : Nat :=
  let c0_i32_1374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_1373 : BitVec 32 := 1#32
  let v1503 : BitVec 32 := Scalar.muli v97 c1_i32_1373
  let v1504 : BitVec 32 := Scalar.addi c0_i32_1374 v1503
  v1504.toNat
def k0_dev45 (d0 : Dev nD) : Nat :=
  let c0_i32_1447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_1446 : BitVec 32 := 1#32
  let v1598 : BitVec 32 := Scalar.muli v81 c1_i32_1446
  let v1599 : BitVec 32 := Scalar.addi c0_i32_1447 v1598
  v1599.toNat
def k0_dev46 (d0 : Dev nD) : Nat :=
  let c0_i32_1478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_1477 : BitVec 32 := 1#32
  let v1628 : BitVec 32 := Scalar.muli v97 c1_i32_1477
  let v1629 : BitVec 32 := Scalar.addi c0_i32_1478 v1628
  v1629.toNat
def k0_dev47 (d0 : Dev nD) : Nat :=
  let c0_i32_1507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_1506 : BitVec 32 := 1#32
  let v1656 : BitVec 32 := Scalar.muli v81 c1_i32_1506
  let v1657 : BitVec 32 := Scalar.addi c0_i32_1507 v1656
  v1657.toNat
def k0_dev48 (d0 : Dev nD) : Nat :=
  let c0_i32_1538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_1537 : BitVec 32 := 1#32
  let v1686 : BitVec 32 := Scalar.muli v97 c1_i32_1537
  let v1687 : BitVec 32 := Scalar.addi c0_i32_1538 v1686
  v1687.toNat
def k0_dev49 (d0 : Dev nD) : Nat :=
  let c0_i32_1567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_1566 : BitVec 32 := 1#32
  let v1714 : BitVec 32 := Scalar.muli v81 c1_i32_1566
  let v1715 : BitVec 32 := Scalar.addi c0_i32_1567 v1714
  v1715.toNat
def k0_dev50 (d0 : Dev nD) : Nat :=
  let c0_i32_1598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_1597 : BitVec 32 := 1#32
  let v1744 : BitVec 32 := Scalar.muli v97 c1_i32_1597
  let v1745 : BitVec 32 := Scalar.addi c0_i32_1598 v1744
  v1745.toNat
def k0_dev51 (d0 : Dev nD) : Nat :=
  let c0_i32_1627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_1626 : BitVec 32 := 1#32
  let v1772 : BitVec 32 := Scalar.muli v81 c1_i32_1626
  let v1773 : BitVec 32 := Scalar.addi c0_i32_1627 v1772
  v1773.toNat
def k0_dev52 (d0 : Dev nD) : Nat :=
  let c0_i32_1658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_1657 : BitVec 32 := 1#32
  let v1802 : BitVec 32 := Scalar.muli v97 c1_i32_1657
  let v1803 : BitVec 32 := Scalar.addi c0_i32_1658 v1802
  v1803.toNat
def k0_dev53 (d0 : Dev nD) : Nat :=
  let c0_i32_1731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_1730 : BitVec 32 := 1#32
  let v1897 : BitVec 32 := Scalar.muli v81 c1_i32_1730
  let v1898 : BitVec 32 := Scalar.addi c0_i32_1731 v1897
  v1898.toNat
def k0_dev54 (d0 : Dev nD) : Nat :=
  let c0_i32_1762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_1761 : BitVec 32 := 1#32
  let v1927 : BitVec 32 := Scalar.muli v97 c1_i32_1761
  let v1928 : BitVec 32 := Scalar.addi c0_i32_1762 v1927
  v1928.toNat
def k0_dev55 (d0 : Dev nD) : Nat :=
  let c0_i32_1791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_1790 : BitVec 32 := 1#32
  let v1955 : BitVec 32 := Scalar.muli v81 c1_i32_1790
  let v1956 : BitVec 32 := Scalar.addi c0_i32_1791 v1955
  v1956.toNat
def k0_dev56 (d0 : Dev nD) : Nat :=
  let c0_i32_1822 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_1821 : BitVec 32 := 1#32
  let v1985 : BitVec 32 := Scalar.muli v97 c1_i32_1821
  let v1986 : BitVec 32 := Scalar.addi c0_i32_1822 v1985
  v1986.toNat
def k0_dev57 (d0 : Dev nD) : Nat :=
  let c0_i32_1851 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_1850 : BitVec 32 := 1#32
  let v2013 : BitVec 32 := Scalar.muli v81 c1_i32_1850
  let v2014 : BitVec 32 := Scalar.addi c0_i32_1851 v2013
  v2014.toNat
def k0_dev58 (d0 : Dev nD) : Nat :=
  let c0_i32_1882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_1881 : BitVec 32 := 1#32
  let v2043 : BitVec 32 := Scalar.muli v97 c1_i32_1881
  let v2044 : BitVec 32 := Scalar.addi c0_i32_1882 v2043
  v2044.toNat
def k0_dev59 (d0 : Dev nD) : Nat :=
  let c0_i32_1911 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_1910 : BitVec 32 := 1#32
  let v2071 : BitVec 32 := Scalar.muli v81 c1_i32_1910
  let v2072 : BitVec 32 := Scalar.addi c0_i32_1911 v2071
  v2072.toNat
def k0_dev60 (d0 : Dev nD) : Nat :=
  let c0_i32_1942 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_1941 : BitVec 32 := 1#32
  let v2101 : BitVec 32 := Scalar.muli v97 c1_i32_1941
  let v2102 : BitVec 32 := Scalar.addi c0_i32_1942 v2101
  v2102.toNat
def k0_off19 (d0 : Dev nD) (c0_i32_2147 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_2130 : BitVec 32 := 1#32
  let v2317 : BitVec 32 := Scalar.addi v43 c1_i32_2130
  let c8_i32_2131 : BitVec 32 := 8#32
  let c0_i32_2132 : BitVec 32 := 0#32
  let v2318 : BitVec 1 := Scalar.cmpi .eq c8_i32_2131 c0_i32_2132
  let c1_i32_2133 : BitVec 32 := 1#32
  let v2319 : BitVec 32 := Scalar.select v2318 c1_i32_2133 c8_i32_2131
  let v2320 : BitVec 32 := Scalar.remsi v2317 v2319
  let c0_i32_2135 : BitVec 32 := 0#32
  let v2322 : BitVec 1 := Scalar.cmpi .slt v2320 c0_i32_2135
  let c0_i32_2136 : BitVec 32 := 0#32
  let v2323 : BitVec 1 := Scalar.cmpi .slt v2319 c0_i32_2136
  let v2324 : BitVec 1 := Scalar.xori v2322 v2323
  let c0_i32_2134 : BitVec 32 := 0#32
  let v2321 : BitVec 1 := Scalar.cmpi .ne v2320 c0_i32_2134
  let v2325 : BitVec 1 := Scalar.andi v2324 v2321
  let v2326 : BitVec 32 := Scalar.addi v2320 v2319
  let v2327 : BitVec 32 := Scalar.select v2325 v2326 v2320
  let c64_i32_2144 : BitVec 32 := 64#32
  let v2339 : BitVec 32 := Scalar.muli v2327 c64_i32_2144
  let v2342 : BitVec 32 := Scalar.addi v2339 c0_i32_2147
  let v2343 : Index := Scalar.indexCast v2342
  let c0_2148 : Index := 0#32
  ![v2343.toNat, 0]
def k0_off20 (d0 : Dev nD) (c0_i32_2152 : BitVec 32) : Fin 2 → Nat :=
  let c512_i32_2146 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_2137 : BitVec 32 := 1#32
  let v2328 : BitVec 32 := Scalar.subi v43 c1_i32_2137
  let c8_i32_2138 : BitVec 32 := 8#32
  let c0_i32_2139 : BitVec 32 := 0#32
  let v2329 : BitVec 1 := Scalar.cmpi .eq c8_i32_2138 c0_i32_2139
  let c1_i32_2140 : BitVec 32 := 1#32
  let v2330 : BitVec 32 := Scalar.select v2329 c1_i32_2140 c8_i32_2138
  let v2331 : BitVec 32 := Scalar.remsi v2328 v2330
  let c0_i32_2142 : BitVec 32 := 0#32
  let v2333 : BitVec 1 := Scalar.cmpi .slt v2331 c0_i32_2142
  let c0_i32_2143 : BitVec 32 := 0#32
  let v2334 : BitVec 1 := Scalar.cmpi .slt v2330 c0_i32_2143
  let v2335 : BitVec 1 := Scalar.xori v2333 v2334
  let c0_i32_2141 : BitVec 32 := 0#32
  let v2332 : BitVec 1 := Scalar.cmpi .ne v2331 c0_i32_2141
  let v2336 : BitVec 1 := Scalar.andi v2335 v2332
  let v2337 : BitVec 32 := Scalar.addi v2331 v2330
  let v2338 : BitVec 32 := Scalar.select v2336 v2337 v2331
  let c64_i32_2145 : BitVec 32 := 64#32
  let v2340 : BitVec 32 := Scalar.muli v2338 c64_i32_2145
  let v2341 : BitVec 32 := Scalar.addi c512_i32_2146 v2340
  let v2349 : BitVec 32 := Scalar.addi v2341 c0_i32_2152
  let v2350 : Index := Scalar.indexCast v2349
  let c0_2153 : Index := 0#32
  ![v2350.toNat, 0]
def k0_off21 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_2187 : BitVec 32 := 4#32
  let c0_i32_2188 : BitVec 32 := 0#32
  let v2398 : BitVec 1 := Scalar.cmpi .eq c4_i32_2187 c0_i32_2188
  let c1_i32_2189 : BitVec 32 := 1#32
  let v2399 : BitVec 32 := Scalar.select v2398 c1_i32_2189 c4_i32_2187
  let v2400 : BitVec 32 := Scalar.remsi v19 v2399
  let c0_i32_2191 : BitVec 32 := 0#32
  let v2402 : BitVec 1 := Scalar.cmpi .slt v2400 c0_i32_2191
  let c0_i32_2192 : BitVec 32 := 0#32
  let v2403 : BitVec 1 := Scalar.cmpi .slt v2399 c0_i32_2192
  let v2404 : BitVec 1 := Scalar.xori v2402 v2403
  let c0_i32_2190 : BitVec 32 := 0#32
  let v2401 : BitVec 1 := Scalar.cmpi .ne v2400 c0_i32_2190
  let v2405 : BitVec 1 := Scalar.andi v2404 v2401
  let v2406 : BitVec 32 := Scalar.addi v2400 v2399
  let v2407 : BitVec 32 := Scalar.select v2405 v2406 v2400
  let c0_i32_2208 : BitVec 32 := 0#32
  let c0_i32_2209 : BitVec 32 := 0#32
  ![v2407.toNat, 0, 0]
def k0_dev61 (d0 : Dev nD) : Nat :=
  let c0_i32_2205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_27 : BitVec 32 := 8#32
  let v55 : BitVec 32 := Scalar.addi v2 c8_i32_27
  let c32_i32_28 : BitVec 32 := 32#32
  let c0_i32_29 : BitVec 32 := 0#32
  let v56 : BitVec 1 := Scalar.cmpi .eq c32_i32_28 c0_i32_29
  let c1_i32_30 : BitVec 32 := 1#32
  let v57 : BitVec 32 := Scalar.select v56 c1_i32_30 c32_i32_28
  let v58 : BitVec 32 := Scalar.remsi v55 v57
  let c0_i32_32 : BitVec 32 := 0#32
  let v60 : BitVec 1 := Scalar.cmpi .slt v58 c0_i32_32
  let c0_i32_33 : BitVec 32 := 0#32
  let v61 : BitVec 1 := Scalar.cmpi .slt v57 c0_i32_33
  let v62 : BitVec 1 := Scalar.xori v60 v61
  let c0_i32_31 : BitVec 32 := 0#32
  let v59 : BitVec 1 := Scalar.cmpi .ne v58 c0_i32_31
  let v63 : BitVec 1 := Scalar.andi v62 v59
  let v64 : BitVec 32 := Scalar.addi v58 v57
  let v65 : BitVec 32 := Scalar.select v63 v64 v58
  let c1_i32_2204 : BitVec 32 := 1#32
  let v2418 : BitVec 32 := Scalar.muli v65 c1_i32_2204
  let v2419 : BitVec 32 := Scalar.addi c0_i32_2205 v2418
  v2419.toNat
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_2193 : BitVec 32 := 4#32
  let c0_i32_2194 : BitVec 32 := 0#32
  let v2408 : BitVec 1 := Scalar.cmpi .eq c4_i32_2193 c0_i32_2194
  let c1_i32_2195 : BitVec 32 := 1#32
  let v2409 : BitVec 32 := Scalar.select v2408 c1_i32_2195 c4_i32_2193
  let v2410 : BitVec 32 := Scalar.remsi v19 v2409
  let c0_i32_2197 : BitVec 32 := 0#32
  let v2412 : BitVec 1 := Scalar.cmpi .slt v2410 c0_i32_2197
  let c0_i32_2198 : BitVec 32 := 0#32
  let v2413 : BitVec 1 := Scalar.cmpi .slt v2409 c0_i32_2198
  let v2414 : BitVec 1 := Scalar.xori v2412 v2413
  let c0_i32_2196 : BitVec 32 := 0#32
  let v2411 : BitVec 1 := Scalar.cmpi .ne v2410 c0_i32_2196
  let v2415 : BitVec 1 := Scalar.andi v2414 v2411
  let v2416 : BitVec 32 := Scalar.addi v2410 v2409
  let v2417 : BitVec 32 := Scalar.select v2415 v2416 v2410
  let c16_i32_2219 : BitVec 32 := 16#32
  let c0_i32_2220 : BitVec 32 := 0#32
  ![v2417.toNat, 16, 0]
def k0_dev62 (d0 : Dev nD) : Nat :=
  let c0_i32_2216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_27 : BitVec 32 := 8#32
  let v55 : BitVec 32 := Scalar.addi v2 c8_i32_27
  let c32_i32_28 : BitVec 32 := 32#32
  let c0_i32_29 : BitVec 32 := 0#32
  let v56 : BitVec 1 := Scalar.cmpi .eq c32_i32_28 c0_i32_29
  let c1_i32_30 : BitVec 32 := 1#32
  let v57 : BitVec 32 := Scalar.select v56 c1_i32_30 c32_i32_28
  let v58 : BitVec 32 := Scalar.remsi v55 v57
  let c0_i32_32 : BitVec 32 := 0#32
  let v60 : BitVec 1 := Scalar.cmpi .slt v58 c0_i32_32
  let c0_i32_33 : BitVec 32 := 0#32
  let v61 : BitVec 1 := Scalar.cmpi .slt v57 c0_i32_33
  let v62 : BitVec 1 := Scalar.xori v60 v61
  let c0_i32_31 : BitVec 32 := 0#32
  let v59 : BitVec 1 := Scalar.cmpi .ne v58 c0_i32_31
  let v63 : BitVec 1 := Scalar.andi v62 v59
  let v64 : BitVec 32 := Scalar.addi v58 v57
  let v65 : BitVec 32 := Scalar.select v63 v64 v58
  let c1_i32_2215 : BitVec 32 := 1#32
  let v2428 : BitVec 32 := Scalar.muli v65 c1_i32_2215
  let v2429 : BitVec 32 := Scalar.addi c0_i32_2216 v2428
  v2429.toNat
def k0_off23 (d0 : Dev nD) (c0_i32_2221 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2438 : BitVec 32 := Scalar.subi v19 c0_i32_2221
  let c1_i32_2222 : BitVec 32 := 1#32
  let v2439 : BitVec 32 := Scalar.subi v2438 c1_i32_2222
  let c4_i32_2223 : BitVec 32 := 4#32
  let c0_i32_2224 : BitVec 32 := 0#32
  let v2440 : BitVec 1 := Scalar.cmpi .eq c4_i32_2223 c0_i32_2224
  let c1_i32_2225 : BitVec 32 := 1#32
  let v2441 : BitVec 32 := Scalar.select v2440 c1_i32_2225 c4_i32_2223
  let v2442 : BitVec 32 := Scalar.remsi v2439 v2441
  let c0_i32_2227 : BitVec 32 := 0#32
  let v2444 : BitVec 1 := Scalar.cmpi .slt v2442 c0_i32_2227
  let c0_i32_2228 : BitVec 32 := 0#32
  let v2445 : BitVec 1 := Scalar.cmpi .slt v2441 c0_i32_2228
  let v2446 : BitVec 1 := Scalar.xori v2444 v2445
  let c0_i32_2226 : BitVec 32 := 0#32
  let v2443 : BitVec 1 := Scalar.cmpi .ne v2442 c0_i32_2226
  let v2447 : BitVec 1 := Scalar.andi v2446 v2443
  let v2448 : BitVec 32 := Scalar.addi v2442 v2441
  let v2449 : BitVec 32 := Scalar.select v2447 v2448 v2442
  let v2458 : Index := Scalar.indexCast v2449
  let c0_2240 : Index := 0#32
  let c0_2241 : Index := 0#32
  ![v2458.toNat, 0, 0]
def k0_off24 (d0 : Dev nD) (c0_i32_2221 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2438 : BitVec 32 := Scalar.subi v19 c0_i32_2221
  let c1_i32_2222 : BitVec 32 := 1#32
  let v2439 : BitVec 32 := Scalar.subi v2438 c1_i32_2222
  let c4_i32_2223 : BitVec 32 := 4#32
  let c0_i32_2224 : BitVec 32 := 0#32
  let v2440 : BitVec 1 := Scalar.cmpi .eq c4_i32_2223 c0_i32_2224
  let c1_i32_2225 : BitVec 32 := 1#32
  let v2441 : BitVec 32 := Scalar.select v2440 c1_i32_2225 c4_i32_2223
  let v2442 : BitVec 32 := Scalar.remsi v2439 v2441
  let c0_i32_2227 : BitVec 32 := 0#32
  let v2444 : BitVec 1 := Scalar.cmpi .slt v2442 c0_i32_2227
  let c0_i32_2228 : BitVec 32 := 0#32
  let v2445 : BitVec 1 := Scalar.cmpi .slt v2441 c0_i32_2228
  let v2446 : BitVec 1 := Scalar.xori v2444 v2445
  let c0_i32_2226 : BitVec 32 := 0#32
  let v2443 : BitVec 1 := Scalar.cmpi .ne v2442 c0_i32_2226
  let v2447 : BitVec 1 := Scalar.andi v2446 v2443
  let v2448 : BitVec 32 := Scalar.addi v2442 v2441
  let v2449 : BitVec 32 := Scalar.select v2447 v2448 v2442
  let c0_i32_2256 : BitVec 32 := 0#32
  let c0_i32_2257 : BitVec 32 := 0#32
  ![v2449.toNat, 0, 0]
def k0_dev63 (d0 : Dev nD) : Nat :=
  let c0_i32_2253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_27 : BitVec 32 := 8#32
  let v55 : BitVec 32 := Scalar.addi v2 c8_i32_27
  let c32_i32_28 : BitVec 32 := 32#32
  let c0_i32_29 : BitVec 32 := 0#32
  let v56 : BitVec 1 := Scalar.cmpi .eq c32_i32_28 c0_i32_29
  let c1_i32_30 : BitVec 32 := 1#32
  let v57 : BitVec 32 := Scalar.select v56 c1_i32_30 c32_i32_28
  let v58 : BitVec 32 := Scalar.remsi v55 v57
  let c0_i32_32 : BitVec 32 := 0#32
  let v60 : BitVec 1 := Scalar.cmpi .slt v58 c0_i32_32
  let c0_i32_33 : BitVec 32 := 0#32
  let v61 : BitVec 1 := Scalar.cmpi .slt v57 c0_i32_33
  let v62 : BitVec 1 := Scalar.xori v60 v61
  let c0_i32_31 : BitVec 32 := 0#32
  let v59 : BitVec 1 := Scalar.cmpi .ne v58 c0_i32_31
  let v63 : BitVec 1 := Scalar.andi v62 v59
  let v64 : BitVec 32 := Scalar.addi v58 v57
  let v65 : BitVec 32 := Scalar.select v63 v64 v58
  let c1_i32_2252 : BitVec 32 := 1#32
  let v2468 : BitVec 32 := Scalar.muli v65 c1_i32_2252
  let v2469 : BitVec 32 := Scalar.addi c0_i32_2253 v2468
  v2469.toNat
def k0_off25 (d0 : Dev nD) (c0_i32_2221 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2438 : BitVec 32 := Scalar.subi v19 c0_i32_2221
  let c1_i32_2222 : BitVec 32 := 1#32
  let v2439 : BitVec 32 := Scalar.subi v2438 c1_i32_2222
  let c4_i32_2223 : BitVec 32 := 4#32
  let c0_i32_2224 : BitVec 32 := 0#32
  let v2440 : BitVec 1 := Scalar.cmpi .eq c4_i32_2223 c0_i32_2224
  let c1_i32_2225 : BitVec 32 := 1#32
  let v2441 : BitVec 32 := Scalar.select v2440 c1_i32_2225 c4_i32_2223
  let v2442 : BitVec 32 := Scalar.remsi v2439 v2441
  let c0_i32_2227 : BitVec 32 := 0#32
  let v2444 : BitVec 1 := Scalar.cmpi .slt v2442 c0_i32_2227
  let c0_i32_2228 : BitVec 32 := 0#32
  let v2445 : BitVec 1 := Scalar.cmpi .slt v2441 c0_i32_2228
  let v2446 : BitVec 1 := Scalar.xori v2444 v2445
  let c0_i32_2226 : BitVec 32 := 0#32
  let v2443 : BitVec 1 := Scalar.cmpi .ne v2442 c0_i32_2226
  let v2447 : BitVec 1 := Scalar.andi v2446 v2443
  let v2448 : BitVec 32 := Scalar.addi v2442 v2441
  let v2449 : BitVec 32 := Scalar.select v2447 v2448 v2442
  let v2486 : Index := Scalar.indexCast v2449
  let c16_2269 : Index := 16#32
  let c0_2270 : Index := 0#32
  ![v2486.toNat, 16, 0]
def k0_off26 (d0 : Dev nD) (c0_i32_2221 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2438 : BitVec 32 := Scalar.subi v19 c0_i32_2221
  let c1_i32_2222 : BitVec 32 := 1#32
  let v2439 : BitVec 32 := Scalar.subi v2438 c1_i32_2222
  let c4_i32_2223 : BitVec 32 := 4#32
  let c0_i32_2224 : BitVec 32 := 0#32
  let v2440 : BitVec 1 := Scalar.cmpi .eq c4_i32_2223 c0_i32_2224
  let c1_i32_2225 : BitVec 32 := 1#32
  let v2441 : BitVec 32 := Scalar.select v2440 c1_i32_2225 c4_i32_2223
  let v2442 : BitVec 32 := Scalar.remsi v2439 v2441
  let c0_i32_2227 : BitVec 32 := 0#32
  let v2444 : BitVec 1 := Scalar.cmpi .slt v2442 c0_i32_2227
  let c0_i32_2228 : BitVec 32 := 0#32
  let v2445 : BitVec 1 := Scalar.cmpi .slt v2441 c0_i32_2228
  let v2446 : BitVec 1 := Scalar.xori v2444 v2445
  let c0_i32_2226 : BitVec 32 := 0#32
  let v2443 : BitVec 1 := Scalar.cmpi .ne v2442 c0_i32_2226
  let v2447 : BitVec 1 := Scalar.andi v2446 v2443
  let v2448 : BitVec 32 := Scalar.addi v2442 v2441
  let v2449 : BitVec 32 := Scalar.select v2447 v2448 v2442
  let c16_i32_2285 : BitVec 32 := 16#32
  let c0_i32_2286 : BitVec 32 := 0#32
  ![v2449.toNat, 16, 0]
def k0_dev64 (d0 : Dev nD) : Nat :=
  let c0_i32_2282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_27 : BitVec 32 := 8#32
  let v55 : BitVec 32 := Scalar.addi v2 c8_i32_27
  let c32_i32_28 : BitVec 32 := 32#32
  let c0_i32_29 : BitVec 32 := 0#32
  let v56 : BitVec 1 := Scalar.cmpi .eq c32_i32_28 c0_i32_29
  let c1_i32_30 : BitVec 32 := 1#32
  let v57 : BitVec 32 := Scalar.select v56 c1_i32_30 c32_i32_28
  let v58 : BitVec 32 := Scalar.remsi v55 v57
  let c0_i32_32 : BitVec 32 := 0#32
  let v60 : BitVec 1 := Scalar.cmpi .slt v58 c0_i32_32
  let c0_i32_33 : BitVec 32 := 0#32
  let v61 : BitVec 1 := Scalar.cmpi .slt v57 c0_i32_33
  let v62 : BitVec 1 := Scalar.xori v60 v61
  let c0_i32_31 : BitVec 32 := 0#32
  let v59 : BitVec 1 := Scalar.cmpi .ne v58 c0_i32_31
  let v63 : BitVec 1 := Scalar.andi v62 v59
  let v64 : BitVec 32 := Scalar.addi v58 v57
  let v65 : BitVec 32 := Scalar.select v63 v64 v58
  let c1_i32_2281 : BitVec 32 := 1#32
  let v2496 : BitVec 32 := Scalar.muli v65 c1_i32_2281
  let v2497 : BitVec 32 := Scalar.addi c0_i32_2282 v2496
  v2497.toNat
def k0_dev65 (d0 : Dev nD) : Nat :=
  let c0_i32_2319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_27 : BitVec 32 := 8#32
  let v55 : BitVec 32 := Scalar.addi v2 c8_i32_27
  let c32_i32_28 : BitVec 32 := 32#32
  let c0_i32_29 : BitVec 32 := 0#32
  let v56 : BitVec 1 := Scalar.cmpi .eq c32_i32_28 c0_i32_29
  let c1_i32_30 : BitVec 32 := 1#32
  let v57 : BitVec 32 := Scalar.select v56 c1_i32_30 c32_i32_28
  let v58 : BitVec 32 := Scalar.remsi v55 v57
  let c0_i32_32 : BitVec 32 := 0#32
  let v60 : BitVec 1 := Scalar.cmpi .slt v58 c0_i32_32
  let c0_i32_33 : BitVec 32 := 0#32
  let v61 : BitVec 1 := Scalar.cmpi .slt v57 c0_i32_33
  let v62 : BitVec 1 := Scalar.xori v60 v61
  let c0_i32_31 : BitVec 32 := 0#32
  let v59 : BitVec 1 := Scalar.cmpi .ne v58 c0_i32_31
  let v63 : BitVec 1 := Scalar.andi v62 v59
  let v64 : BitVec 32 := Scalar.addi v58 v57
  let v65 : BitVec 32 := Scalar.select v63 v64 v58
  let c1_i32_2318 : BitVec 32 := 1#32
  let v2536 : BitVec 32 := Scalar.muli v65 c1_i32_2318
  let v2537 : BitVec 32 := Scalar.addi c0_i32_2319 v2536
  v2537.toNat
def k0_dev66 (d0 : Dev nD) : Nat :=
  let c0_i32_2348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_27 : BitVec 32 := 8#32
  let v55 : BitVec 32 := Scalar.addi v2 c8_i32_27
  let c32_i32_28 : BitVec 32 := 32#32
  let c0_i32_29 : BitVec 32 := 0#32
  let v56 : BitVec 1 := Scalar.cmpi .eq c32_i32_28 c0_i32_29
  let c1_i32_30 : BitVec 32 := 1#32
  let v57 : BitVec 32 := Scalar.select v56 c1_i32_30 c32_i32_28
  let v58 : BitVec 32 := Scalar.remsi v55 v57
  let c0_i32_32 : BitVec 32 := 0#32
  let v60 : BitVec 1 := Scalar.cmpi .slt v58 c0_i32_32
  let c0_i32_33 : BitVec 32 := 0#32
  let v61 : BitVec 1 := Scalar.cmpi .slt v57 c0_i32_33
  let v62 : BitVec 1 := Scalar.xori v60 v61
  let c0_i32_31 : BitVec 32 := 0#32
  let v59 : BitVec 1 := Scalar.cmpi .ne v58 c0_i32_31
  let v63 : BitVec 1 := Scalar.andi v62 v59
  let v64 : BitVec 32 := Scalar.addi v58 v57
  let v65 : BitVec 32 := Scalar.select v63 v64 v58
  let c1_i32_2347 : BitVec 32 := 1#32
  let v2564 : BitVec 32 := Scalar.muli v65 c1_i32_2347
  let v2565 : BitVec 32 := Scalar.addi c0_i32_2348 v2564
  v2565.toNat
def k0_off27 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_2397 : BitVec 32 := 1#32
  let v2622 : BitVec 32 := Scalar.addi v19 c1_i32_2397
  let c4_i32_2398 : BitVec 32 := 4#32
  let c0_i32_2399 : BitVec 32 := 0#32
  let v2623 : BitVec 1 := Scalar.cmpi .eq c4_i32_2398 c0_i32_2399
  let c1_i32_2400 : BitVec 32 := 1#32
  let v2624 : BitVec 32 := Scalar.select v2623 c1_i32_2400 c4_i32_2398
  let v2625 : BitVec 32 := Scalar.remsi v2622 v2624
  let c0_i32_2402 : BitVec 32 := 0#32
  let v2627 : BitVec 1 := Scalar.cmpi .slt v2625 c0_i32_2402
  let c0_i32_2403 : BitVec 32 := 0#32
  let v2628 : BitVec 1 := Scalar.cmpi .slt v2624 c0_i32_2403
  let v2629 : BitVec 1 := Scalar.xori v2627 v2628
  let c0_i32_2401 : BitVec 32 := 0#32
  let v2626 : BitVec 1 := Scalar.cmpi .ne v2625 c0_i32_2401
  let v2630 : BitVec 1 := Scalar.andi v2629 v2626
  let v2631 : BitVec 32 := Scalar.addi v2625 v2624
  let v2632 : BitVec 32 := Scalar.select v2630 v2631 v2625
  let v2633 : Index := Scalar.indexCast v2632
  let c0_2404 : Index := 0#32
  let c0_2405 : Index := 0#32
  ![v2633.toNat, 0, 0]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_2397 : BitVec 32 := 1#32
  let v2622 : BitVec 32 := Scalar.addi v19 c1_i32_2397
  let c4_i32_2398 : BitVec 32 := 4#32
  let c0_i32_2399 : BitVec 32 := 0#32
  let v2623 : BitVec 1 := Scalar.cmpi .eq c4_i32_2398 c0_i32_2399
  let c1_i32_2400 : BitVec 32 := 1#32
  let v2624 : BitVec 32 := Scalar.select v2623 c1_i32_2400 c4_i32_2398
  let v2625 : BitVec 32 := Scalar.remsi v2622 v2624
  let c0_i32_2402 : BitVec 32 := 0#32
  let v2627 : BitVec 1 := Scalar.cmpi .slt v2625 c0_i32_2402
  let c0_i32_2403 : BitVec 32 := 0#32
  let v2628 : BitVec 1 := Scalar.cmpi .slt v2624 c0_i32_2403
  let v2629 : BitVec 1 := Scalar.xori v2627 v2628
  let c0_i32_2401 : BitVec 32 := 0#32
  let v2626 : BitVec 1 := Scalar.cmpi .ne v2625 c0_i32_2401
  let v2630 : BitVec 1 := Scalar.andi v2629 v2626
  let v2631 : BitVec 32 := Scalar.addi v2625 v2624
  let v2632 : BitVec 32 := Scalar.select v2630 v2631 v2625
  let c0_i32_2481 : BitVec 32 := 0#32
  let c0_i32_2482 : BitVec 32 := 0#32
  ![v2632.toNat, 0, 0]
def k0_dev67 (d0 : Dev nD) : Nat :=
  let c0_i32_2478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_27 : BitVec 32 := 8#32
  let v55 : BitVec 32 := Scalar.addi v2 c8_i32_27
  let c32_i32_28 : BitVec 32 := 32#32
  let c0_i32_29 : BitVec 32 := 0#32
  let v56 : BitVec 1 := Scalar.cmpi .eq c32_i32_28 c0_i32_29
  let c1_i32_30 : BitVec 32 := 1#32
  let v57 : BitVec 32 := Scalar.select v56 c1_i32_30 c32_i32_28
  let v58 : BitVec 32 := Scalar.remsi v55 v57
  let c0_i32_32 : BitVec 32 := 0#32
  let v60 : BitVec 1 := Scalar.cmpi .slt v58 c0_i32_32
  let c0_i32_33 : BitVec 32 := 0#32
  let v61 : BitVec 1 := Scalar.cmpi .slt v57 c0_i32_33
  let v62 : BitVec 1 := Scalar.xori v60 v61
  let c0_i32_31 : BitVec 32 := 0#32
  let v59 : BitVec 1 := Scalar.cmpi .ne v58 c0_i32_31
  let v63 : BitVec 1 := Scalar.andi v62 v59
  let v64 : BitVec 32 := Scalar.addi v58 v57
  let v65 : BitVec 32 := Scalar.select v63 v64 v58
  let c1_i32_2477 : BitVec 32 := 1#32
  let v2689 : BitVec 32 := Scalar.muli v65 c1_i32_2477
  let v2690 : BitVec 32 := Scalar.addi c0_i32_2478 v2689
  v2690.toNat
def k0_off29 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_2397 : BitVec 32 := 1#32
  let v2622 : BitVec 32 := Scalar.addi v19 c1_i32_2397
  let c4_i32_2398 : BitVec 32 := 4#32
  let c0_i32_2399 : BitVec 32 := 0#32
  let v2623 : BitVec 1 := Scalar.cmpi .eq c4_i32_2398 c0_i32_2399
  let c1_i32_2400 : BitVec 32 := 1#32
  let v2624 : BitVec 32 := Scalar.select v2623 c1_i32_2400 c4_i32_2398
  let v2625 : BitVec 32 := Scalar.remsi v2622 v2624
  let c0_i32_2402 : BitVec 32 := 0#32
  let v2627 : BitVec 1 := Scalar.cmpi .slt v2625 c0_i32_2402
  let c0_i32_2403 : BitVec 32 := 0#32
  let v2628 : BitVec 1 := Scalar.cmpi .slt v2624 c0_i32_2403
  let v2629 : BitVec 1 := Scalar.xori v2627 v2628
  let c0_i32_2401 : BitVec 32 := 0#32
  let v2626 : BitVec 1 := Scalar.cmpi .ne v2625 c0_i32_2401
  let v2630 : BitVec 1 := Scalar.andi v2629 v2626
  let v2631 : BitVec 32 := Scalar.addi v2625 v2624
  let v2632 : BitVec 32 := Scalar.select v2630 v2631 v2625
  let c16_i32_2492 : BitVec 32 := 16#32
  let c0_i32_2493 : BitVec 32 := 0#32
  ![v2632.toNat, 16, 0]
def k0_dev68 (d0 : Dev nD) : Nat :=
  let c0_i32_2489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_27 : BitVec 32 := 8#32
  let v55 : BitVec 32 := Scalar.addi v2 c8_i32_27
  let c32_i32_28 : BitVec 32 := 32#32
  let c0_i32_29 : BitVec 32 := 0#32
  let v56 : BitVec 1 := Scalar.cmpi .eq c32_i32_28 c0_i32_29
  let c1_i32_30 : BitVec 32 := 1#32
  let v57 : BitVec 32 := Scalar.select v56 c1_i32_30 c32_i32_28
  let v58 : BitVec 32 := Scalar.remsi v55 v57
  let c0_i32_32 : BitVec 32 := 0#32
  let v60 : BitVec 1 := Scalar.cmpi .slt v58 c0_i32_32
  let c0_i32_33 : BitVec 32 := 0#32
  let v61 : BitVec 1 := Scalar.cmpi .slt v57 c0_i32_33
  let v62 : BitVec 1 := Scalar.xori v60 v61
  let c0_i32_31 : BitVec 32 := 0#32
  let v59 : BitVec 1 := Scalar.cmpi .ne v58 c0_i32_31
  let v63 : BitVec 1 := Scalar.andi v62 v59
  let v64 : BitVec 32 := Scalar.addi v58 v57
  let v65 : BitVec 32 := Scalar.select v63 v64 v58
  let c1_i32_2488 : BitVec 32 := 1#32
  let v2699 : BitVec 32 := Scalar.muli v65 c1_i32_2488
  let v2700 : BitVec 32 := Scalar.addi c0_i32_2489 v2699
  v2700.toNat
def k0_off30 (d0 : Dev nD) (c0_i32_2494 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2709 : BitVec 32 := Scalar.subi v19 c0_i32_2494
  let c4_i32_2495 : BitVec 32 := 4#32
  let c0_i32_2496 : BitVec 32 := 0#32
  let v2710 : BitVec 1 := Scalar.cmpi .eq c4_i32_2495 c0_i32_2496
  let c1_i32_2497 : BitVec 32 := 1#32
  let v2711 : BitVec 32 := Scalar.select v2710 c1_i32_2497 c4_i32_2495
  let v2712 : BitVec 32 := Scalar.remsi v2709 v2711
  let c0_i32_2499 : BitVec 32 := 0#32
  let v2714 : BitVec 1 := Scalar.cmpi .slt v2712 c0_i32_2499
  let c0_i32_2500 : BitVec 32 := 0#32
  let v2715 : BitVec 1 := Scalar.cmpi .slt v2711 c0_i32_2500
  let v2716 : BitVec 1 := Scalar.xori v2714 v2715
  let c0_i32_2498 : BitVec 32 := 0#32
  let v2713 : BitVec 1 := Scalar.cmpi .ne v2712 c0_i32_2498
  let v2717 : BitVec 1 := Scalar.andi v2716 v2713
  let v2718 : BitVec 32 := Scalar.addi v2712 v2711
  let v2719 : BitVec 32 := Scalar.select v2717 v2718 v2712
  let v2730 : Index := Scalar.indexCast v2719
  let c0_2515 : Index := 0#32
  let c0_2516 : Index := 0#32
  ![v2730.toNat, 0, 0]
def k0_off31 (d0 : Dev nD) (c0_i32_2494 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2709 : BitVec 32 := Scalar.subi v19 c0_i32_2494
  let c4_i32_2495 : BitVec 32 := 4#32
  let c0_i32_2496 : BitVec 32 := 0#32
  let v2710 : BitVec 1 := Scalar.cmpi .eq c4_i32_2495 c0_i32_2496
  let c1_i32_2497 : BitVec 32 := 1#32
  let v2711 : BitVec 32 := Scalar.select v2710 c1_i32_2497 c4_i32_2495
  let v2712 : BitVec 32 := Scalar.remsi v2709 v2711
  let c0_i32_2499 : BitVec 32 := 0#32
  let v2714 : BitVec 1 := Scalar.cmpi .slt v2712 c0_i32_2499
  let c0_i32_2500 : BitVec 32 := 0#32
  let v2715 : BitVec 1 := Scalar.cmpi .slt v2711 c0_i32_2500
  let v2716 : BitVec 1 := Scalar.xori v2714 v2715
  let c0_i32_2498 : BitVec 32 := 0#32
  let v2713 : BitVec 1 := Scalar.cmpi .ne v2712 c0_i32_2498
  let v2717 : BitVec 1 := Scalar.andi v2716 v2713
  let v2718 : BitVec 32 := Scalar.addi v2712 v2711
  let v2719 : BitVec 32 := Scalar.select v2717 v2718 v2712
  let c0_i32_2526 : BitVec 32 := 0#32
  let c0_i32_2527 : BitVec 32 := 0#32
  ![v2719.toNat, 0, 0]
def k0_dev69 (d0 : Dev nD) : Nat :=
  let c0_i32_2523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_27 : BitVec 32 := 8#32
  let v55 : BitVec 32 := Scalar.addi v2 c8_i32_27
  let c32_i32_28 : BitVec 32 := 32#32
  let c0_i32_29 : BitVec 32 := 0#32
  let v56 : BitVec 1 := Scalar.cmpi .eq c32_i32_28 c0_i32_29
  let c1_i32_30 : BitVec 32 := 1#32
  let v57 : BitVec 32 := Scalar.select v56 c1_i32_30 c32_i32_28
  let v58 : BitVec 32 := Scalar.remsi v55 v57
  let c0_i32_32 : BitVec 32 := 0#32
  let v60 : BitVec 1 := Scalar.cmpi .slt v58 c0_i32_32
  let c0_i32_33 : BitVec 32 := 0#32
  let v61 : BitVec 1 := Scalar.cmpi .slt v57 c0_i32_33
  let v62 : BitVec 1 := Scalar.xori v60 v61
  let c0_i32_31 : BitVec 32 := 0#32
  let v59 : BitVec 1 := Scalar.cmpi .ne v58 c0_i32_31
  let v63 : BitVec 1 := Scalar.andi v62 v59
  let v64 : BitVec 32 := Scalar.addi v58 v57
  let v65 : BitVec 32 := Scalar.select v63 v64 v58
  let c1_i32_2522 : BitVec 32 := 1#32
  let v2734 : BitVec 32 := Scalar.muli v65 c1_i32_2522
  let v2735 : BitVec 32 := Scalar.addi c0_i32_2523 v2734
  v2735.toNat
def k0_off32 (d0 : Dev nD) (c0_i32_2494 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2709 : BitVec 32 := Scalar.subi v19 c0_i32_2494
  let c4_i32_2495 : BitVec 32 := 4#32
  let c0_i32_2496 : BitVec 32 := 0#32
  let v2710 : BitVec 1 := Scalar.cmpi .eq c4_i32_2495 c0_i32_2496
  let c1_i32_2497 : BitVec 32 := 1#32
  let v2711 : BitVec 32 := Scalar.select v2710 c1_i32_2497 c4_i32_2495
  let v2712 : BitVec 32 := Scalar.remsi v2709 v2711
  let c0_i32_2499 : BitVec 32 := 0#32
  let v2714 : BitVec 1 := Scalar.cmpi .slt v2712 c0_i32_2499
  let c0_i32_2500 : BitVec 32 := 0#32
  let v2715 : BitVec 1 := Scalar.cmpi .slt v2711 c0_i32_2500
  let v2716 : BitVec 1 := Scalar.xori v2714 v2715
  let c0_i32_2498 : BitVec 32 := 0#32
  let v2713 : BitVec 1 := Scalar.cmpi .ne v2712 c0_i32_2498
  let v2717 : BitVec 1 := Scalar.andi v2716 v2713
  let v2718 : BitVec 32 := Scalar.addi v2712 v2711
  let v2719 : BitVec 32 := Scalar.select v2717 v2718 v2712
  let v2754 : Index := Scalar.indexCast v2719
  let c16_2542 : Index := 16#32
  let c0_2543 : Index := 0#32
  ![v2754.toNat, 16, 0]
def k0_off33 (d0 : Dev nD) (c0_i32_2494 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2709 : BitVec 32 := Scalar.subi v19 c0_i32_2494
  let c4_i32_2495 : BitVec 32 := 4#32
  let c0_i32_2496 : BitVec 32 := 0#32
  let v2710 : BitVec 1 := Scalar.cmpi .eq c4_i32_2495 c0_i32_2496
  let c1_i32_2497 : BitVec 32 := 1#32
  let v2711 : BitVec 32 := Scalar.select v2710 c1_i32_2497 c4_i32_2495
  let v2712 : BitVec 32 := Scalar.remsi v2709 v2711
  let c0_i32_2499 : BitVec 32 := 0#32
  let v2714 : BitVec 1 := Scalar.cmpi .slt v2712 c0_i32_2499
  let c0_i32_2500 : BitVec 32 := 0#32
  let v2715 : BitVec 1 := Scalar.cmpi .slt v2711 c0_i32_2500
  let v2716 : BitVec 1 := Scalar.xori v2714 v2715
  let c0_i32_2498 : BitVec 32 := 0#32
  let v2713 : BitVec 1 := Scalar.cmpi .ne v2712 c0_i32_2498
  let v2717 : BitVec 1 := Scalar.andi v2716 v2713
  let v2718 : BitVec 32 := Scalar.addi v2712 v2711
  let v2719 : BitVec 32 := Scalar.select v2717 v2718 v2712
  let c16_i32_2553 : BitVec 32 := 16#32
  let c0_i32_2554 : BitVec 32 := 0#32
  ![v2719.toNat, 16, 0]
def k0_dev70 (d0 : Dev nD) : Nat :=
  let c0_i32_2550 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_27 : BitVec 32 := 8#32
  let v55 : BitVec 32 := Scalar.addi v2 c8_i32_27
  let c32_i32_28 : BitVec 32 := 32#32
  let c0_i32_29 : BitVec 32 := 0#32
  let v56 : BitVec 1 := Scalar.cmpi .eq c32_i32_28 c0_i32_29
  let c1_i32_30 : BitVec 32 := 1#32
  let v57 : BitVec 32 := Scalar.select v56 c1_i32_30 c32_i32_28
  let v58 : BitVec 32 := Scalar.remsi v55 v57
  let c0_i32_32 : BitVec 32 := 0#32
  let v60 : BitVec 1 := Scalar.cmpi .slt v58 c0_i32_32
  let c0_i32_33 : BitVec 32 := 0#32
  let v61 : BitVec 1 := Scalar.cmpi .slt v57 c0_i32_33
  let v62 : BitVec 1 := Scalar.xori v60 v61
  let c0_i32_31 : BitVec 32 := 0#32
  let v59 : BitVec 1 := Scalar.cmpi .ne v58 c0_i32_31
  let v63 : BitVec 1 := Scalar.andi v62 v59
  let v64 : BitVec 32 := Scalar.addi v58 v57
  let v65 : BitVec 32 := Scalar.select v63 v64 v58
  let c1_i32_2549 : BitVec 32 := 1#32
  let v2758 : BitVec 32 := Scalar.muli v65 c1_i32_2549
  let v2759 : BitVec 32 := Scalar.addi c0_i32_2550 v2758
  v2759.toNat
def k0_dev71 (d0 : Dev nD) : Nat :=
  let c0_i32_2584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_27 : BitVec 32 := 8#32
  let v55 : BitVec 32 := Scalar.addi v2 c8_i32_27
  let c32_i32_28 : BitVec 32 := 32#32
  let c0_i32_29 : BitVec 32 := 0#32
  let v56 : BitVec 1 := Scalar.cmpi .eq c32_i32_28 c0_i32_29
  let c1_i32_30 : BitVec 32 := 1#32
  let v57 : BitVec 32 := Scalar.select v56 c1_i32_30 c32_i32_28
  let v58 : BitVec 32 := Scalar.remsi v55 v57
  let c0_i32_32 : BitVec 32 := 0#32
  let v60 : BitVec 1 := Scalar.cmpi .slt v58 c0_i32_32
  let c0_i32_33 : BitVec 32 := 0#32
  let v61 : BitVec 1 := Scalar.cmpi .slt v57 c0_i32_33
  let v62 : BitVec 1 := Scalar.xori v60 v61
  let c0_i32_31 : BitVec 32 := 0#32
  let v59 : BitVec 1 := Scalar.cmpi .ne v58 c0_i32_31
  let v63 : BitVec 1 := Scalar.andi v62 v59
  let v64 : BitVec 32 := Scalar.addi v58 v57
  let v65 : BitVec 32 := Scalar.select v63 v64 v58
  let c1_i32_2583 : BitVec 32 := 1#32
  let v2793 : BitVec 32 := Scalar.muli v65 c1_i32_2583
  let v2794 : BitVec 32 := Scalar.addi c0_i32_2584 v2793
  v2794.toNat
def k0_dev72 (d0 : Dev nD) : Nat :=
  let c0_i32_2611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_27 : BitVec 32 := 8#32
  let v55 : BitVec 32 := Scalar.addi v2 c8_i32_27
  let c32_i32_28 : BitVec 32 := 32#32
  let c0_i32_29 : BitVec 32 := 0#32
  let v56 : BitVec 1 := Scalar.cmpi .eq c32_i32_28 c0_i32_29
  let c1_i32_30 : BitVec 32 := 1#32
  let v57 : BitVec 32 := Scalar.select v56 c1_i32_30 c32_i32_28
  let v58 : BitVec 32 := Scalar.remsi v55 v57
  let c0_i32_32 : BitVec 32 := 0#32
  let v60 : BitVec 1 := Scalar.cmpi .slt v58 c0_i32_32
  let c0_i32_33 : BitVec 32 := 0#32
  let v61 : BitVec 1 := Scalar.cmpi .slt v57 c0_i32_33
  let v62 : BitVec 1 := Scalar.xori v60 v61
  let c0_i32_31 : BitVec 32 := 0#32
  let v59 : BitVec 1 := Scalar.cmpi .ne v58 c0_i32_31
  let v63 : BitVec 1 := Scalar.andi v62 v59
  let v64 : BitVec 32 := Scalar.addi v58 v57
  let v65 : BitVec 32 := Scalar.select v63 v64 v58
  let c1_i32_2610 : BitVec 32 := 1#32
  let v2817 : BitVec 32 := Scalar.muli v65 c1_i32_2610
  let v2818 : BitVec 32 := Scalar.addi c0_i32_2611 v2817
  v2818.toNat
def k0_off34 (d0 : Dev nD) (c0_i32_3200 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_2130 : BitVec 32 := 1#32
  let v2317 : BitVec 32 := Scalar.addi v43 c1_i32_2130
  let c8_i32_2131 : BitVec 32 := 8#32
  let c0_i32_2132 : BitVec 32 := 0#32
  let v2318 : BitVec 1 := Scalar.cmpi .eq c8_i32_2131 c0_i32_2132
  let c1_i32_2133 : BitVec 32 := 1#32
  let v2319 : BitVec 32 := Scalar.select v2318 c1_i32_2133 c8_i32_2131
  let v2320 : BitVec 32 := Scalar.remsi v2317 v2319
  let c0_i32_2135 : BitVec 32 := 0#32
  let v2322 : BitVec 1 := Scalar.cmpi .slt v2320 c0_i32_2135
  let c0_i32_2136 : BitVec 32 := 0#32
  let v2323 : BitVec 1 := Scalar.cmpi .slt v2319 c0_i32_2136
  let v2324 : BitVec 1 := Scalar.xori v2322 v2323
  let c0_i32_2134 : BitVec 32 := 0#32
  let v2321 : BitVec 1 := Scalar.cmpi .ne v2320 c0_i32_2134
  let v2325 : BitVec 1 := Scalar.andi v2324 v2321
  let v2326 : BitVec 32 := Scalar.addi v2320 v2319
  let v2327 : BitVec 32 := Scalar.select v2325 v2326 v2320
  let c64_i32_3199 : BitVec 32 := 64#32
  let v3186 : BitVec 32 := Scalar.muli v2327 c64_i32_3199
  let v3187 : BitVec 32 := Scalar.addi v3186 c0_i32_3200
  let c0_i32_3228 : BitVec 32 := 0#32
  ![v3187.toNat, 0]
def k0_dev73 (d0 : Dev nD) : Nat :=
  let c0_i32_3225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_3224 : BitVec 32 := 1#32
  let v3206 : BitVec 32 := Scalar.muli v81 c1_i32_3224
  let v3207 : BitVec 32 := Scalar.addi c0_i32_3225 v3206
  v3207.toNat
def k0_off35 (d0 : Dev nD) (c0_i32_3203 : BitVec 32) : Fin 2 → Nat :=
  let c512_i32_3202 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_2137 : BitVec 32 := 1#32
  let v2328 : BitVec 32 := Scalar.subi v43 c1_i32_2137
  let c8_i32_2138 : BitVec 32 := 8#32
  let c0_i32_2139 : BitVec 32 := 0#32
  let v2329 : BitVec 1 := Scalar.cmpi .eq c8_i32_2138 c0_i32_2139
  let c1_i32_2140 : BitVec 32 := 1#32
  let v2330 : BitVec 32 := Scalar.select v2329 c1_i32_2140 c8_i32_2138
  let v2331 : BitVec 32 := Scalar.remsi v2328 v2330
  let c0_i32_2142 : BitVec 32 := 0#32
  let v2333 : BitVec 1 := Scalar.cmpi .slt v2331 c0_i32_2142
  let c0_i32_2143 : BitVec 32 := 0#32
  let v2334 : BitVec 1 := Scalar.cmpi .slt v2330 c0_i32_2143
  let v2335 : BitVec 1 := Scalar.xori v2333 v2334
  let c0_i32_2141 : BitVec 32 := 0#32
  let v2332 : BitVec 1 := Scalar.cmpi .ne v2331 c0_i32_2141
  let v2336 : BitVec 1 := Scalar.andi v2335 v2332
  let v2337 : BitVec 32 := Scalar.addi v2331 v2330
  let v2338 : BitVec 32 := Scalar.select v2336 v2337 v2331
  let c64_i32_3201 : BitVec 32 := 64#32
  let v3188 : BitVec 32 := Scalar.muli v2338 c64_i32_3201
  let v3189 : BitVec 32 := Scalar.addi c512_i32_3202 v3188
  let v3190 : BitVec 32 := Scalar.addi v3189 c0_i32_3203
  let c0_i32_3238 : BitVec 32 := 0#32
  ![v3190.toNat, 0]
def k0_dev74 (d0 : Dev nD) : Nat :=
  let c0_i32_3235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_3234 : BitVec 32 := 1#32
  let v3215 : BitVec 32 := Scalar.muli v97 c1_i32_3234
  let v3216 : BitVec 32 := Scalar.addi c0_i32_3235 v3215
  v3216.toNat
def k0_dev75 (d0 : Dev nD) : Nat :=
  let c0_i32_3245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_3244 : BitVec 32 := 1#32
  let v3224 : BitVec 32 := Scalar.muli v81 c1_i32_3244
  let v3225 : BitVec 32 := Scalar.addi c0_i32_3245 v3224
  v3225.toNat
def k0_dev76 (d0 : Dev nD) : Nat :=
  let c0_i32_3255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_3254 : BitVec 32 := 1#32
  let v3233 : BitVec 32 := Scalar.muli v97 c1_i32_3254
  let v3234 : BitVec 32 := Scalar.addi c0_i32_3255 v3233
  v3234.toNat
def k0_dev77 (d0 : Dev nD) : Nat :=
  let c0_i32_3265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_3264 : BitVec 32 := 1#32
  let v3242 : BitVec 32 := Scalar.muli v81 c1_i32_3264
  let v3243 : BitVec 32 := Scalar.addi c0_i32_3265 v3242
  v3243.toNat
def k0_dev78 (d0 : Dev nD) : Nat :=
  let c0_i32_3275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_3274 : BitVec 32 := 1#32
  let v3251 : BitVec 32 := Scalar.muli v97 c1_i32_3274
  let v3252 : BitVec 32 := Scalar.addi c0_i32_3275 v3251
  v3252.toNat
def k0_dev79 (d0 : Dev nD) : Nat :=
  let c0_i32_3285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_3284 : BitVec 32 := 1#32
  let v3260 : BitVec 32 := Scalar.muli v81 c1_i32_3284
  let v3261 : BitVec 32 := Scalar.addi c0_i32_3285 v3260
  v3261.toNat
def k0_dev80 (d0 : Dev nD) : Nat :=
  let c0_i32_3295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_3294 : BitVec 32 := 1#32
  let v3269 : BitVec 32 := Scalar.muli v97 c1_i32_3294
  let v3270 : BitVec 32 := Scalar.addi c0_i32_3295 v3269
  v3270.toNat
def k0_off36 (d0 : Dev nD) (c0_i32_3299 : BitVec 32) (c0_i32_3326 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v3278 : BitVec 32 := Scalar.subi v43 c0_i32_3299
  let c8_i32_3300 : BitVec 32 := 8#32
  let c0_i32_3301 : BitVec 32 := 0#32
  let v3279 : BitVec 1 := Scalar.cmpi .eq c8_i32_3300 c0_i32_3301
  let c1_i32_3302 : BitVec 32 := 1#32
  let v3280 : BitVec 32 := Scalar.select v3279 c1_i32_3302 c8_i32_3300
  let v3281 : BitVec 32 := Scalar.remsi v3278 v3280
  let c0_i32_3304 : BitVec 32 := 0#32
  let v3283 : BitVec 1 := Scalar.cmpi .slt v3281 c0_i32_3304
  let c0_i32_3305 : BitVec 32 := 0#32
  let v3284 : BitVec 1 := Scalar.cmpi .slt v3280 c0_i32_3305
  let v3285 : BitVec 1 := Scalar.xori v3283 v3284
  let c0_i32_3303 : BitVec 32 := 0#32
  let v3282 : BitVec 1 := Scalar.cmpi .ne v3281 c0_i32_3303
  let v3286 : BitVec 1 := Scalar.andi v3285 v3282
  let v3287 : BitVec 32 := Scalar.addi v3281 v3280
  let v3288 : BitVec 32 := Scalar.select v3286 v3287 v3281
  let c64_i32_3325 : BitVec 32 := 64#32
  let v3309 : BitVec 32 := Scalar.muli v3288 c64_i32_3325
  let v3310 : BitVec 32 := Scalar.addi v3309 c0_i32_3326
  let v3311 : Index := Scalar.indexCast v3310
  let c0_3327 : Index := 0#32
  ![v3311.toNat, 0]
def k0_off37 (d0 : Dev nD) (c0_i32_3299 : BitVec 32) (c0_i32_3329 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v3278 : BitVec 32 := Scalar.subi v43 c0_i32_3299
  let c8_i32_3300 : BitVec 32 := 8#32
  let c0_i32_3301 : BitVec 32 := 0#32
  let v3279 : BitVec 1 := Scalar.cmpi .eq c8_i32_3300 c0_i32_3301
  let c1_i32_3302 : BitVec 32 := 1#32
  let v3280 : BitVec 32 := Scalar.select v3279 c1_i32_3302 c8_i32_3300
  let v3281 : BitVec 32 := Scalar.remsi v3278 v3280
  let c0_i32_3304 : BitVec 32 := 0#32
  let v3283 : BitVec 1 := Scalar.cmpi .slt v3281 c0_i32_3304
  let c0_i32_3305 : BitVec 32 := 0#32
  let v3284 : BitVec 1 := Scalar.cmpi .slt v3280 c0_i32_3305
  let v3285 : BitVec 1 := Scalar.xori v3283 v3284
  let c0_i32_3303 : BitVec 32 := 0#32
  let v3282 : BitVec 1 := Scalar.cmpi .ne v3281 c0_i32_3303
  let v3286 : BitVec 1 := Scalar.andi v3285 v3282
  let v3287 : BitVec 32 := Scalar.addi v3281 v3280
  let v3288 : BitVec 32 := Scalar.select v3286 v3287 v3281
  let c64_i32_3328 : BitVec 32 := 64#32
  let v3313 : BitVec 32 := Scalar.muli v3288 c64_i32_3328
  let v3314 : BitVec 32 := Scalar.addi v3313 c0_i32_3329
  let c0_i32_3339 : BitVec 32 := 0#32
  ![v3314.toNat, 0]
def k0_dev81 (d0 : Dev nD) : Nat :=
  let c0_i32_3336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_3335 : BitVec 32 := 1#32
  let v3315 : BitVec 32 := Scalar.muli v81 c1_i32_3335
  let v3316 : BitVec 32 := Scalar.addi c0_i32_3336 v3315
  v3316.toNat
def k0_off38 (d0 : Dev nD) (c0_i32_3306 : BitVec 32) (c0_i32_3355 : BitVec 32) : Fin 2 → Nat :=
  let c512_i32_3354 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v3289 : BitVec 32 := Scalar.addi v43 c0_i32_3306
  let c8_i32_3307 : BitVec 32 := 8#32
  let c0_i32_3308 : BitVec 32 := 0#32
  let v3290 : BitVec 1 := Scalar.cmpi .eq c8_i32_3307 c0_i32_3308
  let c1_i32_3309 : BitVec 32 := 1#32
  let v3291 : BitVec 32 := Scalar.select v3290 c1_i32_3309 c8_i32_3307
  let v3292 : BitVec 32 := Scalar.remsi v3289 v3291
  let c0_i32_3311 : BitVec 32 := 0#32
  let v3294 : BitVec 1 := Scalar.cmpi .slt v3292 c0_i32_3311
  let c0_i32_3312 : BitVec 32 := 0#32
  let v3295 : BitVec 1 := Scalar.cmpi .slt v3291 c0_i32_3312
  let v3296 : BitVec 1 := Scalar.xori v3294 v3295
  let c0_i32_3310 : BitVec 32 := 0#32
  let v3293 : BitVec 1 := Scalar.cmpi .ne v3292 c0_i32_3310
  let v3297 : BitVec 1 := Scalar.andi v3296 v3293
  let v3298 : BitVec 32 := Scalar.addi v3292 v3291
  let v3299 : BitVec 32 := Scalar.select v3297 v3298 v3292
  let c64_i32_3353 : BitVec 32 := 64#32
  let v3333 : BitVec 32 := Scalar.muli v3299 c64_i32_3353
  let v3334 : BitVec 32 := Scalar.addi c512_i32_3354 v3333
  let v3335 : BitVec 32 := Scalar.addi v3334 c0_i32_3355
  let v3336 : Index := Scalar.indexCast v3335
  let c0_3356 : Index := 0#32
  ![v3336.toNat, 0]
def k0_off39 (d0 : Dev nD) (c0_i32_3306 : BitVec 32) (c0_i32_3359 : BitVec 32) : Fin 2 → Nat :=
  let c512_i32_3358 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v3289 : BitVec 32 := Scalar.addi v43 c0_i32_3306
  let c8_i32_3307 : BitVec 32 := 8#32
  let c0_i32_3308 : BitVec 32 := 0#32
  let v3290 : BitVec 1 := Scalar.cmpi .eq c8_i32_3307 c0_i32_3308
  let c1_i32_3309 : BitVec 32 := 1#32
  let v3291 : BitVec 32 := Scalar.select v3290 c1_i32_3309 c8_i32_3307
  let v3292 : BitVec 32 := Scalar.remsi v3289 v3291
  let c0_i32_3311 : BitVec 32 := 0#32
  let v3294 : BitVec 1 := Scalar.cmpi .slt v3292 c0_i32_3311
  let c0_i32_3312 : BitVec 32 := 0#32
  let v3295 : BitVec 1 := Scalar.cmpi .slt v3291 c0_i32_3312
  let v3296 : BitVec 1 := Scalar.xori v3294 v3295
  let c0_i32_3310 : BitVec 32 := 0#32
  let v3293 : BitVec 1 := Scalar.cmpi .ne v3292 c0_i32_3310
  let v3297 : BitVec 1 := Scalar.andi v3296 v3293
  let v3298 : BitVec 32 := Scalar.addi v3292 v3291
  let v3299 : BitVec 32 := Scalar.select v3297 v3298 v3292
  let c64_i32_3357 : BitVec 32 := 64#32
  let v3338 : BitVec 32 := Scalar.muli v3299 c64_i32_3357
  let v3339 : BitVec 32 := Scalar.addi c512_i32_3358 v3338
  let v3340 : BitVec 32 := Scalar.addi v3339 c0_i32_3359
  let c0_i32_3369 : BitVec 32 := 0#32
  ![v3340.toNat, 0]
def k0_dev82 (d0 : Dev nD) : Nat :=
  let c0_i32_3366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_3365 : BitVec 32 := 1#32
  let v3341 : BitVec 32 := Scalar.muli v97 c1_i32_3365
  let v3342 : BitVec 32 := Scalar.addi c0_i32_3366 v3341
  v3342.toNat
def k0_dev83 (d0 : Dev nD) : Nat :=
  let c0_i32_3394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_3393 : BitVec 32 := 1#32
  let v3365 : BitVec 32 := Scalar.muli v81 c1_i32_3393
  let v3366 : BitVec 32 := Scalar.addi c0_i32_3394 v3365
  v3366.toNat
def k0_dev84 (d0 : Dev nD) : Nat :=
  let c0_i32_3424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_3423 : BitVec 32 := 1#32
  let v3391 : BitVec 32 := Scalar.muli v97 c1_i32_3423
  let v3392 : BitVec 32 := Scalar.addi c0_i32_3424 v3391
  v3392.toNat
def k0_dev85 (d0 : Dev nD) : Nat :=
  let c0_i32_3452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_3451 : BitVec 32 := 1#32
  let v3415 : BitVec 32 := Scalar.muli v81 c1_i32_3451
  let v3416 : BitVec 32 := Scalar.addi c0_i32_3452 v3415
  v3416.toNat
def k0_dev86 (d0 : Dev nD) : Nat :=
  let c0_i32_3482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_3481 : BitVec 32 := 1#32
  let v3441 : BitVec 32 := Scalar.muli v97 c1_i32_3481
  let v3442 : BitVec 32 := Scalar.addi c0_i32_3482 v3441
  v3442.toNat
def k0_dev87 (d0 : Dev nD) : Nat :=
  let c0_i32_3510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_3509 : BitVec 32 := 1#32
  let v3465 : BitVec 32 := Scalar.muli v81 c1_i32_3509
  let v3466 : BitVec 32 := Scalar.addi c0_i32_3510 v3465
  v3466.toNat
def k0_dev88 (d0 : Dev nD) : Nat :=
  let c0_i32_3540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_3539 : BitVec 32 := 1#32
  let v3491 : BitVec 32 := Scalar.muli v97 c1_i32_3539
  let v3492 : BitVec 32 := Scalar.addi c0_i32_3540 v3491
  v3492.toNat
def k0_dev89 (d0 : Dev nD) : Nat :=
  let c0_i32_3580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_3579 : BitVec 32 := 1#32
  let v3537 : BitVec 32 := Scalar.muli v81 c1_i32_3579
  let v3538 : BitVec 32 := Scalar.addi c0_i32_3580 v3537
  v3538.toNat
def k0_dev90 (d0 : Dev nD) : Nat :=
  let c0_i32_3610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_3609 : BitVec 32 := 1#32
  let v3563 : BitVec 32 := Scalar.muli v97 c1_i32_3609
  let v3564 : BitVec 32 := Scalar.addi c0_i32_3610 v3563
  v3564.toNat
def k0_dev91 (d0 : Dev nD) : Nat :=
  let c0_i32_3638 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_3637 : BitVec 32 := 1#32
  let v3587 : BitVec 32 := Scalar.muli v81 c1_i32_3637
  let v3588 : BitVec 32 := Scalar.addi c0_i32_3638 v3587
  v3588.toNat
def k0_dev92 (d0 : Dev nD) : Nat :=
  let c0_i32_3668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_3667 : BitVec 32 := 1#32
  let v3613 : BitVec 32 := Scalar.muli v97 c1_i32_3667
  let v3614 : BitVec 32 := Scalar.addi c0_i32_3668 v3613
  v3614.toNat
def k0_dev93 (d0 : Dev nD) : Nat :=
  let c0_i32_3696 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_3695 : BitVec 32 := 1#32
  let v3637 : BitVec 32 := Scalar.muli v81 c1_i32_3695
  let v3638 : BitVec 32 := Scalar.addi c0_i32_3696 v3637
  v3638.toNat
def k0_dev94 (d0 : Dev nD) : Nat :=
  let c0_i32_3726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_3725 : BitVec 32 := 1#32
  let v3663 : BitVec 32 := Scalar.muli v97 c1_i32_3725
  let v3664 : BitVec 32 := Scalar.addi c0_i32_3726 v3663
  v3664.toNat
def k0_dev95 (d0 : Dev nD) : Nat :=
  let c0_i32_3754 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_3753 : BitVec 32 := 1#32
  let v3687 : BitVec 32 := Scalar.muli v81 c1_i32_3753
  let v3688 : BitVec 32 := Scalar.addi c0_i32_3754 v3687
  v3688.toNat
def k0_dev96 (d0 : Dev nD) : Nat :=
  let c0_i32_3784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_3783 : BitVec 32 := 1#32
  let v3713 : BitVec 32 := Scalar.muli v97 c1_i32_3783
  let v3714 : BitVec 32 := Scalar.addi c0_i32_3784 v3713
  v3714.toNat
def k0_dev97 (d0 : Dev nD) : Nat :=
  let c0_i32_3824 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_3823 : BitVec 32 := 1#32
  let v3759 : BitVec 32 := Scalar.muli v81 c1_i32_3823
  let v3760 : BitVec 32 := Scalar.addi c0_i32_3824 v3759
  v3760.toNat
def k0_dev98 (d0 : Dev nD) : Nat :=
  let c0_i32_3854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_3853 : BitVec 32 := 1#32
  let v3785 : BitVec 32 := Scalar.muli v97 c1_i32_3853
  let v3786 : BitVec 32 := Scalar.addi c0_i32_3854 v3785
  v3786.toNat
def k0_dev99 (d0 : Dev nD) : Nat :=
  let c0_i32_3882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_3881 : BitVec 32 := 1#32
  let v3809 : BitVec 32 := Scalar.muli v81 c1_i32_3881
  let v3810 : BitVec 32 := Scalar.addi c0_i32_3882 v3809
  v3810.toNat
def k0_dev100 (d0 : Dev nD) : Nat :=
  let c0_i32_3912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_3911 : BitVec 32 := 1#32
  let v3835 : BitVec 32 := Scalar.muli v97 c1_i32_3911
  let v3836 : BitVec 32 := Scalar.addi c0_i32_3912 v3835
  v3836.toNat
def k0_dev101 (d0 : Dev nD) : Nat :=
  let c0_i32_3940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_3939 : BitVec 32 := 1#32
  let v3859 : BitVec 32 := Scalar.muli v81 c1_i32_3939
  let v3860 : BitVec 32 := Scalar.addi c0_i32_3940 v3859
  v3860.toNat
def k0_dev102 (d0 : Dev nD) : Nat :=
  let c0_i32_3970 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_3969 : BitVec 32 := 1#32
  let v3885 : BitVec 32 := Scalar.muli v97 c1_i32_3969
  let v3886 : BitVec 32 := Scalar.addi c0_i32_3970 v3885
  v3886.toNat
def k0_dev103 (d0 : Dev nD) : Nat :=
  let c0_i32_3998 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_3997 : BitVec 32 := 1#32
  let v3909 : BitVec 32 := Scalar.muli v81 c1_i32_3997
  let v3910 : BitVec 32 := Scalar.addi c0_i32_3998 v3909
  v3910.toNat
def k0_dev104 (d0 : Dev nD) : Nat :=
  let c0_i32_4028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_4027 : BitVec 32 := 1#32
  let v3935 : BitVec 32 := Scalar.muli v97 c1_i32_4027
  let v3936 : BitVec 32 := Scalar.addi c0_i32_4028 v3935
  v3936.toNat
def k0_dev105 (d0 : Dev nD) : Nat :=
  let c0_i32_4068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_4067 : BitVec 32 := 1#32
  let v3981 : BitVec 32 := Scalar.muli v81 c1_i32_4067
  let v3982 : BitVec 32 := Scalar.addi c0_i32_4068 v3981
  v3982.toNat
def k0_dev106 (d0 : Dev nD) : Nat :=
  let c0_i32_4098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_4097 : BitVec 32 := 1#32
  let v4007 : BitVec 32 := Scalar.muli v97 c1_i32_4097
  let v4008 : BitVec 32 := Scalar.addi c0_i32_4098 v4007
  v4008.toNat
def k0_dev107 (d0 : Dev nD) : Nat :=
  let c0_i32_4126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_4125 : BitVec 32 := 1#32
  let v4031 : BitVec 32 := Scalar.muli v81 c1_i32_4125
  let v4032 : BitVec 32 := Scalar.addi c0_i32_4126 v4031
  v4032.toNat
def k0_dev108 (d0 : Dev nD) : Nat :=
  let c0_i32_4156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_4155 : BitVec 32 := 1#32
  let v4057 : BitVec 32 := Scalar.muli v97 c1_i32_4155
  let v4058 : BitVec 32 := Scalar.addi c0_i32_4156 v4057
  v4058.toNat
def k0_dev109 (d0 : Dev nD) : Nat :=
  let c0_i32_4184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_4183 : BitVec 32 := 1#32
  let v4081 : BitVec 32 := Scalar.muli v81 c1_i32_4183
  let v4082 : BitVec 32 := Scalar.addi c0_i32_4184 v4081
  v4082.toNat
def k0_dev110 (d0 : Dev nD) : Nat :=
  let c0_i32_4214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_4213 : BitVec 32 := 1#32
  let v4107 : BitVec 32 := Scalar.muli v97 c1_i32_4213
  let v4108 : BitVec 32 := Scalar.addi c0_i32_4214 v4107
  v4108.toNat
def k0_dev111 (d0 : Dev nD) : Nat :=
  let c0_i32_4242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_4241 : BitVec 32 := 1#32
  let v4131 : BitVec 32 := Scalar.muli v81 c1_i32_4241
  let v4132 : BitVec 32 := Scalar.addi c0_i32_4242 v4131
  v4132.toNat
def k0_dev112 (d0 : Dev nD) : Nat :=
  let c0_i32_4272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_4271 : BitVec 32 := 1#32
  let v4157 : BitVec 32 := Scalar.muli v97 c1_i32_4271
  let v4158 : BitVec 32 := Scalar.addi c0_i32_4272 v4157
  v4158.toNat
def k0_dev113 (d0 : Dev nD) : Nat :=
  let c0_i32_4312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_4311 : BitVec 32 := 1#32
  let v4203 : BitVec 32 := Scalar.muli v81 c1_i32_4311
  let v4204 : BitVec 32 := Scalar.addi c0_i32_4312 v4203
  v4204.toNat
def k0_dev114 (d0 : Dev nD) : Nat :=
  let c0_i32_4342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_4341 : BitVec 32 := 1#32
  let v4229 : BitVec 32 := Scalar.muli v97 c1_i32_4341
  let v4230 : BitVec 32 := Scalar.addi c0_i32_4342 v4229
  v4230.toNat
def k0_dev115 (d0 : Dev nD) : Nat :=
  let c0_i32_4370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_4369 : BitVec 32 := 1#32
  let v4253 : BitVec 32 := Scalar.muli v81 c1_i32_4369
  let v4254 : BitVec 32 := Scalar.addi c0_i32_4370 v4253
  v4254.toNat
def k0_dev116 (d0 : Dev nD) : Nat :=
  let c0_i32_4400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_4399 : BitVec 32 := 1#32
  let v4279 : BitVec 32 := Scalar.muli v97 c1_i32_4399
  let v4280 : BitVec 32 := Scalar.addi c0_i32_4400 v4279
  v4280.toNat
def k0_dev117 (d0 : Dev nD) : Nat :=
  let c0_i32_4428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_4427 : BitVec 32 := 1#32
  let v4303 : BitVec 32 := Scalar.muli v81 c1_i32_4427
  let v4304 : BitVec 32 := Scalar.addi c0_i32_4428 v4303
  v4304.toNat
def k0_dev118 (d0 : Dev nD) : Nat :=
  let c0_i32_4458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_4457 : BitVec 32 := 1#32
  let v4329 : BitVec 32 := Scalar.muli v97 c1_i32_4457
  let v4330 : BitVec 32 := Scalar.addi c0_i32_4458 v4329
  v4330.toNat
def k0_dev119 (d0 : Dev nD) : Nat :=
  let c0_i32_4486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_4485 : BitVec 32 := 1#32
  let v4353 : BitVec 32 := Scalar.muli v81 c1_i32_4485
  let v4354 : BitVec 32 := Scalar.addi c0_i32_4486 v4353
  v4354.toNat
def k0_dev120 (d0 : Dev nD) : Nat :=
  let c0_i32_4516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_4515 : BitVec 32 := 1#32
  let v4379 : BitVec 32 := Scalar.muli v97 c1_i32_4515
  let v4380 : BitVec 32 := Scalar.addi c0_i32_4516 v4379
  v4380.toNat
def k0_dev121 (d0 : Dev nD) : Nat :=
  let c0_i32_4556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_4555 : BitVec 32 := 1#32
  let v4425 : BitVec 32 := Scalar.muli v81 c1_i32_4555
  let v4426 : BitVec 32 := Scalar.addi c0_i32_4556 v4425
  v4426.toNat
def k0_dev122 (d0 : Dev nD) : Nat :=
  let c0_i32_4586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_4585 : BitVec 32 := 1#32
  let v4451 : BitVec 32 := Scalar.muli v97 c1_i32_4585
  let v4452 : BitVec 32 := Scalar.addi c0_i32_4586 v4451
  v4452.toNat
def k0_dev123 (d0 : Dev nD) : Nat :=
  let c0_i32_4614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_4613 : BitVec 32 := 1#32
  let v4475 : BitVec 32 := Scalar.muli v81 c1_i32_4613
  let v4476 : BitVec 32 := Scalar.addi c0_i32_4614 v4475
  v4476.toNat
def k0_dev124 (d0 : Dev nD) : Nat :=
  let c0_i32_4644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_4643 : BitVec 32 := 1#32
  let v4501 : BitVec 32 := Scalar.muli v97 c1_i32_4643
  let v4502 : BitVec 32 := Scalar.addi c0_i32_4644 v4501
  v4502.toNat
def k0_dev125 (d0 : Dev nD) : Nat :=
  let c0_i32_4672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_4671 : BitVec 32 := 1#32
  let v4525 : BitVec 32 := Scalar.muli v81 c1_i32_4671
  let v4526 : BitVec 32 := Scalar.addi c0_i32_4672 v4525
  v4526.toNat
def k0_dev126 (d0 : Dev nD) : Nat :=
  let c0_i32_4702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_4701 : BitVec 32 := 1#32
  let v4551 : BitVec 32 := Scalar.muli v97 c1_i32_4701
  let v4552 : BitVec 32 := Scalar.addi c0_i32_4702 v4551
  v4552.toNat
def k0_dev127 (d0 : Dev nD) : Nat :=
  let c0_i32_4730 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_34 : BitVec 32 := 8#32
  let v66 : BitVec 32 := Scalar.muli v19 c8_i32_34
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_48 : BitVec 32 := 7#32
  let v79 : BitVec 1 := Scalar.cmpi .eq v29 c7_i32_48
  let c4_i32_49 : BitVec 32 := 4#32
  let c6_i32_46 : BitVec 32 := 6#32
  let v77 : BitVec 1 := Scalar.cmpi .eq v29 c6_i32_46
  let c7_i32_47 : BitVec 32 := 7#32
  let c5_i32_44 : BitVec 32 := 5#32
  let v75 : BitVec 1 := Scalar.cmpi .eq v29 c5_i32_44
  let c6_i32_45 : BitVec 32 := 6#32
  let c4_i32_42 : BitVec 32 := 4#32
  let v73 : BitVec 1 := Scalar.cmpi .eq v29 c4_i32_42
  let c3_i32_43 : BitVec 32 := 3#32
  let c3_i32_40 : BitVec 32 := 3#32
  let v71 : BitVec 1 := Scalar.cmpi .eq v29 c3_i32_40
  let c0_i32_41 : BitVec 32 := 0#32
  let c2_i32_38 : BitVec 32 := 2#32
  let v69 : BitVec 1 := Scalar.cmpi .eq v29 c2_i32_38
  let c5_i32_39 : BitVec 32 := 5#32
  let c1_i32_35 : BitVec 32 := 1#32
  let v67 : BitVec 1 := Scalar.cmpi .eq v29 c1_i32_35
  let c2_i32_36 : BitVec 32 := 2#32
  let c1_i32_37 : BitVec 32 := 1#32
  let v68 : BitVec 32 := Scalar.select v67 c2_i32_36 c1_i32_37
  let v70 : BitVec 32 := Scalar.select v69 c5_i32_39 v68
  let v72 : BitVec 32 := Scalar.select v71 c0_i32_41 v70
  let v74 : BitVec 32 := Scalar.select v73 c3_i32_43 v72
  let v76 : BitVec 32 := Scalar.select v75 c6_i32_45 v74
  let v78 : BitVec 32 := Scalar.select v77 c7_i32_47 v76
  let v80 : BitVec 32 := Scalar.select v79 c4_i32_49 v78
  let v81 : BitVec 32 := Scalar.addi v66 v80
  let c1_i32_4729 : BitVec 32 := 1#32
  let v4575 : BitVec 32 := Scalar.muli v81 c1_i32_4729
  let v4576 : BitVec 32 := Scalar.addi c0_i32_4730 v4575
  v4576.toNat
def k0_dev128 (d0 : Dev nD) : Nat :=
  let c0_i32_4760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v82 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_64 : BitVec 32 := 7#32
  let v95 : BitVec 1 := Scalar.cmpi .eq v29 c7_i32_64
  let c6_i32_65 : BitVec 32 := 6#32
  let c6_i32_62 : BitVec 32 := 6#32
  let v93 : BitVec 1 := Scalar.cmpi .eq v29 c6_i32_62
  let c5_i32_63 : BitVec 32 := 5#32
  let c5_i32_60 : BitVec 32 := 5#32
  let v91 : BitVec 1 := Scalar.cmpi .eq v29 c5_i32_60
  let c2_i32_61 : BitVec 32 := 2#32
  let c4_i32_58 : BitVec 32 := 4#32
  let v89 : BitVec 1 := Scalar.cmpi .eq v29 c4_i32_58
  let c7_i32_59 : BitVec 32 := 7#32
  let c3_i32_56 : BitVec 32 := 3#32
  let v87 : BitVec 1 := Scalar.cmpi .eq v29 c3_i32_56
  let c4_i32_57 : BitVec 32 := 4#32
  let c2_i32_54 : BitVec 32 := 2#32
  let v85 : BitVec 1 := Scalar.cmpi .eq v29 c2_i32_54
  let c1_i32_55 : BitVec 32 := 1#32
  let c1_i32_51 : BitVec 32 := 1#32
  let v83 : BitVec 1 := Scalar.cmpi .eq v29 c1_i32_51
  let c0_i32_52 : BitVec 32 := 0#32
  let c3_i32_53 : BitVec 32 := 3#32
  let v84 : BitVec 32 := Scalar.select v83 c0_i32_52 c3_i32_53
  let v86 : BitVec 32 := Scalar.select v85 c1_i32_55 v84
  let v88 : BitVec 32 := Scalar.select v87 c4_i32_57 v86
  let v90 : BitVec 32 := Scalar.select v89 c7_i32_59 v88
  let v92 : BitVec 32 := Scalar.select v91 c2_i32_61 v90
  let v94 : BitVec 32 := Scalar.select v93 c5_i32_63 v92
  let v96 : BitVec 32 := Scalar.select v95 c6_i32_65 v94
  let v97 : BitVec 32 := Scalar.addi v82 v96
  let c1_i32_4759 : BitVec 32 := 1#32
  let v4601 : BitVec 32 := Scalar.muli v97 c1_i32_4759
  let v4602 : BitVec 32 := Scalar.addi c0_i32_4760 v4601
  v4602.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x16384 : Shape := ⟨2, ![1024, 16384]⟩
abbrev S16384x1024 : Shape := ⟨2, ![16384, 1024]⟩
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S16384x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Ops.lean ====
/-
# The kernel's body as a list of events

The printed body is nine hundred operations long, but only a few kinds of step occur in it: a block product, a
transfer to a neighbour, the wait for a tile and its addition (or its copy), the move of a tile between two buffers,
the activation, and the wait for a transfer of one's own. Each kind is written here once over the buffers it works
on, the events are listed in program order, and the printed body is that list.
-/
module

public import proofs.«01_k».proof.Proof.Gen.KernelIdeal
public import proofs.«01_k».proof.Proof.Gen.KernelIdeal.Skeleton

@[expose] public section

noncomputable section

namespace Cert.Reduce

open Cert.KernelIdeal Cert.KernelIdeal.Gen
open Idealize.ShloMosaic Idealize.SL.Sem

variable {F : FTy → Type} [FloatOps F]

/-- The buffers and semaphores the body is given: the two operands, the result, the landing buffers of the two ring
directions, the slabs of the depth axis, their landing buffer, and the semaphores of each. -/
structure Bufs where
  a : Memref sig .tc .vmem S1024x512 .f32
  b : Memref sig .tc .vmem S512x1024 .f32
  o : Memref sig .tc .vmem S1024x1024 .f32
  pc : Bool → Memref sig .tc .vmem S14x64x1024 .f32
  zw : Memref sig .tc .vmem S4x32x1024 .f32
  zc : Memref sig .tc .vmem S6x32x1024 .f32
  ss : Bool → DmaSems sig S14x4
  sr : Bool → DmaSems sig S14x4
  zs : DmaSems sig S6x2
  zr : DmaSems sig S6x2

variable (F) in
/-- Programs of the body that return nothing. -/
abbrev TP : Type _ := Prog (TpuEff nD τ sig (Elt F) Λ₀ .tc) PUnit

/-- The first row of a half slab: the upper direction's half first. -/
def half (d : Bool) : ℕ := if d then 0 else 16
/-- The column of the depth semaphores that belongs to a half slab. -/
def halfIx (d : Bool) : ℕ := if d then 0 else 1

theorem slot_inb (t : Fin 14) (h : Fin 4) :
    ∀ a, (![t.val, 16 * h.val, 0] : Fin 3 → ℕ) a + S1x16x1024.size a ≤ S14x64x1024.size a := by
  revert t h; decide
theorem sem_inb (t : Fin 14) (h : Fin 4) : ∀ a, (![t.val, h.val] : Fin 2 → ℕ) a + S1x1.size a ≤ S14x4.size a := by
  revert t h; decide
theorem zslot_inb (t : Fin 6) (d : Bool) :
    ∀ a, (![t.val, half d, 0] : Fin 3 → ℕ) a + S1x16x1024.size a ≤ S6x32x1024.size a := by
  revert t d; decide
theorem zsem_inb (t : Fin 6) (d : Bool) : ∀ a, (![t.val, halfIx d] : Fin 2 → ℕ) a + S1x1.size a ≤ S6x2.size a := by
  revert t d; decide
theorem slab_inb (j : Fin 4) (d : Bool) :
    ∀ a, (![j.val, half d, 0] : Fin 3 → ℕ) a + S1x16x1024.size a ≤ S4x32x1024.size a := by
  revert j d; decide

/-- An offset into the result at which a tile fits. -/
abbrev FitsO (o : Fin 2 → ℕ) : Prop := ∀ a, o a + S16x1024.size a ≤ S1024x1024.size a
/-- An offset into the slabs at which half a slab fits. -/
abbrev FitsW (o : Fin 3 → ℕ) : Prop := ∀ a, o a + S1x16x1024.size a ≤ S4x32x1024.size a

variable (B : Bufs)

/-- The rectangle of a tile of the result. -/
abbrev oRect (o : Fin 2 → ℕ) (ho : FitsO o) : Rect S1024x1024 := Rect.unit (s := S1024x1024) o S16x1024.size ho
/-- The rectangle of a landing tile. -/
abbrev pRect (t : Fin 14) (h : Fin 4) : Rect S14x64x1024 :=
  Rect.unit (s := S14x64x1024) ![t.val, 16 * h.val, 0] S1x16x1024.size (slot_inb t h)
/-- The rectangle of half a slab. -/
abbrev wRect (o : Fin 3 → ℕ) (ho : FitsW o) : Rect S4x32x1024 := Rect.unit (s := S4x32x1024) o S1x16x1024.size ho
/-- The rectangle of a landing half slab. -/
abbrev cRect (t : Fin 6) (d : Bool) : Rect S6x32x1024 :=
  Rect.unit (s := S6x32x1024) ![t.val, half d, 0] S1x16x1024.size (zslot_inb t d)

/-- A tile of the result. -/
abbrev oTile (o : Fin 2 → ℕ) (ho : FitsO o) : Memref sig .tc .vmem S16x1024 .f32 :=
  B.o.slice (oRect o ho) (fun _ => rfl)
/-- A landing tile of a ring direction. -/
abbrev pTile (d : Bool) (t : Fin 14) (h : Fin 4) : Memref sig .tc .vmem S16x1024 .f32 :=
  ((B.pc d).slice (pRect t h) (fun _ => rfl)).squeeze S16x1024 squeezes_S1x16x1024_S16x1024
/-- Half a slab. -/
abbrev wTile (o : Fin 3 → ℕ) (ho : FitsW o) : Memref sig .tc .vmem S16x1024 .f32 :=
  (B.zw.slice (wRect o ho) (fun _ => rfl)).squeeze S16x1024 squeezes_S1x16x1024_S16x1024
/-- A landing half slab. -/
abbrev cTile (t : Fin 6) (d : Bool) : Memref sig .tc .vmem S16x1024 .f32 :=
  (B.zc.slice (cRect t d) (fun _ => rfl)).squeeze S16x1024 squeezes_S1x16x1024_S16x1024

/-- The semaphore of a ring transfer in an array of them. -/
abbrev pSem (A : DmaSems sig S14x4) (t : Fin 14) (h : Fin 4) : DmaSem sig :=
  ((A.slice (Rect.unit (s := S14x4) ![t.val, h.val] S1x1.size (sem_inb t h))).squeeze S_ squeezes_S1x1_S_).sem
/-- The semaphore of a depth transfer in an array of them. -/
abbrev zSem (A : DmaSems sig S6x2) (t : Fin 6) (d : Bool) : DmaSem sig :=
  ((A.slice (Rect.unit (s := S6x2) ![t.val, halfIx d] S1x1.size (zsem_inb t d))).squeeze S_ squeezes_S1x1_S_).sem

/-- Load a tile of the result. -/
abbrev ldO (o : Fin 2 → ℕ) (ho : FitsO o) : Prog (TpuEff nD τ sig (Elt F) Λ₀ .tc) (Vec F S16x1024 .f32) :=
  Prog.lift (.load B.o (oRect o ho).toLoadRect (View.loadsAt_vmem h_S16x1024))
/-- Store a tile of the result. -/
abbrev stO (o : Fin 2 → ℕ) (ho : FitsO o) (v : FVec F S16x1024 .f32) : TP F :=
  Prog.lift (.store B.o (oRect o ho) v Finset.univ (View.stores_vmem_bits_univ h_S16x1024 rfl) (.inl rfl))
/-- Load half a slab. -/
abbrev ldW (o : Fin 3 → ℕ) (ho : FitsW o) : Prog (TpuEff nD τ sig (Elt F) Λ₀ .tc) (Vec F S1x16x1024 .f32) :=
  Prog.lift (.load B.zw (wRect o ho).toLoadRect (View.loadsAt_vmem h_S1x16x1024))
/-- Store half a slab. -/
abbrev stW (o : Fin 3 → ℕ) (ho : FitsW o) (v : FVec F S1x16x1024 .f32) : TP F :=
  Prog.lift (.store B.zw (wRect o ho) v Finset.univ (View.stores_vmem_bits_univ h_S1x16x1024 rfl) (.inl rfl))
/-- Load a landing tile of a ring direction. -/
abbrev ldP (d : Bool) (t : Fin 14) (h : Fin 4) : Prog (TpuEff nD τ sig (Elt F) Λ₀ .tc) (Vec F S1x16x1024 .f32) :=
  Prog.lift (.load (B.pc d) (pRect t h).toLoadRect (View.loadsAt_vmem h_S1x16x1024))
/-- Load a landing half slab. -/
abbrev ldC (t : Fin 6) (d : Bool) : Prog (TpuEff nD τ sig (Elt F) Λ₀ .tc) (Vec F S1x16x1024 .f32) :=
  Prog.lift (.load B.zc (cRect t d).toLoadRect (View.loadsAt_vmem h_S1x16x1024))

/-- The product of sixty-four rows with the second operand, stored in the result. -/
def opMm (oa : Fin 2 → ℕ) (ha : ∀ a, oa a + S64x512.size a ≤ S1024x512.size a)
    (oo : Fin 2 → ℕ) (ho : ∀ a, oo a + S64x1024.size a ≤ S1024x1024.size a) : TP F := do
  let x : Vec F S64x512 .f32 ← Prog.lift (.load B.a (Rect.unit (s := S1024x512) oa S64x512.size ha).toLoadRect (View.loadsAt_vmem h_S64x512))
  let y : Vec F S512x1024 .f32 ← Prog.lift (.load B.b (Rect.unit (s := S512x1024) ![0, 0] S512x1024.size inb_S512x1024_S512x1024_0_0).toLoadRect (View.loadsAt_vmem h_S512x1024))
  let _w : Vec F S64x1024 .f32 ← Prog.lift (.load B.o (Rect.unit (s := S1024x1024) oo S64x1024.size ho).toLoadRect (View.loadsAt_vmem h_S64x1024))
  Prog.lift (.store B.o (Rect.unit (s := S1024x1024) oo S64x1024.size ho) (k0_pay1 x y) Finset.univ (View.stores_vmem_bits_univ h_S64x1024 rfl) (.inl rfl))

/-- Send a tile of the result into a landing tile of the neighbour `n`. -/
def opSend (d : Bool) (t : Fin 14) (h : Fin 4) (n : Dev nD) (o : Fin 2 → ℕ) (ho : FitsO o) : TP F :=
  Prog.lift (.enqueueDma (oTile B o ho) (.remote (Dev.tc n) (pTile B d t h) (.dma (pSem (B.ss d) t h)))
    (.dma (pSem (B.sr d) t h)) (View.wordExact_bits rfl) ((View.wordExact_bits rfl).reshape _ _) ⟨⟨rfl, Or.inl rfl⟩, trivial⟩)

/-- Send half a slab into a landing half slab of the neighbour `n`. -/
def opZsend (t : Fin 6) (d : Bool) (n : Dev nD) (o : Fin 3 → ℕ) (ho : FitsW o) : TP F :=
  Prog.lift (.enqueueDma (wTile B o ho) (.remote (Dev.tc n) (cTile B t d) (.dma (zSem B.zs t d)))
    (.dma (zSem B.zr t d)) ((View.wordExact_bits rfl).reshape _ _) ((View.wordExact_bits rfl).reshape _ _) ⟨⟨rfl, Or.inl rfl⟩, trivial⟩)

/-- Wait for a landing tile and add it to a tile of the result. -/
def opAdd (d : Bool) (t : Fin 14) (h : Fin 4) (os : Fin 2 → ℕ) (hs : FitsO os) (o : Fin 2 → ℕ) (ho : FitsO o) : TP F := do
  Prog.lift (.waitDma2 (pSem (B.sr d) t h) (oTile B os hs) (pTile B d t h) (View.wordExact_bits rfl) ((View.wordExact_bits rfl).reshape _ _))
  let v ← ldO B o ho
  let w ← ldP B d t h
  let _x ← ldO B o ho
  stO B o ho (k0_pay5 v w)

/-- Wait for a landing tile and copy it into a tile of the result. -/
def opSet (d : Bool) (t : Fin 14) (h : Fin 4) (os : Fin 2 → ℕ) (hs : FitsO os) (o : Fin 2 → ℕ) (ho : FitsO o) : TP F := do
  Prog.lift (.waitDma2 (pSem (B.sr d) t h) (oTile B os hs) (pTile B d t h) (View.wordExact_bits rfl) ((View.wordExact_bits rfl).reshape _ _))
  let w ← ldP B d t h
  let _x ← ldO B o ho
  stO B o ho (k0_pay107 w)

/-- Copy a tile of the result into half a slab. -/
def opDown (o : Fin 2 → ℕ) (ho : FitsO o) (j : Fin 4) (d : Bool) : TP F := do
  let v ← ldO B o ho
  let _x ← ldW B ![j.val, half d, 0] (slab_inb j d)
  stW B ![j.val, half d, 0] (slab_inb j d) (k0_pay84 v)

/-- Copy half a slab into a tile of the result. -/
def opUp (o : Fin 2 → ℕ) (ho : FitsO o) (j : Fin 4) (d : Bool) : TP F := do
  let v ← ldW B ![j.val, half d, 0] (slab_inb j d)
  let _x ← ldO B o ho
  stO B o ho (k0_pay107 v)

/-- Wait for a landing half slab and add it to a half slab. -/
def opZadd (t : Fin 6) (d : Bool) (os : Fin 3 → ℕ) (hs : FitsW os) (o : Fin 3 → ℕ) (ho : FitsW o) : TP F := do
  Prog.lift (.waitDma2 (zSem B.zr t d) (wTile B os hs) (cTile B t d) ((View.wordExact_bits rfl).reshape _ _) ((View.wordExact_bits rfl).reshape _ _))
  let v ← ldW B o ho
  let w ← ldC B t d
  let _x ← ldW B o ho
  stW B o ho (k0_pay93 v w)

/-- Wait for a landing half slab and copy it into a half slab. -/
def opZset (t : Fin 6) (d : Bool) (os : Fin 3 → ℕ) (hs : FitsW os) (o : Fin 3 → ℕ) (ho : FitsW o) : TP F := do
  Prog.lift (.waitDma2 (zSem B.zr t d) (wTile B os hs) (cTile B t d) ((View.wordExact_bits rfl).reshape _ _) ((View.wordExact_bits rfl).reshape _ _))
  let w ← ldC B t d
  let _x ← ldW B o ho
  stW B o ho (k0_pay101 w)

/-- The activation of a slab, in place. -/
def opGelu (o : Fin 3 → ℕ) (ho : ∀ a, o a + S1x32x1024.size a ≤ S4x32x1024.size a) : TP F := do
  let v : Vec F S1x32x1024 .f32 ← Prog.lift (.load B.zw (Rect.unit (s := S4x32x1024) o S1x32x1024.size ho).toLoadRect (View.loadsAt_vmem h_S1x32x1024))
  let _x : Vec F S1x32x1024 .f32 ← Prog.lift (.load B.zw (Rect.unit (s := S4x32x1024) o S1x32x1024.size ho).toLoadRect (View.loadsAt_vmem h_S1x32x1024))
  Prog.lift (.store B.zw (Rect.unit (s := S4x32x1024) o S1x32x1024.size ho) (k0_pay100 v) Finset.univ (View.stores_vmem_bits_univ h_S1x32x1024 rfl) (.inl rfl))

/-- Wait until a ring transfer of one's own has left. -/
def opSw (d : Bool) (t : Fin 14) (h : Fin 4) (o : Fin 2 → ℕ) (ho : FitsO o) : TP F :=
  Prog.lift (.waitDma2 (pSem (B.ss d) t h) (pTile B d t h) (oTile B o ho) ((View.wordExact_bits rfl).reshape _ _) (View.wordExact_bits rfl))

/-- Wait until a depth transfer of one's own has left. -/
def opZsw (t : Fin 6) (d : Bool) (o : Fin 3 → ℕ) (ho : FitsW o) : TP F :=
  Prog.lift (.waitDma2 (zSem B.zs t d) (cTile B t d) (wTile B o ho) ((View.wordExact_bits rfl).reshape _ _) ((View.wordExact_bits rfl).reshape _ _))

/-- The runtime's barrier semaphore. -/
abbrev barS : Sem sig := (SemArray.scalar (sig.barrier 0 rfl) : Sems sig S_).sem

/-- An event after the entry handshake. In `mm`, `send`, `add`, `set` and `sw` the direction `true` is the ring towards
higher positions, on the upper half of the rows. A chunk is numbered by how far behind the device's own it is. -/
inductive Ev where
  | mm (d : Bool) (k : Fin 8)
  | send (d : Bool) (t : Fin 14) (h : Fin 4)
  | add (d : Bool) (s : Fin 7) (h : Fin 4)
  | set (d : Bool) (s : Fin 7) (h : Fin 4)
  | down (d : Bool) (j : Fin 4)
  | up (d : Bool) (j : Fin 4)
  | zsend (t : Fin 6) (d : Bool)
  | zadd (s : Fin 3) (d : Bool)
  | zset (s : Fin 3) (d : Bool)
  | gelu
  | sw (d : Bool) (t : Fin 14) (h : Fin 4)
  | zsw (t : Fin 6) (d : Bool)

/-- Both directions. -/
def dirs : List Bool := [true, false]
/-- The four tiles of a chunk. -/
def tiles : List (Fin 4) := [0, 1, 2, 3]

/-- A ring step: for each tile and direction wait for the tile, use it, and (but in the last step) pass it on. -/
def ringStep (use : Bool → Fin 4 → Ev) (next : Option (Fin 14)) : List Ev :=
  tiles.flatMap fun h => dirs.flatMap fun d => use d h :: (next.elim [] fun t => [.send d t h])

/-- A depth step: for each half wait for it, use it, and (but in the last step) pass it on. -/
def depthStep (use : Bool → Ev) (next : Option (Fin 6)) : List Ev :=
  dirs.flatMap fun d => use d :: (next.elim [] fun t => [.zsend t d])

/-- The chunks multiplied after step `s`. -/
def mms (k : Fin 8) : List Ev := [.mm true k, .mm false k]

/-- The first sends of a ring pass. -/
def ringStart (t : Fin 14) : List Ev := tiles.flatMap fun h => dirs.map fun d => .send d t h
/-- The first sends of a depth pass. -/
def depthStart (t : Fin 6) : List Ev := dirs.map fun d => .zsend t d
/-- The waits for the ring transfers of step `t` to have left. -/
def ringEnd (t : Fin 14) : List Ev := tiles.flatMap fun h => dirs.map fun d => .sw d t h
/-- The waits for the depth transfers of step `t` to have left. -/
def depthEnd (t : Fin 6) : List Ev := dirs.map fun d => .zsw t d

/-- The block products of the first two chunks of each direction and the reduction around the ring. -/
def evsRing : List Ev :=
  mms 0 ++ mms 1 ++ ringStart 0 ++
  ringStep (fun d h => .add d 0 h) (some 1) ++ mms 2 ++
  ringStep (fun d h => .add d 1 h) (some 2) ++ mms 3 ++
  ringStep (fun d h => .add d 2 h) (some 3) ++ mms 4 ++
  ringStep (fun d h => .add d 3 h) (some 4) ++ mms 5 ++
  ringStep (fun d h => .add d 4 h) (some 5) ++ mms 6 ++
  ringStep (fun d h => .add d 5 h) (some 6) ++ mms 7 ++
  ringStep (fun d h => .add d 6 h) none

/-- The reduction along the depth, the activation, and the gathering along the depth. -/
def evsDepth : List Ev :=
  (tiles.flatMap fun j => dirs.map fun d => .down d j) ++
  depthStart 0 ++ depthStep (.zadd 0) (some 1) ++ depthStep (.zadd 1) (some 2) ++ depthStep (.zadd 2) none ++
  [.gelu] ++ ([0, 1, 2] : List (Fin 6)).flatMap depthEnd ++
  depthStart 3 ++ depthStep (.zset 0) (some 4) ++ depthStep (.zset 1) (some 5) ++ depthStep (.zset 2) none ++
  (tiles.flatMap fun j => dirs.map fun d => .up d j)

/-- The gathering around the ring, and the waits that remain. -/
def evsGather : List Ev :=
  ([0, 1, 2, 3, 4, 5, 6] : List (Fin 14)).flatMap ringEnd ++
  ringStart 7 ++
  ringStep (fun d h => .set d 0 h) (some 8) ++ ringStep (fun d h => .set d 1 h) (some 9) ++
  ringStep (fun d h => .set d 2 h) (some 10) ++ ringStep (fun d h => .set d 3 h) (some 11) ++
  ringStep (fun d h => .set d 4 h) (some 12) ++ ringStep (fun d h => .set d 5 h) (some 13) ++
  ringStep (fun d h => .set d 6 h) none ++
  ([3, 4, 5] : List (Fin 6)).flatMap depthEnd ++
  ([7, 8, 9, 10, 11, 12, 13] : List (Fin 14)).flatMap ringEnd

/-- The events of the body after the entry handshake, in program order. -/
def evs : List Ev := evsRing ++ (evsDepth ++ evsGather)

/-! ## The printed offsets -/

/-- The word of a tile's row. -/
abbrev hw (h : Fin 4) : BitVec 32 := BitVec.ofNat 32 (16 * h.val)

/-- The printed offset of the tile a ring transfer takes. -/
def prSrc (c : Dev nD) (d : Bool) (t : Fin 14) (h : Fin 4) : {o : Fin 2 → ℕ // FitsO o} :=
  match d, t with
  | true, ⟨0, _⟩ => ⟨_, k0_off9_inb c h⟩
  | true, ⟨1, _⟩ => ⟨_, k0_off12_inb c 0 h⟩
  | true, ⟨2, _⟩ => ⟨_, k0_off12_inb c 1 h⟩
  | true, ⟨3, _⟩ => ⟨_, k0_off12_inb c 2 h⟩
  | true, ⟨4, _⟩ => ⟨_, k0_off12_inb c 3 h⟩
  | true, ⟨5, _⟩ => ⟨_, k0_off12_inb c 4 h⟩
  | true, ⟨6, _⟩ => ⟨_, k0_off12_inb c 5 h⟩
  | true, ⟨7, _⟩ => ⟨_, k0_off34_inb c h⟩
  | true, ⟨k + 8, hk⟩ => ⟨_, k0_off37_inb c ⟨k, by omega⟩ h⟩
  | false, ⟨0, _⟩ => ⟨_, k0_off10_inb c h⟩
  | false, ⟨1, _⟩ => ⟨_, k0_off14_inb c 0 h⟩
  | false, ⟨2, _⟩ => ⟨_, k0_off14_inb c 1 h⟩
  | false, ⟨3, _⟩ => ⟨_, k0_off14_inb c 2 h⟩
  | false, ⟨4, _⟩ => ⟨_, k0_off14_inb c 3 h⟩
  | false, ⟨5, _⟩ => ⟨_, k0_off14_inb c 4 h⟩
  | false, ⟨6, _⟩ => ⟨_, k0_off14_inb c 5 h⟩
  | false, ⟨7, _⟩ => ⟨_, k0_off35_inb c h⟩
  | false, ⟨k + 8, hk⟩ => ⟨_, k0_off39_inb c ⟨k, by omega⟩ h⟩

/-- The printed offset of the tile an addition of the ring writes. -/
def prAdd (c : Dev nD) (d : Bool) (s : Fin 7) (h : Fin 4) : {o : Fin 2 → ℕ // FitsO o} :=
  match d with
  | true => ⟨_, k0_off11_inb c s h⟩
  | false => ⟨_, k0_off13_inb c s h⟩

/-- The printed offset of the tile a copy of the ring writes. -/
def prSet (c : Dev nD) (d : Bool) (s : Fin 7) (h : Fin 4) : {o : Fin 2 → ℕ // FitsO o} :=
  match d with
  | true => ⟨_, k0_off36_inb c s h⟩
  | false => ⟨_, k0_off38_inb c s h⟩

/-- The printed offset of the tile that goes down to a slab and comes up from it. -/
def prOwn (c : Dev nD) (d : Bool) (j : Fin 4) : {o : Fin 2 → ℕ // FitsO o} :=
  match d with
  | true => ⟨_, k0_off19_inb c j⟩
  | false => ⟨_, k0_off20_inb c j⟩

/-- The printed offset of the half slab a depth transfer takes. -/
def prZsrc (c : Dev nD) (t : Fin 6) (d : Bool) : {o : Fin 3 → ℕ // FitsW o} :=
  match d, t with
  | true, ⟨0, _⟩ => ⟨_, k0_off21_inb c⟩
  | true, ⟨1, _⟩ => ⟨_, k0_off24_inb c 0⟩
  | true, ⟨2, _⟩ => ⟨_, k0_off24_inb c 1⟩
  | true, ⟨3, _⟩ => ⟨_, k0_off28_inb c⟩
  | true, ⟨k + 4, hk⟩ => ⟨_, k0_off31_inb c ⟨k, by omega⟩⟩
  | false, ⟨0, _⟩ => ⟨_, k0_off22_inb c⟩
  | false, ⟨1, _⟩ => ⟨_, k0_off26_inb c 0⟩
  | false, ⟨2, _⟩ => ⟨_, k0_off26_inb c 1⟩
  | false, ⟨3, _⟩ => ⟨_, k0_off29_inb c⟩
  | false, ⟨k + 4, hk⟩ => ⟨_, k0_off33_inb c ⟨k, by omega⟩⟩

/-- The printed offset of the half slab an addition along the depth writes. -/
def prZadd (c : Dev nD) (s : Fin 3) (d : Bool) : {o : Fin 3 → ℕ // FitsW o} :=
  match d with
  | true => ⟨_, k0_off23_inb c s⟩
  | false => ⟨_, k0_off25_inb c s⟩

/-- The printed offset of the half slab a copy along the depth writes. -/
def prZset (c : Dev nD) (s : Fin 3) (d : Bool) : {o : Fin 3 → ℕ // FitsW o} :=
  match d with
  | true => ⟨_, k0_off30_inb c s⟩
  | false => ⟨_, k0_off32_inb c s⟩

/-- The printed offsets of the rows a block product reads and of those it writes. -/
def prMm (c : Dev nD) (d : Bool) (k : Fin 8) :
    {o : Fin 2 → ℕ // ∀ a, o a + S64x512.size a ≤ S1024x512.size a} ×
      {o : Fin 2 → ℕ // ∀ a, o a + S64x1024.size a ≤ S1024x1024.size a} :=
  match d, k with
  | true, ⟨0, _⟩ => (⟨_, k0_off1_inb c⟩, ⟨_, k0_off2_inb c⟩)
  | false, ⟨0, _⟩ => (⟨_, k0_off3_inb c⟩, ⟨_, k0_off4_inb c⟩)
  | true, ⟨1, _⟩ => (⟨_, k0_off5_inb c⟩, ⟨_, k0_off6_inb c⟩)
  | false, ⟨1, _⟩ => (⟨_, k0_off7_inb c⟩, ⟨_, k0_off8_inb c⟩)
  | true, ⟨n + 2, hn⟩ => (⟨_, k0_off15_inb c ⟨n, by omega⟩⟩, ⟨_, k0_off16_inb c ⟨n, by omega⟩⟩)
  | false, ⟨n + 2, hn⟩ => (⟨_, k0_off17_inb c ⟨n, by omega⟩⟩, ⟨_, k0_off18_inb c ⟨n, by omega⟩⟩)

/-- The printed neighbour of a ring direction. -/
def prNext (c : Dev nD) (d : Bool) : Dev nD :=
  match d with
  | true => ⟨k0_dev5 c, k0_dev5_lt c⟩
  | false => ⟨k0_dev6 c, k0_dev6_lt c⟩

/-- The ring step of the landing tile a copy of the gathering waits for. -/
abbrev late (s : Fin 7) : Fin 14 := ⟨s.val + 7, by omega⟩
/-- The ring step of the landing tile an addition waits for. -/
abbrev early (s : Fin 7) : Fin 14 := ⟨s.val, by omega⟩
/-- The depth step of the landing half slab a copy waits for. -/
abbrev zlate (s : Fin 3) : Fin 6 := ⟨s.val + 3, by omega⟩
/-- The depth step of the landing half slab an addition waits for. -/
abbrev zearly (s : Fin 3) : Fin 6 := ⟨s.val, by omega⟩

/-- An event with the printed offsets. -/
def prEv (c : Dev nD) : Ev → TP F
  | .mm d k => opMm B _ (prMm c d k).1.2 _ (prMm c d k).2.2
  | .send d t h => opSend B d t h (prNext c d) _ (prSrc c d t h).2
  | .add d s h => opAdd B d (early s) h _ (prSrc c d (early s) h).2 _ (prAdd c d s h).2
  | .set d s h => opSet B d (late s) h _ (prSrc c d (late s) h).2 _ (prSet c d s h).2
  | .down d j => opDown B _ (prOwn c d j).2 j d
  | .up d j => opUp B _ (prOwn c d j).2 j d
  | .zsend t d => opZsend B t d ⟨k0_dev61 c, k0_dev61_lt c⟩ _ (prZsrc c t d).2
  | .zadd s d => opZadd B (zearly s) d _ (prZsrc c (zearly s) d).2 _ (prZadd c s d).2
  | .zset s d => opZset B (zlate s) d _ (prZsrc c (zlate s) d).2 _ (prZset c s d).2
  | .gelu => opGelu B _ (k0_off27_inb c)
  | .sw d t h => opSw B d t h _ (prSrc c d t h).2
  | .zsw t d => opZsw B t d _ (prZsrc c t d).2

/-- Programs run one after the other. -/
def seqs : List (TP F) → TP F
  | [] => pure ⟨⟩
  | p :: l => p >>= fun _ => seqs l

/-- The entry handshake: one signal to each of the four neighbours, and the wait for theirs. -/
def handshake (c : Dev nD) (rest : TP F) : TP F := do
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semSignalWord (⟨k0_dev4 c, k0_dev4_lt c⟩ : Dev nD) barS 1#32
  semWaitWord barS 4#32
  rest

/-- The printed body is the handshake and the events with the printed offsets. -/
def listed : TP F := do
  let c : Dev nD ← Prog.lift .deviceId
  handshake c (seqs (evs.map (prEv B c)))

set_option maxRecDepth 1000000 in
set_option maxHeartbeats 0 in
/-- The printed body is the list of its events. -/
theorem body_listed (h0 : B.a.IsWhole) (h1 : B.b.IsWhole) (h2 : B.o.IsWhole) (h3 : (B.pc true).IsWhole)
    (h4 : (B.pc false).IsWhole) (h5 : B.zw.IsWhole) (h6 : B.zc.IsWhole) :
    cc0_body (F := F) B.a h0 B.b h1 B.o h2 (B.pc true) h3 (B.pc false) h4 B.zw h5 B.zc h6
      (B.ss true) (B.sr true) (B.ss false) (B.sr false) B.zs B.zr = listed B := by
  rfl

end Cert.Reduce

end
-- ==== Proof.Layout.lean ====
/-
# Where the tiles lie

The printed offsets and neighbours in closed form. The thirty-two devices are four layers of eight; each layer is a
ring in an order of its own. A chunk of rows is named by how far behind a device's own position it lies, a slab by how
far behind the device's own layer, so that every device runs the same events on the same names.
-/
module

public import proofs.«01_k».proof.Proof.Ops

@[expose] public section

noncomputable section

namespace Cert.Reduce

open Cert.KernelIdeal Cert.KernelIdeal.Gen
open Idealize.ShloMosaic Idealize.SL.Sem

variable {F : FTy → Type} [FloatOps F]

/-- The position of a device on its ring. -/
def pos (c : Dev nD) : ℕ := [0, 1, 2, 7, 6, 3, 4, 5].getD (c.val % 8) 0
/-- The layer of a device. -/
def dep (c : Dev nD) : ℕ := c.val / 8
/-- The number, in row order, of the chunk `k` behind the device's own in a ring direction. -/
def chunk (c : Dev nD) (d : Bool) (k : ℕ) : ℕ := if d then (pos c + 8 - k) % 8 else (pos c + k) % 8
/-- The first row of a chunk: the directions take a half of the rows each. -/
def chunkRow (c : Dev nD) (d : Bool) (k : ℕ) : ℕ := (if d then 0 else 512) + 64 * chunk c d k
/-- The number of the slab `l` behind the device's own. -/
def slab (c : Dev nD) (l : ℕ) : ℕ := (dep c + 4 - l) % 4

/-- The neighbour a ring direction sends to. -/
def nxt (d : Bool) (c : Dev nD) : Dev nD :=
  ⟨8 * (c.val / 8) + (if d then [1, 2, 5, 0, 3, 6, 7, 4] else [3, 0, 1, 4, 7, 2, 5, 6]).getD (c.val % 8) 0 % 8,
    by have : nD = 32 := rfl
       have := c.isLt; omega⟩
/-- The neighbour the depth axis sends to. -/
def up (c : Dev nD) : Dev nD := ⟨(c.val + 8) % 32, Nat.mod_lt _ (by decide)⟩
/-- The neighbour the depth axis receives from. -/
def dn (c : Dev nD) : Dev nD := ⟨(c.val + 24) % 32, Nat.mod_lt _ (by decide)⟩

theorem nxt_nxt (d : Bool) (c : Dev nD) : nxt (!d) (nxt d c) = c := by revert d c; decide +kernel
theorem up_dn (c : Dev nD) : up (dn c) = c := by revert c; decide +kernel
theorem dn_up (c : Dev nD) : dn (up c) = c := by revert c; decide +kernel

/-- The offset of a tile of the result. -/
def oOff (c : Dev nD) (d : Bool) (k : Fin 8) (h : Fin 4) : Fin 2 → ℕ := ![chunkRow c d k.val + 16 * h.val, 0]
/-- The offset of half a slab. -/
def wOff (c : Dev nD) (l : Fin 4) (d : Bool) : Fin 3 → ℕ := ![slab c l.val, half d, 0]

theorem chunk_lt (c : Dev nD) (d : Bool) (k : ℕ) : chunk c d k < 8 := by
  unfold chunk; split <;> exact Nat.mod_lt _ (by decide)
theorem slab_lt (c : Dev nD) (l : ℕ) : slab c l < 4 := Nat.mod_lt _ (by decide)
theorem chunkRow_le (c : Dev nD) (d : Bool) (k : ℕ) : chunkRow c d k + 64 ≤ 1024 := by
  have := chunk_lt c d k
  unfold chunkRow; split <;> omega

theorem oOff_fits (c : Dev nD) (d : Bool) (k : Fin 8) (h : Fin 4) : FitsO (oOff c d k h) := by
  intro a
  have := chunkRow_le c d k
  have := h.isLt
  fin_cases a
  · show chunkRow c d k + 16 * h.val + 16 ≤ 1024; omega
  · show 0 + 1024 ≤ 1024; omega
theorem wOff_fits (c : Dev nD) (l : Fin 4) (d : Bool) : FitsW (wOff c l d) := by
  intro a
  have := slab_lt c l
  fin_cases a
  · show slab c l + 1 ≤ 4; omega
  · show half d + 16 ≤ 32; unfold half; split <;> omega
  · show 0 + 1024 ≤ 1024; omega
theorem chunkA_fits (c : Dev nD) (d : Bool) (k : Fin 8) :
    ∀ a, (![chunkRow c d k.val, 0] : Fin 2 → ℕ) a + S64x512.size a ≤ S1024x512.size a := by
  intro a
  have := chunkRow_le c d k
  fin_cases a
  · show chunkRow c d k + 64 ≤ 1024; omega
  · show 0 + 512 ≤ 512; omega
theorem chunkO_fits (c : Dev nD) (d : Bool) (k : Fin 8) :
    ∀ a, (![chunkRow c d k.val, 0] : Fin 2 → ℕ) a + S64x1024.size a ≤ S1024x1024.size a := by
  intro a
  have := chunkRow_le c d k
  fin_cases a
  · show chunkRow c d k + 64 ≤ 1024; omega
  · show 0 + 1024 ≤ 1024; omega
theorem slabW_fits (c : Dev nD) (l : Fin 4) :
    ∀ a, (![slab c l.val, 0, 0] : Fin 3 → ℕ) a + S1x32x1024.size a ≤ S4x32x1024.size a := by
  intro a
  have := slab_lt c l
  fin_cases a
  · show slab c l + 1 ≤ 4; omega
  · show 0 + 32 ≤ 32; omega
  · show 0 + 1024 ≤ 1024; omega

/-! ## The buffers of the launch, the tiles and the transfers -/

/-- The buffers and semaphores the launch gives the body. -/
def BB : Bufs where
  a := Memref.whole cc0_stg0_0
  b := Memref.whole cc0_stg1_0
  o := Memref.whole cc0_stg2_0
  pc d := match d with
    | true => Memref.whole cc0_scratch0
    | false => Memref.whole cc0_scratch1
  zw := Memref.whole cc0_scratch2
  zc := Memref.whole cc0_scratch3
  ss d := match d with
    | true => cc0_scratch4
    | false => cc0_scratch6
  sr d := match d with
    | true => cc0_scratch5
    | false => cc0_scratch7
  zs := cc0_scratch8
  zr := cc0_scratch9

/-- A transfer a device makes: around a ring (direction, step, tile), or along the depth (step, half). -/
abbrev Tr : Type := (Bool × Fin 14 × Fin 4) ⊕ (Fin 6 × Bool)
/-- A place a device computes in: a tile of the result (direction, chunk, tile), or half a slab (slab, half). -/
abbrev Pc : Type := (Bool × Fin 8 × Fin 4) ⊕ (Fin 4 × Bool)

/-- The memref of a place. -/
def pcM (c : Dev nD) : Pc → Memref sig .tc .vmem S16x1024 .f32
  | .inl (d, k, h) => oTile BB (oOff c d k h) (oOff_fits c d k h)
  | .inr (l, d) => wTile BB (wOff c l d) (wOff_fits c l d)
/-- The memref a transfer lands in. -/
def slM : Tr → Memref sig .tc .vmem S16x1024 .f32
  | .inl (d, t, h) => pTile BB d t h
  | .inr (t, d) => cTile BB t d
/-- The semaphore by which a transfer is known to have left. -/
def sndS : Tr → DmaSem sig
  | .inl (d, t, h) => pSem (BB.ss d) t h
  | .inr (t, d) => zSem BB.zs t d
/-- The semaphore by which a transfer is known to have landed. -/
def rcvS : Tr → DmaSem sig
  | .inl (d, t, h) => pSem (BB.sr d) t h
  | .inr (t, d) => zSem BB.zr t d

/-- The chunk a ring transfer takes. -/
def srcK (t : Fin 14) : Fin 8 := if h : t.val < 8 then ⟨t.val, h⟩ else ⟨t.val - 8, by omega⟩
/-- The slab a depth transfer takes. -/
def srcL (t : Fin 6) : Fin 4 := ⟨t.val % 4, Nat.mod_lt _ (by decide)⟩
/-- The place a transfer takes. -/
def srcP : Tr → Pc
  | .inl (d, t, h) => .inl (d, srcK t, h)
  | .inr (t, d) => .inr (srcL t, d)
/-- The device a transfer goes to. -/
def tgt (c : Dev nD) : Tr → Dev nD
  | .inl (d, _, _) => nxt d c
  | .inr _ => up c
/-- The device a transfer comes from. -/
def frm (c : Dev nD) : Tr → Dev nD
  | .inl (d, _, _) => nxt (!d) c
  | .inr _ => dn c

theorem tgt_frm (c : Dev nD) (x : Tr) : tgt (frm c x) x = c := by
  rcases x with ⟨d, t, h⟩ | ⟨t, d⟩
  · have := nxt_nxt (!d) c
    rwa [Bool.not_not] at this
  · exact up_dn c
theorem frm_tgt (c : Dev nD) (x : Tr) : frm (tgt c x) x = c := by
  rcases x with ⟨d, t, h⟩ | ⟨t, d⟩
  · exact nxt_nxt d c
  · exact dn_up c

theorem pcM_exact (c : Dev nD) (p : Pc) : (pcM c p).view.WordExact := by
  rcases p with ⟨d, k, h⟩ | ⟨l, d⟩
  · exact View.wordExact_bits rfl
  · exact (View.wordExact_bits rfl).reshape _ _
theorem slM_exact (x : Tr) : (slM x).view.WordExact := by
  rcases x with ⟨d, t, h⟩ | ⟨t, d⟩
  · cases d <;> exact (View.wordExact_bits rfl).reshape _ _
  · exact (View.wordExact_bits rfl).reshape _ _
theorem slM_plain (x : Tr) : (slM x).view.ref.isScScratch = false := by
  rcases x with ⟨d, t, h⟩ | ⟨t, d⟩
  · cases d <;> rfl
  · rfl

/-! ## The events in closed form -/

/-- Send a place to the neighbour its transfer goes to. -/
def uSend (c : Dev nD) (x : Tr) : TP F :=
  Prog.lift (.enqueueDma (pcM c (srcP x)) (.remote (Dev.tc (tgt c x)) (slM x) (.dma (sndS x)) (slM_plain x))
    (.dma (rcvS x)) (pcM_exact c _) (slM_exact x) ⟨⟨rfl, Or.inl rfl⟩, trivial⟩)
/-- Wait for a transfer to have landed. -/
def uRecv (c : Dev nD) (x : Tr) : TP F :=
  Prog.lift (.waitDma2 (rcvS x) (pcM c (srcP x)) (slM x) (pcM_exact c _) (slM_exact x))
/-- Wait for a transfer to have left. -/
def uSw (c : Dev nD) (x : Tr) : TP F :=
  Prog.lift (.waitDma2 (sndS x) (slM x) (pcM c (srcP x)) (slM_exact x) (pcM_exact c _))

/-- The chunk an addition of the ring writes. -/
abbrev addK (s : Fin 7) : Fin 8 := ⟨s.val + 1, by omega⟩
/-- The chunk a copy of the ring writes. -/
abbrev setK (s : Fin 7) : Fin 8 := ⟨s.val, by omega⟩
/-- The slab an addition along the depth writes. -/
abbrev addL (s : Fin 3) : Fin 4 := ⟨s.val + 1, by omega⟩
/-- The slab a copy along the depth writes. -/
abbrev setL (s : Fin 3) : Fin 4 := ⟨s.val, by omega⟩

/-- An event in closed form. -/
def clEv (c : Dev nD) : Ev → TP F
  | .mm d k => opMm BB _ (chunkA_fits c d k) _ (chunkO_fits c d k)
  | .send d t h => uSend c (.inl (d, t, h))
  | .add d s h => do
      uRecv c (.inl (d, early s, h))
      let v ← ldO BB _ (oOff_fits c d (addK s) h)
      let w ← ldP BB d (early s) h
      let _x ← ldO BB _ (oOff_fits c d (addK s) h)
      stO BB _ (oOff_fits c d (addK s) h) (k0_pay5 v w)
  | .set d s h => do
      uRecv c (.inl (d, late s, h))
      let w ← ldP BB d (late s) h
      let _x ← ldO BB _ (oOff_fits c d (setK s) h)
      stO BB _ (oOff_fits c d (setK s) h) (k0_pay107 w)
  | .down d j => opDown BB _ (oOff_fits c d 7 j) j d
  | .up d j => opUp BB _ (oOff_fits c d 7 j) j d
  | .zsend t d => uSend c (.inr (t, d))
  | .zadd s d => do
      uRecv c (.inr (zearly s, d))
      let v ← ldW BB _ (wOff_fits c (addL s) d)
      let w ← ldC BB (zearly s) d
      let _x ← ldW BB _ (wOff_fits c (addL s) d)
      stW BB _ (wOff_fits c (addL s) d) (k0_pay93 v w)
  | .zset s d => do
      uRecv c (.inr (zlate s, d))
      let w ← ldC BB (zlate s) d
      let _x ← ldW BB _ (wOff_fits c (setL s) d)
      stW BB _ (wOff_fits c (setL s) d) (k0_pay101 w)
  | .gelu => opGelu BB _ (slabW_fits c 3)
  | .sw d t h => uSw c (.inl (d, t, h))
  | .zsw t d => uSw c (.inr (t, d))

/-! ## The printed offsets are the closed ones -/

theorem prSrc_eq (c : Dev nD) (d : Bool) (t : Fin 14) (h : Fin 4) : (prSrc c d t h).1 = oOff c d (srcK t) h := by
  revert c d t h; decide +kernel
theorem prAdd_eq (c : Dev nD) (d : Bool) (s : Fin 7) (h : Fin 4) : (prAdd c d s h).1 = oOff c d (addK s) h := by
  revert c d s h; decide +kernel
theorem prSet_eq (c : Dev nD) (d : Bool) (s : Fin 7) (h : Fin 4) : (prSet c d s h).1 = oOff c d (setK s) h := by
  revert c d s h; decide +kernel
theorem prOwn_eq (c : Dev nD) (d : Bool) (j : Fin 4) : (prOwn c d j).1 = oOff c d 7 j := by
  revert c d j; decide +kernel
theorem prZsrc_eq (c : Dev nD) (t : Fin 6) (d : Bool) : (prZsrc c t d).1 = wOff c (srcL t) d := by
  revert c t d; decide +kernel
theorem prZadd_eq (c : Dev nD) (s : Fin 3) (d : Bool) : (prZadd c s d).1 = wOff c (addL s) d := by
  revert c s d; decide +kernel
theorem prZset_eq (c : Dev nD) (s : Fin 3) (d : Bool) : (prZset c s d).1 = wOff c (setL s) d := by
  revert c s d; decide +kernel
theorem prMm_eq (c : Dev nD) (d : Bool) (k : Fin 8) :
    (prMm c d k).1.1 = ![chunkRow c d k.val, 0] ∧ (prMm c d k).2.1 = ![chunkRow c d k.val, 0] := by
  revert c d k; decide +kernel
theorem prGelu_eq (c : Dev nD) : k0_off27 c = ![slab c (3 : Fin 4).val, 0, 0] := by
  revert c; decide +kernel
theorem prNext_eq (c : Dev nD) (d : Bool) : prNext c d = nxt d c := by
  revert c d; decide +kernel
theorem prUp_eq (c : Dev nD) : (⟨k0_dev61 c, k0_dev61_lt c⟩ : Dev nD) = up c := by
  revert c; decide +kernel
theorem prDev1_eq (c : Dev nD) : (⟨k0_dev1 c, k0_dev1_lt c⟩ : Dev nD) = dn c := by
  revert c; decide +kernel
theorem prDev2_eq (c : Dev nD) : (⟨k0_dev2 c, k0_dev2_lt c⟩ : Dev nD) = up c := by
  revert c; decide +kernel
theorem prDev3_eq (c : Dev nD) : (⟨k0_dev3 c, k0_dev3_lt c⟩ : Dev nD) = nxt false c := by
  revert c; decide +kernel
theorem prDev4_eq (c : Dev nD) : (⟨k0_dev4 c, k0_dev4_lt c⟩ : Dev nD) = nxt true c := by
  revert c; decide +kernel

/-- A value of a dependent function at an equal offset. -/
theorem at_eq {O : Type} {P : O → Prop} {T : Type*} (f : (o : O) → P o → T) {o o' : O} (h : o = o') (p : P o) (p' : P o') :
    f o p = f o' p' := by
  subst h; rfl

/-- An event with the printed offsets is the event in closed form. -/
theorem prEv_eq (c : Dev nD) (e : Ev) : prEv (F := F) BB c e = clEv c e := by
  cases e with
  | mm d k =>
    exact (at_eq (fun o p => opMm BB o p _ (prMm c d k).2.2) (prMm_eq c d k).1 _ (chunkA_fits c d k)).trans
      (at_eq (fun o p => opMm BB _ (chunkA_fits c d k) o p) (prMm_eq c d k).2 _ (chunkO_fits c d k))
  | send d t h =>
    refine (at_eq (fun o p => opSend BB d t h (prNext c d) o p) (prSrc_eq c d t h) _ (oOff_fits c d _ h)).trans ?_
    rw [prNext_eq]; rfl
  | add d s h =>
    exact (at_eq (fun o p => opAdd BB d (early s) h o p _ (prAdd c d s h).2) (prSrc_eq c d _ h) _ (oOff_fits c d _ h)).trans
      (at_eq (fun o p => opAdd BB d (early s) h _ (oOff_fits c d _ h) o p) (prAdd_eq c d s h) _ (oOff_fits c d _ h))
  | set d s h =>
    exact (at_eq (fun o p => opSet BB d (late s) h o p _ (prSet c d s h).2) (prSrc_eq c d _ h) _ (oOff_fits c d _ h)).trans
      (at_eq (fun o p => opSet BB d (late s) h _ (oOff_fits c d _ h) o p) (prSet_eq c d s h) _ (oOff_fits c d _ h))
  | down d j => exact at_eq (fun o p => opDown BB o p j d) (prOwn_eq c d j) _ _
  | up d j => exact at_eq (fun o p => opUp BB o p j d) (prOwn_eq c d j) _ _
  | zsend t d =>
    refine (at_eq (fun o p => opZsend BB t d ⟨k0_dev61 c, k0_dev61_lt c⟩ o p) (prZsrc_eq c t d) _ (wOff_fits c _ d)).trans ?_
    rw [prUp_eq]; rfl
  | zadd s d =>
    exact (at_eq (fun o p => opZadd BB (zearly s) d o p _ (prZadd c s d).2) (prZsrc_eq c _ d) _ (wOff_fits c _ d)).trans
      (at_eq (fun o p => opZadd BB (zearly s) d _ (wOff_fits c _ d) o p) (prZadd_eq c s d) _ (wOff_fits c _ d))
  | zset s d =>
    exact (at_eq (fun o p => opZset BB (zlate s) d o p _ (prZset c s d).2) (prZsrc_eq c _ d) _ (wOff_fits c _ d)).trans
      (at_eq (fun o p => opZset BB (zlate s) d _ (wOff_fits c _ d) o p) (prZset_eq c s d) _ (wOff_fits c _ d))
  | gelu => exact at_eq (fun o p => opGelu BB o p) (prGelu_eq c) _ _
  | sw d t h => exact at_eq (fun o p => opSw BB d t h o p) (prSrc_eq c d t h) _ (oOff_fits c d _ h)
  | zsw t d => exact at_eq (fun o p => opZsw BB t d o p) (prZsrc_eq c t d) _ (wOff_fits c _ d)

/-- The body the launch runs is the handshake and the events in closed form. -/
theorem body_eq :
    cc0_body (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7 cc0_scratch8
      cc0_scratch9
      = (Prog.lift .deviceId >>= fun c => handshake c (seqs (evs.map (clEv c)))) := by
  refine (body_listed BB (Memref.isWhole_whole _) (Memref.isWhole_whole _) (Memref.isWhole_whole _) (Memref.isWhole_whole _)
    (Memref.isWhole_whole _) (Memref.isWhole_whole _) (Memref.isWhole_whole _)).trans ?_
  unfold listed
  congr 1
  funext c
  rw [show prEv (F := F) BB c = clEv c from funext fun e => prEv_eq c e]

end Cert.Reduce

end
-- ==== Proof.Vals.lean ====
/-
# What every tile holds

The values of the run, for any float values, from the operands the devices hold: the block products, the sums along a
ring, the sums along the depth, the activated slab, and the copies handed around afterwards.
-/
module

public import proofs.«01_k».proof.Proof.Layout
public import Idealize.ShloMosaic.Lib.ValueLayout

@[expose] public section

noncomputable section

namespace Cert.Reduce

open Cert.KernelIdeal Cert.KernelIdeal.Gen
open Idealize.ShloMosaic Idealize.SL.Sem

variable {F : FTy → Type} [FloatOps F]

variable (F) in
/-- The contents of a tile. -/
abbrev Tile : Type := Vec F S16x1024 .f32

/-- The activation of one element. -/
def geluS (x : F .f32) : F .f32 :=
  FloatOps.mulf (FloatOps.mulf (Scalar.ofBits .f32 0x3F000000#32) x)
    (FloatOps.addf (Scalar.ofBits .f32 0x3F800000#32)
      (FloatOps.tanh (FloatOps.mulf (Scalar.ofBits .f32 0x3F4C422A#32)
        (FloatOps.addf x (FloatOps.mulf (FloatOps.mulf (FloatOps.mulf (Scalar.ofBits .f32 0x3D372713#32) x) x) x)))))

/-- The activation of a slab is element by element. -/
theorem pay100_apply (v : Vec F S1x32x1024 .f32) (i : S1x32x1024.Idx) : k0_pay100 v i = geluS (v i) := by
  have h : shapeCast S32x1024 v shapeCasts_S1x32x1024_S32x1024 (Shape.reshapeEquiv shapeCasts_S32x1024_S1x32x1024 i) = v i := by
    unfold shapeCast
    rw [Shape.reshapeEquiv_reshapeEquiv, Shape.reshapeEquiv_self]
  rw [← h]
  rfl

/-- A tile read off half a slab. -/
def sq (v : Vec F S1x16x1024 .f32) : Tile F := fun i => v (Shape.reshapeEquiv squeezes_S1x16x1024_S16x1024.numel_eq i)

theorem sq_inj {v w : Vec F S1x16x1024 .f32} (h : sq v = sq w) : v = w := by
  funext i
  have := congrFun h (Shape.reshapeEquiv squeezes_S1x16x1024_S16x1024.numel_eq.symm i)
  unfold sq at this
  rwa [Shape.reshapeEquiv_reshapeEquiv, Shape.reshapeEquiv_self] at this

/-- The sum of two tiles. -/
def addT (v w : Tile F) : Tile F := fun i => FloatOps.addf (v i) (w i)

theorem pay5_eq (v : Tile F) (w : Vec F S1x16x1024 .f32) : k0_pay5 v w = addT v (sq w) := by
  funext i
  unfold k0_pay5 addT sq
  show FloatOps.addf (shapeCast S16x1024 v shapeCasts_S16x1024_S16x1024 i) _ = _
  unfold shapeCast
  rw [Shape.reshapeEquiv_self]
theorem pay107_eq (w : Vec F S1x16x1024 .f32) : k0_pay107 w = sq w := rfl
theorem sq_pay84 (v : Tile F) : sq (k0_pay84 v) = v := by
  funext i
  unfold sq k0_pay84 shapeCast
  show v _ = v i
  rw [Shape.reshapeEquiv_reshapeEquiv, Shape.reshapeEquiv_reshapeEquiv, Shape.reshapeEquiv_self]
theorem sq_pay93 (v w : Vec F S1x16x1024 .f32) : sq (k0_pay93 v w) = addT (sq v) (sq w) := by
  funext i
  unfold sq k0_pay93 shapeCast
  show FloatOps.addf (v _) (w _) = _
  rw [Shape.reshapeEquiv_reshapeEquiv, Shape.reshapeEquiv_self]
  rfl
theorem sq_pay101 (v : Vec F S1x16x1024 .f32) : sq (k0_pay101 v) = sq v := by
  funext i
  unfold sq k0_pay101 shapeCast
  show v _ = v _
  rw [Shape.reshapeEquiv_reshapeEquiv, Shape.reshapeEquiv_self]

/-! ## The values -/

/-- The sixty-four rows from row `r`. -/
def rowsOf (X : Vec F S1024x512 .f32) (r : ℕ) (hr : r + 64 ≤ 1024) : Vec F S64x512 .f32 := fun i =>
  X (ValueIdx.ix2 (⟨r + (i 0).val, by have : (i 0).val < 64 := (i 0).isLt; omega⟩ : Fin 1024) (⟨(i 1).val, (i 1).isLt⟩ : Fin 512))

/-- Tile `h` of sixty-four rows. -/
def tileOf (X : Vec F S64x1024 .f32) (h : Fin 4) : Tile F := fun i =>
  X (ValueIdx.ix2 (⟨16 * h.val + (i 0).val, by have : (i 0).val < 16 := (i 0).isLt; omega⟩ : Fin 64) (⟨(i 1).val, (i 1).isLt⟩ : Fin 1024))

variable (A : Dev nD → Vec F S1024x512 .f32) (Bm : Dev nD → Vec F S512x1024 .f32)

/-- The block product of a chunk. -/
def mmC (c : Dev nD) (d : Bool) (k : ℕ) : Vec F S64x1024 .f32 :=
  k0_pay1 (rowsOf (A c) (chunkRow c d k) (chunkRow_le c d k)) (Bm c)

/-- The block product of a tile. -/
def mmT (c : Dev nD) (d : Bool) (k : ℕ) (h : Fin 4) : Tile F := tileOf (mmC A Bm c d k) h

/-- The sum along a ring after `s` steps, on the chunk `s` behind. -/
def acc (d : Bool) (h : Fin 4) : ℕ → Dev nD → Tile F
  | 0, c => mmT A Bm c d 0 h
  | s + 1, c => addT (mmT A Bm c d (s + 1) h) (acc d h s (nxt (!d) c))

/-- The slab `l` behind, as a number below four. -/
def slabF (c : Dev nD) (l : ℕ) : Fin 4 := ⟨slab c l, slab_lt c l⟩
/-- How far behind the slab `j` is. -/
def lof (c : Dev nD) (j : Fin 4) : Fin 4 := ⟨(dep c + 4 - j.val) % 4, Nat.mod_lt _ (by decide)⟩

theorem slabF_lof (c : Dev nD) (j : Fin 4) : slabF c (lof c j).val = j := by revert c j; decide +kernel
theorem lof_slabF (c : Dev nD) (l : Fin 4) : lof c (slabF c l.val) = l := by revert c l; decide +kernel

/-- The sum along the depth after `s` steps, on the slab `s` behind. -/
def zacc (d : Bool) : ℕ → Dev nD → Tile F
  | 0, c => acc A Bm d (slabF c 0) 7 c
  | s + 1, c => addT (acc A Bm d (slabF c (s + 1)) 7 c) (zacc d s (dn c))

/-- The activated half slab of a device. -/
def act (c : Dev nD) (d : Bool) : Tile F := fun i => geluS (zacc A Bm d 3 c i)

/-- The half slab `l` behind after the gathering along the depth: the activated one of the layer it came from. -/
def zfin (c : Dev nD) (d : Bool) (l : ℕ) : Tile F := act A Bm (dn^[(l + 1) % 4] c) d

/-- The tile that comes up from the slabs. -/
def own (c : Dev nD) (d : Bool) (h : Fin 4) : Tile F := zfin A Bm c d (lof c h).val

/-- What a place holds at each stage: the block product, the sum, the result. -/
def pcVal (c : Dev nD) : Pc → ℕ → Tile F
  | .inl (d, k, h), n =>
    if n = 1 then mmT A Bm c d k.val h else if n = 2 then acc A Bm d h k.val c
    else own A Bm ((nxt (!d))^[(k.val + 1) % 8] c) d h
  | .inr (l, d), n =>
    if n = 1 then acc A Bm d (slabF c l.val) 7 c else if n = 2 then zacc A Bm d l.val c
    else zfin A Bm c d l.val

/-- The stage at which a transfer takes its place. -/
def srcSt : Tr → ℕ
  | .inl (_, t, _) => if t.val < 7 then 2 else 3
  | .inr (t, _) => if t.val < 3 then 2 else 3

/-- What a device sends. -/
def trVal (c : Dev nD) (x : Tr) : Tile F := pcVal A Bm c (srcP x) (srcSt x)
/-- What a device receives. -/
def rcvVal (c : Dev nD) (x : Tr) : Tile F := trVal A Bm (frm c x) x

/-! ## How a step changes them -/

theorem val_mm0 (c : Dev nD) (d : Bool) (h : Fin 4) :
    pcVal A Bm c (.inl (d, 0, h)) 2 = pcVal A Bm c (.inl (d, 0, h)) 1 := rfl
theorem val_add (c : Dev nD) (d : Bool) (s : Fin 7) (h : Fin 4) :
    addT (pcVal A Bm c (.inl (d, addK s, h)) 1) (rcvVal A Bm c (.inl (d, early s, h))) = pcVal A Bm c (.inl (d, addK s, h)) 2 := by
  fin_cases s <;> rfl
theorem val_set (c : Dev nD) (d : Bool) (s : Fin 7) (h : Fin 4) :
    rcvVal A Bm c (.inl (d, late s, h)) = pcVal A Bm c (.inl (d, setK s, h)) 3 := by
  fin_cases s <;> rfl
theorem val_down (c : Dev nD) (d : Bool) (j : Fin 4) :
    pcVal A Bm c (.inl (d, 7, j)) 2 = pcVal A Bm c (.inr (lof c j, d)) 1 := by
  show acc A Bm d j 7 c = acc A Bm d (slabF c (lof c j).val) 7 c
  rw [slabF_lof]
theorem val_down0 (c : Dev nD) (d : Bool) : pcVal A Bm c (.inr (0, d)) 2 = pcVal A Bm c (.inr (0, d)) 1 := rfl
theorem val_zadd (c : Dev nD) (d : Bool) (s : Fin 3) :
    addT (pcVal A Bm c (.inr (addL s, d)) 1) (rcvVal A Bm c (.inr (zearly s, d))) = pcVal A Bm c (.inr (addL s, d)) 2 := by
  fin_cases s <;> rfl
theorem val_zset (c : Dev nD) (d : Bool) (s : Fin 3) :
    rcvVal A Bm c (.inr (zlate s, d)) = pcVal A Bm c (.inr (setL s, d)) 3 := by
  fin_cases s <;> rfl
theorem val_up (c : Dev nD) (d : Bool) (j : Fin 4) :
    pcVal A Bm c (.inr (lof c j, d)) 3 = pcVal A Bm c (.inl (d, 7, j)) 3 := rfl
theorem val_gelu (c : Dev nD) (d : Bool) :
    (fun i => geluS (pcVal A Bm c (.inr (3, d)) 2 i)) = pcVal A Bm c (.inr (3, d)) 3 := rfl

end Cert.Reduce

end
-- ==== Proof.Holds.lean ====
/-
# A view that holds a value

One assertion serves every tile of the run: a share of the elements of a view of one device's buffer, at contents the
view reads as a given value. Loads, stores, shares and the joining of tiles are stated over it.
-/
module

public import proofs.«01_k».proof.Proof.Vals
public import proofs.«01_k».proof.Proof.Gen.KernelIdeal.Launch
public import Idealize.ShloMosaic.Lib.Pipeline.Launch
public import Idealize.ShloMosaic.Lib.Tactic

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds of the cells of the body, four duties at most. -/
abbrev UB : Type := URounds (GSem nD τ sig) (Fin 4)
/-- The resource algebra of the proof: that of the pipeline and that of the body. -/
abbrev UU : Type := UR sig nD τ × UB

local notation "𝕄" => MT nD τ sig Unit (Elt F) ℕ UU ℕ

variable {s s' : Shape} {e : EltTy}

/-- A share `q` of a view on device `c`, holding the value `V`. -/
def holds (v : View sig .tc .vmem s e) (c : Dev nD) (q : PosShare TreeShare) (V : s.Idx → Elt F e) : sProp 𝕄 :=
  iprop(∃ f : Buf (Elt F) (v.loc (c : Thread nD τ)), ⌜v.read (Elt F) f = V⌝ ∗ (v.loc (c : Thread nD τ) ↦[v.set]{q} f))

/-- The whole of a view on device `c`, at any contents. -/
def raw (v : View sig .tc .vmem s e) (c : Dev nD) : sProp 𝕄 := iprop(∃ V : s.Idx → Elt F e, holds v c fullShare V)

instance holds_storable (v : View sig .tc .vmem s e) (c : Dev nD) (q) (V : s.Idx → Elt F e) :
    BI.Storable (upEmb : UEmb _ 𝕄) (holds v c q V) := by unfold holds; infer_instance
instance raw_storable (v : View sig .tc .vmem s e) (c : Dev nD) :
    BI.Storable (upEmb : UEmb _ 𝕄) (raw (F := F) v c) := by unfold raw; infer_instance

/-- What holds a value may be forgotten to hold it. -/
theorem holds_raw (v : View sig .tc .vmem s e) (c : Dev nD) (V : s.Idx → Elt F e) : holds v c fullShare V ⊢ (raw v c : sProp 𝕄) := by
  unfold raw
  iintro H
  iexists V; iexact H

/-- A full share is two halves at the same value. -/
theorem holds_halve (v : View sig .tc .vmem s e) (c : Dev nD) (V : s.Idx → Elt F e) :
    holds v c fullShare V ⊢ (iprop(holds v c fullShare.left V ∗ holds v c fullShare.right V) : sProp 𝕄) := by
  unfold holds
  iintro ⟨%f, %hf, H⟩
  ihave H := (pointsTo_share (PosShare.mem_left_op_right fullShare)).1 $$ H
  icases H with ⟨H1, H2⟩
  isplitl [H1]
  · iexists f; isplitr; · ipureintro; exact hf
    iexact H1
  · iexists f; isplitr; · ipureintro; exact hf
    iexact H2

/-- Two halves are a full share. -/
theorem holds_whole (v : View sig .tc .vmem s e) (c : Dev nD) (V : s.Idx → Elt F e) :
    iprop(holds v c fullShare.left V ∗ holds v c fullShare.right V) ⊢ (holds v c fullShare V : sProp 𝕄) := by
  unfold holds
  iintro ⟨⟨%f, %hf, H1⟩, ⟨%g, %hg, H2⟩⟩
  have key : iprop((v.loc (c : Thread nD τ) ↦[v.set]{fullShare.left} f) ∗ (v.loc (c : Thread nD τ) ↦[v.set]{fullShare.right} g))
      ⊢ (v.loc (c : Thread nD τ) ↦[v.set]{fullShare} f : sProp 𝕄) := by
    have hfg : v.read (Elt F) g = v.read (Elt F) f := hg.trans hf.symm
    have : (v.loc (c : Thread nD τ) ↦[v.set]{fullShare.right} g : sProp 𝕄) = v.loc (c : Thread nD τ) ↦[v.set]{fullShare.right} f := by
      refine pointsTo_congr fun i hi => ?_
      obtain ⟨x, -, rfl⟩ := Finset.mem_map.mp hi
      have := congrFun hfg x
      rw [View.read_apply, View.read_apply] at this
      exact (cast_inj _).mp this
    rw [this]
    exact (pointsTo_share (PosShare.mem_left_op_right fullShare)).2
  iexists f; isplitr; · ipureintro; exact hf
  iapply key
  isplitl [H1] <;> iassumption

/-- The defaults of the program's effects. -/
abbrev 𝒱₀ : Variants := Variants.none

section Access
variable (c : Dev nD) {cs : CoreSpace} (m : Memref sig .tc .vmem s e) (r : Rect s)

/-- Loading a rectangle that holds `V` gives `V`. -/
theorem wp_ld {α : Type} {Q : α → sProp 𝕄} {hl : m.view.LoadsAt r} {q} {V : r.shape.Idx → Elt F e} {k : (r.shape.Idx → Elt F e) → Prog (TpuEff nD τ sig (Elt F) Λ₀ .tc) α} :
    holds (m.access r) c q V
      ⊢ iprop((holds (m.access r) c q V -∗ wp frame (wpE (defs₀ (F := F)) 𝒱₀ (c : Thread nD τ) none) Set.univ (k V) Q)
        -∗ wp frame (wpE (defs₀ (F := F)) 𝒱₀ (c : Thread nD τ) none) Set.univ (.op (.load m r hl) k) Q) := by
  unfold holds
  iintro ⟨%f, %hf, H⟩ Hk
  iapply (wp_load_rect 𝒱₀ (c : Thread nD τ) none Set.univ (m := m) (r := r) (Finset.Subset.refl _)) $$ H
  iintro H
  rw [hf]
  iapply Hk
  iexists f; isplitr; · ipureintro; exact hf
  iexact H

/-- Storing a value in a rectangle makes it hold the value. -/
theorem wp_st {α : Type} {Q : α → sProp 𝕄} {w : r.shape.Idx → Elt F e} {hx : (m.access r).Stores Finset.univ} {hm} {k : PUnit → Prog (TpuEff nD τ sig (Elt F) Λ₀ .tc) α} :
    raw (m.access r) c
      ⊢ iprop((holds (m.access r) c fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  unfold raw holds
  iintro ⟨%V, %f, -, H⟩ Hk
  iapply (wp_store 𝒱₀ (c : Thread nD τ) none Set.univ (m := m) (r := r) (Mk := Finset.univ) (S := (m.access r).set) (Finset.Subset.refl _)) $$ H
  iintro H
  iapply Hk
  iexists _; isplitr
  swap; · iexact H
  ipureintro; exact View.read_write_univ _ _

end Access

/-! ## Half slabs and landing tiles: a rectangle with a leading axis of one -/

section Squeezed
variable (v : View sig .tc .vmem S1x16x1024 .f32) (c : Dev nD)

/-- The tile of a rectangle with a leading axis of one. -/
abbrev sqV : View sig .tc .vmem S16x1024 .f32 := v.reshape S16x1024 squeezes_S1x16x1024_S16x1024.numel_eq

theorem sqV_set : (sqV v).set = v.set := View.set_reshape _ _

/-- The tile holds what the rectangle holds, the axis dropped. -/
theorem holds_sq {q} {V : Vec F S1x16x1024 .f32} : holds v c q V ⊢ (holds (sqV v) c q (sq V) : sProp 𝕄) := by
  unfold holds
  iintro ⟨%f, %hf, H⟩
  iexists f; isplitr; · ipureintro; rw [← hf]; rfl
  rw [sqV_set]; iexact H
theorem holds_unsq {q} {W : Tile F} : holds (sqV v) c q W ⊢ (iprop(∃ V, ⌜sq V = W⌝ ∗ holds v c q V) : sProp 𝕄) := by
  unfold holds
  iintro ⟨%f, %hf, H⟩
  iexists (v.read (Elt F) f); isplitr; · ipureintro; exact hf
  iexists f; isplitr; · ipureintro; rfl
  rw [sqV_set]; iexact H
theorem raw_unsq : raw (sqV v) c ⊢ (raw (F := F) v c : sProp 𝕄) := by
  unfold raw
  iintro ⟨%W, H⟩
  ihave H := (holds_unsq v c) $$ H
  icases H with ⟨%V, -, H⟩
  iexists V; iexact H

end Squeezed

/-! ## A buffer in pieces -/

section Pieces
variable {T : Type} [Fintype T] [DecidableEq T] {st : Shape} (b : Ref sig .tc) (c : Dev nD)

/-- A share of the elements `ι` of a buffer on device `c`, holding the value `V`. -/
def at_ (ι : s.Idx ↪ b.ty.Idx) (q : PosShare TreeShare) (V : s.Idx → Elt F b.ty.elt) : sProp 𝕄 :=
  iprop(∃ f : Buf (Elt F) ((c : Thread nD τ).loc b), ⌜(fun x => f (ι x)) = V⌝ ∗ ((c : Thread nD τ).loc b ↦[Finset.univ.map ι]{q} f))

variable {b} {c}
variable {ι : s.Idx ↪ b.ty.Idx} {w : T → (st.Idx ↪ b.ty.Idx)} {g : T → st.Idx → s.Idx} (hw : ∀ t x, w t x = ι (g t x))
  (hc : ∀ i, ∃ t x, g t x = i) (hd : ∀ t t' x x', g t x = g t' x' → t = t')

include hw hc in
theorem pieces_cover : Finset.univ.map ι = Finset.univ.biUnion fun t => Finset.univ.map (w t) := by
  ext i
  simp only [Finset.mem_map, Finset.mem_univ, true_and, Finset.mem_biUnion]
  constructor
  · rintro ⟨x, rfl⟩
    obtain ⟨t, y, rfl⟩ := hc x
    exact ⟨t, y, hw t y⟩
  · rintro ⟨t, y, rfl⟩
    exact ⟨g t y, (hw t y).symm⟩
include hw hd in
theorem pieces_disjoint (t : T) (_ : t ∈ (Finset.univ : Finset T)) (t' : T) (_ : t' ∈ (Finset.univ : Finset T)) (h : t ≠ t') :
    Disjoint (Finset.univ.map (w t)) (Finset.univ.map (w t')) := by
  rw [Finset.disjoint_left]
  simp only [Finset.mem_map, Finset.mem_univ, true_and]
  rintro i ⟨x, rfl⟩ ⟨x', hx⟩
  rw [hw, hw] at hx
  exact h (hd _ _ _ _ (ι.injective hx).symm)

include hw hc hd in
/-- What holds a value holds its pieces. -/
theorem at_split {q} {V : s.Idx → Elt F b.ty.elt} :
    at_ b c ι q V ⊢ (bigSep Finset.univ fun t => at_ b c (w t) q fun x => V (g t x) : sProp 𝕄) := by
  unfold at_
  iintro ⟨%f, %hf, H⟩
  have key (t : T) : ((c : Thread nD τ).loc b ↦[Finset.univ.map (w t)]{q} f : sProp 𝕄) ⊢ iprop(∃ f' : Buf (Elt F) ((c : Thread nD τ).loc b),
      ⌜(fun x => f' (w t x)) = fun x => V (g t x)⌝ ∗ ((c : Thread nD τ).loc b ↦[Finset.univ.map (w t)]{q} f')) := by
    iintro H
    iexists f; isplitr
    · ipureintro; funext x; rw [← hf, hw]
    iexact H
  ihave H := (Entails.of_eq ((congrArg (fun S => ((c : Thread nD τ).loc b ↦[S]{q} f : sProp 𝕄)) (pieces_cover hw hc)).trans
    (pointsTo_biUnion _ _ (pieces_disjoint hw hd)))) $$ H
  iapply (show _ ⊢ _ from bigSep_mono (s := Finset.univ) fun t _ => key t) $$ H

include hw hc hd in
/-- The pieces of a value make up what holds it. -/
theorem at_join {q} {V : s.Idx → Elt F b.ty.elt} {U : T → st.Idx → Elt F b.ty.elt} (hV : ∀ t x, V (g t x) = U t x) :
    (bigSep Finset.univ fun t => at_ b c (w t) q (U t) : sProp 𝕄) ⊢ at_ b c ι q V := by
  unfold at_
  have : Nonempty (Buf (Elt F) ((c : Thread nD τ).loc b)) := ⟨fun _ => (Elt.inhabited F _).default⟩
  iintro H
  ihave H := (BI.bigSep_exists_pi Finset.univ fun (t : T) (f : Buf (Elt F) ((c : Thread nD τ).loc b)) =>
    (iprop(⌜(fun x => f (w t x)) = U t⌝ ∗ ((c : Thread nD τ).loc b ↦[Finset.univ.map (w t)]{q} f)) : sProp 𝕄)) $$ H
  icases H with ⟨%fs, H⟩
  ihave H := (bigSep_pure_sep Finset.univ (fun t : T => (fun x => fs t (w t x)) = U t)
    fun t => ((c : Thread nD τ).loc b ↦[Finset.univ.map (w t)]{q} fs t : sProp 𝕄)) $$ H
  icases H with ⟨%hfs, H⟩
  ihave H := (pointsTo_biUnion_join Finset.univ (fun t => Finset.univ.map (w t)) fs (fun _ => (Elt.inhabited F _).default) (pieces_disjoint (w := w) hw hd)) $$ H
  icases H with ⟨%f, %hf, H⟩
  iexists f
  isplitr
  · ipureintro
    funext i
    obtain ⟨t, x, rfl⟩ := hc i
    rw [← hw, hf t (Finset.mem_univ _) _ (Finset.mem_map_of_mem _ (Finset.mem_univ _)), hV]
    exact congrFun (hfs t (Finset.mem_univ _)) x
  rw [pieces_cover hw hc]
  iexact H

end Pieces

end Cert.Reduce

end
-- ==== Proof.Sched.lean ====
/-
# The cells, what they hand over, and the levels

Every semaphore of the body is a cell of one round. The barrier cell of a device takes one unit from each of its four
neighbours; with its unit a neighbour hands over the landing buffers its device may write. A cell of departure hands
back half of the place that was sent, a cell of arrival the landed tile. The levels rise in the order in which the
transfers are sent, so that no device waits for a transfer that depends on one of its own it has yet to send.
-/
module

public import proofs.«01_k».proof.Proof.Holds

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The cells of a device: the barrier's, and for each transfer the one of departure (`false`) and of arrival (`true`). -/
abbrev CK : Type := Option (Bool × Tr)

/-- The semaphore of a cell. -/
def csem : CK → SemLoc sig
  | none => .reg barS
  | some (false, x) => .dma (sndS x)
  | some (true, x) => .dma (rcvS x)

abbrev barCell (c : Dev nD) : GSem nD τ sig := ((c : Thread nD τ), .reg barS)
abbrev sendCell (c : Dev nD) (x : Tr) : GSem nD τ sig := ((c : Thread nD τ), .dma (sndS x))
abbrev recvCell (c : Dev nD) (x : Tr) : GSem nD τ sig := ((c : Thread nD τ), .dma (rcvS x))
abbrev kcell (ck : Dev nD × CK) : GSem nD τ sig := ((ck.1 : Thread nD τ), csem ck.2)

/-- The ring transfer a number stands for. -/
def ringTr (d : Bool) (n : ℕ) : Tr := .inl (d, ⟨n / 4 % 14, Nat.mod_lt _ (by decide)⟩, ⟨n % 4, Nat.mod_lt _ (by decide)⟩)
/-- The depth transfer a number stands for. -/
def depthTr (n : ℕ) : Tr := .inr (⟨n / 2 % 6, Nat.mod_lt _ (by decide)⟩, n % 2 == 0)

/-- The cell of a transfer a number of a semaphore stands for. -/
def dmaCode (n : ℕ) : Bool × Tr :=
  if n < 59 then (false, ringTr true (n - 3))
  else if n < 115 then (true, ringTr true (n - 59))
  else if n < 171 then (false, ringTr false (n - 115))
  else if n < 227 then (true, ringTr false (n - 171))
  else if n < 239 then (false, depthTr (n - 227))
  else (true, depthTr (n - 239))

/-- The cell a semaphore belongs to. -/
def kindOf : SemLoc sig → Option CK
  | .reg s => if s = barS then some none else none
  | .dma q => if q.val < 3 then none else some (some (dmaCode q.val))

theorem code_snd : ∀ x : Tr, 3 ≤ (sndS x).val ∧ dmaCode (sndS x).val = (false, x) := by decide +kernel
theorem code_rcv : ∀ x : Tr, 3 ≤ (rcvS x).val ∧ dmaCode (rcvS x).val = (true, x) := by decide +kernel

theorem kindOf_csem (k : CK) : kindOf (csem k) = some k := by
  rcases k with _ | ⟨_ | _, x⟩
  · show (if barS = barS then some none else none) = some (none : CK)
    rw [if_pos rfl]
  · show (if (sndS x).val < 3 then none else some (some (dmaCode (sndS x).val))) = some (some (false, x))
    rw [if_neg (by have := (code_snd x).1; omega), (code_snd x).2]
  · show (if (rcvS x).val < 3 then none else some (some (dmaCode (rcvS x).val))) = some (some (true, x))
    rw [if_neg (by have := (code_rcv x).1; omega), (code_rcv x).2]

theorem kindOf_bar : kindOf (.reg barS) = some none := kindOf_csem none
theorem kindOf_snd (x : Tr) : kindOf (.dma (sndS x)) = some (some (false, x)) := kindOf_csem (some (false, x))
theorem kindOf_rcv (x : Tr) : kindOf (.dma (rcvS x)) = some (some (true, x)) := kindOf_csem (some (true, x))

theorem csem_injective : Function.Injective csem := fun k k' h => by
  have := congrArg kindOf h
  rw [kindOf_csem, kindOf_csem] at this
  exact Option.some.inj this

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The units a transfer of a tile counts. -/
def N : ℕ := (slM (.inr (0, true))).view.dmaCredit
theorem N_pos : 0 < N := View.dmaCredit_pos _ (by decide)
theorem credit_sl (x : Tr) : (slM x).view.dmaCredit = N := by
  rcases x with ⟨d, t, h⟩ | ⟨t, d⟩
  · cases d <;> rfl
  · rfl
theorem credit_pc (c : Dev nD) (p : Pc) : (pcM c p).view.dmaCredit = N := by
  rcases p with ⟨d, t, h⟩ | ⟨t, d⟩ <;> rfl

/-! ## What the cells hand over -/

variable (A : Dev nD → Vec F S1024x512 .f32) (Bm : Dev nD → Vec F S512x1024 .f32)

/-- The landing tile of a transfer on a device, at any contents. -/
def land (c : Dev nD) (x : Tr) : sProp 𝕄 := raw (slM x).view c

/-- What the units of a device's barrier cell hand over: the landing tiles on the neighbour above along the depth, none
from the one below, the landing tiles on either neighbour of its ring. -/
def barPay (c : Dev nD) : Fin 4 → sProp 𝕄
  | 0 => bigSep Finset.univ fun y : Fin 6 × Bool => land (up c) (.inr y)
  | 1 => iprop(emp)
  | 2 => bigSep Finset.univ fun y : Fin 14 × Fin 4 => land (nxt true c) (.inl (true, y))
  | 3 => bigSep Finset.univ fun y : Fin 14 × Fin 4 => land (nxt false c) (.inl (false, y))
/-- What a departure hands back: half of the place. -/
def sndPay (c : Dev nD) (x : Tr) : sProp 𝕄 := holds (pcM c (srcP x)).view c fullShare.right (trVal A Bm c x)
/-- What an arrival hands over: the landed tile. -/
def rcvPay (c : Dev nD) (x : Tr) : sProp 𝕄 := holds (slM x).view c fullShare (rcvVal A Bm c x)

def dutsOf : Option CK → Finset (Fin 4)
  | some none => Finset.univ
  | some (some _) => {0}
  | none => ∅
def amtOf : Option CK → ℕ
  | some (some _) => N
  | _ => 1
def payOf (c : Dev nD) (d : Fin 4) : Option CK → sProp 𝕄
  | some none => barPay c d
  | some (some (false, x)) => sndPay A Bm c x
  | some (some (true, x)) => rcvPay A Bm c x
  | none => iprop(emp)

/-- The rounds of the cells: one, round 0. -/
def Rd : Rounds.Schedule (GSem nD τ sig) (Fin 4) 𝕄 where
  duties g r := if r = 0 ∧ g.1.2 = .tc then dutsOf (kindOf g.2) else ∅
  unitless _ := False
  amount g _ _ := amtOf (kindOf g.2)
  payload g _ d := payOf A Bm g.1.1 d (kindOf g.2)
  amount_pos g _ _ _ := by
    unfold amtOf
    split
    · exact N_pos
    · exact Nat.one_pos

instance land_storable (c : Dev nD) (x : Tr) : BI.Storable (upEmb : UEmb _ 𝕄) (land (F := F) c x) := by
  unfold land; infer_instance
instance barPay_storable (c : Dev nD) (d : Fin 4) : BI.Storable (upEmb : UEmb _ 𝕄) (barPay (F := F) c d) := by
  unfold barPay; split <;> infer_instance
instance sndPay_storable (c : Dev nD) (x : Tr) : BI.Storable (upEmb : UEmb _ 𝕄) (sndPay A Bm c x) := by
  unfold sndPay; infer_instance
instance rcvPay_storable (c : Dev nD) (x : Tr) : BI.Storable (upEmb : UEmb _ 𝕄) (rcvPay A Bm c x) := by
  unfold rcvPay; infer_instance
instance Rd_payload_storable (g : GSem nD τ sig) (r : ℕ) (d : Fin 4) :
    BI.Storable (upEmb : UEmb _ 𝕄) ((Rd A Bm).payload g r d) := by
  show BI.Storable upEmb (payOf A Bm g.1.1 d (kindOf g.2))
  unfold payOf; split <;> infer_instance

theorem duties_kcell (c : Dev nD) (k : CK) : (Rd A Bm).duties ((c : Thread nD τ), csem k) 0 = dutsOf (some k) := by
  dsimp only [Rd]; rw [if_pos ⟨rfl, rfl⟩, kindOf_csem]
theorem duties_later (g : GSem nD τ sig) : ∀ r, 1 ≤ r → (Rd A Bm).duties g r = ∅ :=
  fun r hr => by dsimp only [Rd]; rw [if_neg fun h => by omega]
theorem amount_kcell (c : Dev nD) (k : CK) (d : Fin 4) : (Rd A Bm).amount ((c : Thread nD τ), csem k) 0 d = amtOf (some k) := by
  dsimp only [Rd]; rw [kindOf_csem]
theorem payload_kcell (c : Dev nD) (k : CK) (d : Fin 4) : (Rd A Bm).payload ((c : Thread nD τ), csem k) 0 d = payOf A Bm c d (some k) := by
  dsimp only [Rd]; rw [kindOf_csem]

theorem expect_bar (c : Dev nD) : (Rd A Bm).expect (barCell c) 0 = 4 := by
  unfold Schedule.expect Schedule.amountOf
  rw [show (Rd A Bm).duties (barCell c) 0 = Finset.univ from duties_kcell A Bm c none,
    Finset.sum_congr rfl fun d _ => show (Rd A Bm).amount (barCell c) 0 d = 1 from amount_kcell A Bm c none d]
  rfl
theorem expect_dma (c : Dev nD) (bx : Bool × Tr) : (Rd A Bm).expect ((c : Thread nD τ), csem (some bx)) 0 = N := by
  unfold Schedule.expect Schedule.amountOf
  rw [duties_kcell]
  show ∑ d ∈ {0}, _ = N
  rw [Finset.sum_singleton, amount_kcell]
  rfl
/-- The round of a transfer's cell hands over its one payload. -/
theorem rest_dma (c : Dev nD) (bx : Bool × Tr) :
    bigSep ((Rd A Bm).duties ((c : Thread nD τ), csem (some bx)) 0 \ ∅) (fun d => (Rd A Bm).payload ((c : Thread nD τ), csem (some bx)) 0 d)
      = payOf A Bm c 0 (some (some bx)) := by
  rw [Finset.sdiff_empty, duties_kcell]
  show bigSep {0} _ = _
  rw [bigSep_singleton, payload_kcell]
/-- The round of the barrier's cell hands over the four payloads. -/
theorem rest_bar (c : Dev nD) :
    bigSep ((Rd A Bm).duties (barCell c) 0 \ ∅) (fun d => (Rd A Bm).payload (barCell c) 0 d)
      = iprop(barPay c 0 ∗ barPay c 1 ∗ barPay c 2 ∗ barPay c 3) := by
  rw [Finset.sdiff_empty, show (Rd A Bm).duties (barCell c) 0 = Finset.univ from duties_kcell A Bm c none,
    bigSep_congr fun d _ => show (Rd A Bm).payload (barCell c) 0 d = barPay c d from payload_kcell A Bm c none d, bigSep_univ_eq_bigSepL [0, 1, 2, 3] (by decide) (by decide)]
  rfl

/-! ## The order of the transfers, and the levels -/

/-- The place of a transfer in the order of sending. -/
def idx : Tr → ℕ
  | .inl (d, t, h) => (if t.val < 7 then 8 * t.val else 12 + 8 * t.val) + 2 * h.val + (if d then 0 else 1)
  | .inr (t, d) => 56 + 2 * t.val + (if d then 0 else 1)
/-- The place of a transfer in the order in which the departures are waited for. -/
def wno (x : Tr) : ℕ := if idx x < 56 then idx x + 6 else if idx x < 62 then idx x - 56 else idx x
/-- The level of the arrival of the transfer in place `i`. -/
def lvl (i : ℕ) : ℕ := if i < 56 then 2 + i / 8 else if i < 68 then 9 + (i - 56) / 2 else 15 + (i - 68) / 8

theorem idx_inj : Function.Injective idx := by
  have : ∀ x y : Tr, idx x = idx y → x = y := by decide +kernel
  exact this
theorem wno_inj : Function.Injective wno := by
  have : ∀ x y : Tr, wno x = wno y → x = y := by decide +kernel
  exact this
theorem idx_lt (x : Tr) : idx x < 124 := by revert x; decide +kernel
theorem wno_lt (x : Tr) : wno x < 124 := by revert x; decide +kernel
theorem lvl_mono {i j : ℕ} (h : i ≤ j) : lvl i ≤ lvl j := by
  unfold lvl; split <;> split <;> (try split) <;> (try split) <;> omega
theorem two_le_lvl (i : ℕ) : 2 ≤ lvl i := by unfold lvl; split <;> (try split) <;> omega

def lvOf : Option CK → ℕ
  | some none => 1
  | some (some (true, x)) => lvl (idx x)
  | _ => 0
def L (g : GSem nD τ sig) : Finset Unit := if g.1.2 = .tc then {()} else ∅
/-- The levels: staging and departures at 0, the barrier at 1, the arrivals above. -/
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl

/-- What a device owes the arrivals of the transfers from place `k` on. -/
def owed (c : Dev nD) (k : ℕ) : CellTallies nD τ sig Unit :=
  ∑ x : Tr, if k ≤ idx x then tallyAt (recvCell (tgt c x) x) () N else 0

theorem owed_step (c : Dev nD) (x : Tr) : owed c (idx x) = owed c (idx x + 1) + tallyAt (recvCell (tgt c x) x) () N := by
  have key (y : Tr) : (if idx x ≤ idx y then tallyAt (recvCell (tgt c y) y) () N else 0 : CellTallies nD τ sig Unit)
      = (if idx x + 1 ≤ idx y then tallyAt (recvCell (tgt c y) y) () N else 0)
        + if y = x then tallyAt (recvCell (tgt c x) x) () N else 0 := by
    by_cases h : y = x
    · subst h; rw [if_pos le_rfl, if_neg (by omega), if_pos rfl, zero_add]
    · have : idx y ≠ idx x := fun e => h (idx_inj e)
      rw [if_neg h, add_zero]
      by_cases h' : idx x ≤ idx y
      · rw [if_pos h', if_pos (by omega)]
      · rw [if_neg h', if_neg (by omega)]
  unfold owed
  rw [Finset.sum_congr rfl fun y _ => key y, Finset.sum_add_distrib, Finset.sum_ite_eq' Finset.univ x, if_pos (Finset.mem_univ _)]
theorem owed_end (c : Dev nD) : owed c 124 = 0 := by
  unfold owed
  exact Finset.sum_eq_zero fun x _ => if_neg (by have := idx_lt x; omega)

theorem tally_sum_apply {X : Type} [DecidableEq X] (S : Finset X) (f : X → CellTallies nD τ sig Unit) (g : GSem nD τ sig) (u : Unit) :
    (∑ x ∈ S, f x) g u = ∑ x ∈ S, f x g u := by
  induction S using Finset.induction_on with
  | empty => rfl
  | insert x S hx ih => rw [Finset.sum_insert hx, Finset.sum_insert hx, ← ih]; rfl

theorem owed_pos {c : Dev nD} {k : ℕ} {g : GSem nD τ sig} {u : Unit} (h : 0 < owed c k g u) :
    ∃ x, k ≤ idx x ∧ g = recvCell (tgt c x) x := by
  unfold owed at h
  rw [tally_sum_apply] at h
  obtain ⟨x, -, hx⟩ := Finset.exists_ne_zero_of_sum_ne_zero (Nat.pos_iff_ne_zero.mp h)
  by_cases hk : k ≤ idx x
  · rw [if_pos hk, tallyAt_apply] at hx
    by_cases hg : g = recvCell (tgt c x) x ∧ u = ()
    · exact ⟨x, hk, hg.1⟩
    · rw [if_neg hg] at hx; exact absurd rfl hx
  · rw [if_neg hk] at hx; exact absurd rfl hx

/-- A device may wait at a level below the arrivals it still owes. -/
theorem mayWait_owed (c : Dev nD) (sm : SemLoc sig) (k : ℕ) (h : ∀ x, k ≤ idx x → lvOf (kindOf sm) < lvl (idx x)) :
    (levAts L lv : sProp 𝕄) ⊢ MayWait (c : Thread nD τ) sm () (owed c k) :=
  MayOwe.of_cut (L := L) (lev := lv) (lvOf (kindOf sm))
    (fun p hp => by rw [Finset.mem_singleton.mp hp, L_tc]; exact Finset.mem_singleton_self _)
    (fun g u hg => by obtain ⟨x, -, rfl⟩ := owed_pos hg; exact Finset.mem_singleton_self _)
    (fun p hp => by rw [Finset.mem_singleton.mp hp]; exact le_refl _)
    (fun g u hg => by
      obtain ⟨x, hx, rfl⟩ := owed_pos hg
      show lvOf (kindOf sm) < lvOf (kindOf (.dma (rcvS x)))
      rw [kindOf_rcv]
      exact h x hx)

end Cert.Reduce

end
-- ==== Proof.Mach.lean ====
/-
# What a device has during the run

The resources of a device between two events: its operands, its places at their stages, what it has for each transfer it
makes and each it receives, and what it still owes. The rules for sending, for the two waits, and for taking a place out
and putting it back.
-/
module

public import proofs.«01_k».proof.Proof.Sched

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S1024x512 .f32) (Bm : Dev nD → Vec F S512x1024 .f32)

/-- What every device knows: the invariants of all cells under the names `K`, that their round has begun, and the levels. -/
def known (K : Dev nD × CK → ℕ) : sProp 𝕄 :=
  iprop(bigSep Finset.univ (fun ck : Dev nD × CK => iprop(cellInv ER (Rd A Bm) (K ck) (kcell ck) ∗ reached ER (kcell ck) 0)) ∗ levAts L lv)

instance known_persistent (K : Dev nD × CK → ℕ) : BI.Persistent (known A Bm K) := by unfold known; infer_instance

theorem known_inv (K : Dev nD × CK → ℕ) (c : Dev nD) (k : CK) : known A Bm K ⊢ cellInv ER (Rd A Bm) (K (c, k)) ((c : Thread nD τ), csem k) := by
  classical
  unfold known
  iintro ⟨H, -⟩
  ihave H := (show _ ⊢ _ from bigSep_elim (Finset.mem_univ ((c, k) : Dev nD × CK))) $$ H
  icases H with ⟨H, -⟩
  iexact H
theorem known_reached (K : Dev nD × CK → ℕ) (c : Dev nD) (k : CK) : known A Bm K ⊢ reached ER ((c : Thread nD τ), csem k) 0 := by
  classical
  unfold known
  iintro ⟨H, -⟩
  ihave H := (show _ ⊢ _ from bigSep_elim (Finset.mem_univ ((c, k) : Dev nD × CK))) $$ H
  icases H with ⟨-, H⟩
  iexact H
/-- A device may wait at a level below the arrivals it still owes. -/
theorem known_may (K : Dev nD × CK → ℕ) (c : Dev nD) (sm : SemLoc sig) (k : ℕ) (h : ∀ x, k ≤ idx x → lvOf (kindOf sm) < lvl (idx x)) :
    known A Bm K ⊢ MayWait (c : Thread nD τ) sm () (owed c k) := by
  unfold known
  iintro ⟨-, H⟩
  iapply (mayWait_owed c sm k h) $$ H

/-! ## The resources -/

/-- A place by a code: 0 at any contents, 1 to 3 at that stage, 5 to 7 at stage 1 to 3 with a half lent to a transfer,
above that taken out. -/
def plA (c : Dev nD) (p : Pc) (n : ℕ) : sProp 𝕄 :=
  if n = 0 then raw (pcM c p).view c
  else if n < 4 then holds (pcM c p).view c fullShare (pcVal A Bm c p n)
  else if n < 8 then holds (pcM c p).view c fullShare.left (pcVal A Bm c p (n - 4))
  else iprop(emp)

/-- What a device has for a transfer it makes, with `k` transfers made and `v` departures waited for. -/
def depA (c : Dev nD) (k v : ℕ) (x : Tr) : sProp 𝕄 :=
  if k ≤ idx x then iprop(dutyTok ER (sendCell c x) 0 0 ∗ dutyTok ER (recvCell (tgt c x) x) 0 0 ∗ land (tgt c x) x ∗ atPos ER (sendCell c x) 0 ∅ 0)
  else if v ≤ wno x then iprop(cred (tallyAt (sendCell c x) () N) ∗ atPos ER (sendCell c x) 0 ∅ 0)
  else atPos ER (sendCell c x) 1 ∅ 0

/-- What a device has for a transfer it receives, with `j` received. -/
def arrA (c : Dev nD) (j : ℕ) (x : Tr) : sProp 𝕄 :=
  if j ≤ idx x then iprop(cred (tallyAt (recvCell c x) () N) ∗ atPos ER (recvCell c x) 0 ∅ 0)
  else iprop(rcvPay A Bm c x ∗ atPos ER (recvCell c x) 1 ∅ 0)

/-- The operands of a device. -/
def opsA (c : Dev nD) : sProp 𝕄 := iprop(holds BB.a.view c fullShare (A c) ∗ holds BB.b.view c fullShare (Bm c))

/-- The resources of a device. -/
def mach (c : Dev nD) (f : Pc → ℕ) (k j v : ℕ) : sProp 𝕄 :=
  iprop(opsA A Bm c ∗ bigSep Finset.univ (fun p => plA A Bm c p (f p)) ∗ bigSep Finset.univ (depA (F := F) c k v)
    ∗ bigSep Finset.univ (arrA A Bm c j) ∗ ∃ W, owes (c : Thread nD τ) (owed c k) W)

variable {A Bm}
variable {c : Dev nD} {f : Pc → ℕ} {k j v : ℕ}

/-- The operands may be read. -/
theorem mach_ops : mach A Bm c f k j v ⊢ iprop(opsA A Bm c ∗ (opsA A Bm c -∗ mach A Bm c f k j v)) := by
  unfold mach
  iintro ⟨H1, H⟩
  isplitl [H1]; · iexact H1
  iintro H1
  isplitl [H1]; · iexact H1
  iexact H

/-- A place may be taken out. -/
theorem mach_take (p : Pc) : mach A Bm c f k j v ⊢ iprop(plA A Bm c p (f p) ∗ mach A Bm c (Function.update f p 9) k j v) := by
  unfold mach
  iintro ⟨H1, H2, H⟩
  ihave H2 := (bigSep_univ_turn (fun p n => plA A Bm c p n) f p) $$ H2
  icases H2 with ⟨Hp, H2⟩
  isplitl [Hp]; · iexact Hp
  isplitl [H1]; · iexact H1
  isplitl [H2]
  · iapply H2 $$ %9
    unfold plA
    rw [if_neg (by decide), if_neg (by decide), if_neg (by decide)]
    iempintro
  iexact H

/-- A place that was taken out may be put back at any stage. -/
theorem mach_put (p : Pc) (n : ℕ) : iprop(plA A Bm c p n ∗ mach A Bm c f k j v) ⊢ mach A Bm c (Function.update f p n) k j v := by
  unfold mach
  iintro ⟨Hp, H1, H2, H⟩
  ihave H2 := (bigSep_univ_turn (fun p n => plA A Bm c p n) f p) $$ H2
  icases H2 with ⟨-, H2⟩
  isplitl [H1]; · iexact H1
  isplitl [H2 Hp]
  · iapply H2 $$ %n
    iexact Hp
  iexact H

/-- A tile that has landed may be read. -/
theorem mach_landed (x : Tr) (h : idx x < j) : mach A Bm c f k j v ⊢ iprop(rcvPay A Bm c x ∗ (rcvPay A Bm c x -∗ mach A Bm c f k j v)) := by
  unfold mach
  iintro ⟨H1, H2, H3, H4, H⟩
  ihave H4 := (bigSep_univ_update (Φ := arrA A Bm c j) (Ψ := arrA A Bm c j) x (fun _ _ => rfl)) $$ H4
  icases H4 with ⟨Hx, H4⟩
  have e : arrA A Bm c j x = iprop(rcvPay A Bm c x ∗ atPos ER (recvCell c x) 1 ∅ 0) := if_neg (Nat.not_le.mpr h)
  ihave Hx := (Entails.of_eq e) $$ Hx
  icases Hx with ⟨Hx, Ha⟩
  isplitl [Hx]; · iexact Hx
  iintro Hx
  isplitl [H1]; · iexact H1
  isplitl [H2]; · iexact H2
  isplitl [H3]; · iexact H3
  isplitl [H4 Hx Ha]
  · iapply H4
    rw [e]
    isplitl [Hx] <;> iassumption
  iexact H

/-! ## The rules of the transfers -/

/-- Running a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem mem_duty (c : Dev nD) (bx : Bool × Tr) : (0 : Fin 4) ∈ (Rd A Bm).duties ((c : Thread nD τ), csem (some bx)) 0 := by
  rw [duties_kcell]; exact Finset.mem_singleton_self _

theorem plA_full (c : Dev nD) (p : Pc) {n : ℕ} (h0 : n ≠ 0) (h : n < 4) :
    plA A Bm c p n = holds (pcM c p).view c fullShare (pcVal A Bm c p n) := by
  unfold plA; rw [if_neg h0, if_pos h]
theorem plA_half (c : Dev nD) (p : Pc) {n : ℕ} (h : n < 4) :
    plA A Bm c p (n + 4) = holds (pcM c p).view c fullShare.left (pcVal A Bm c p n) := by
  unfold plA; rw [if_neg (by omega), if_neg (by omega), if_pos (by omega), Nat.add_sub_cancel]
theorem srcSt_range (x : Tr) : srcSt x ≠ 0 ∧ srcSt x < 4 := by
  rcases x with ⟨d, t, h⟩ | ⟨t, d⟩ <;> (dsimp only [srcSt]; split <;> decide)

theorem depA_step (c : Dev nD) (x y : Tr) (h : y ≠ x) : depA (F := F) c (idx x + 1) v y = depA c (idx x) v y := by
  have hi : idx y ≠ idx x := fun e => h (idx_inj e)
  unfold depA
  by_cases h' : idx x ≤ idx y
  · rw [if_pos (by omega), if_pos h']
  · rw [if_neg (by omega), if_neg h']
theorem depA_done (c : Dev nD) (x y : Tr) (h : y ≠ x) : depA (F := F) c k (wno x + 1) y = depA c k (wno x) y := by
  have hi : wno y ≠ wno x := fun e => h (wno_inj e)
  unfold depA
  split
  · rfl
  by_cases h' : wno x ≤ wno y
  · rw [if_pos (by omega), if_pos h']
  · rw [if_neg (by omega), if_neg h']
theorem arrA_step (c : Dev nD) (x y : Tr) (h : y ≠ x) : arrA A Bm c (idx x + 1) y = arrA A Bm c (idx x) y := by
  have hi : idx y ≠ idx x := fun e => h (idx_inj e)
  unfold arrA
  by_cases h' : idx x ≤ idx y
  · rw [if_pos (by omega), if_pos h']
  · rw [if_neg (by omega), if_neg h']

/-- Sending the next transfer: its place is lent by half, and the transfer is no longer owed. -/
theorem wp_sendT (K : Dev nD × CK → ℕ) (x : Tr) (hv : v ≤ wno x) (hf : f (srcP x) = srcSt x) {Q : PUnit → sProp 𝕄} {kk : PUnit → TP F} :
    iprop(known A Bm K ∗ mach A Bm c f (idx x) j v)
      ⊢ iprop((mach A Bm c (Function.update f (srcP x) (srcSt x + 4)) (idx x + 1) j v -∗ WP c (kk ⟨⟩) Q) -∗ WP c (.op (.enqueueDma (pcM c (srcP x)) (.remote (Dev.tc (tgt c x)) (slM x) (.dma (sndS x)) (slM_plain x))
        (.dma (rcvS x)) (pcM_exact c _) (slM_exact x) ⟨⟨rfl, Or.inl rfl⟩, trivial⟩) kk) Q) := by
  iintro ⟨#HK, H⟩ Hk
  ihave H := (mach_take (srcP x)) $$ H
  icases H with ⟨Hp, H⟩
  ihave Hp := (Entails.of_eq ((congrArg _ hf).trans (plA_full c (srcP x) (srcSt_range x).1 (srcSt_range x).2))) $$ Hp
  ihave Hp := (holds_halve _ _ _) $$ Hp
  icases Hp with ⟨Hp, Hs⟩
  unfold mach
  icases H with ⟨H1, H2, H3, H4, %W, HO⟩
  ihave H3 := (bigSep_univ_update (Φ := depA (F := F) c (idx x) v) (Ψ := depA (F := F) c (idx x + 1) v) x (fun y h => depA_step c x y h)) $$ H3
  icases H3 with ⟨Hx, H3⟩
  ihave Hx := (Entails.of_eq (show depA (F := F) c (idx x) v x = _ from if_pos (Nat.le_refl _))) $$ Hx
  icases Hx with ⟨Ht1, Ht2, Hl, Ha⟩
  unfold land raw holds
  icases Hs with ⟨%fs, %hfs, Hs⟩
  icases Hl with ⟨%V, %fd, -, Hl⟩
  iapply (Rounds.wp_send_pointsTo 𝒱₀ ER (Rd A Bm) (c : Thread nD τ) none (κ₁ := K (c, some (false, x))) (κ₂ := K (tgt c x, some (true, x)))
    (r₁ := 0) (r₂ := 0) (d₁ := 0) (d₂ := 0) (fd := fd)
    (mem_duty c (false, x)) (mem_duty (tgt c x) (true, x))
    () () N (credit_sl x) (amount_kcell A Bm c (some (false, x)) 0) (amount_kcell A Bm (tgt c x) (some (true, x)) 0)
    (owed c (idx x + 1)) (owed_step c x) (W := W)
    (by
      rw [payload_kcell]
      show _ ⊢ sndPay A Bm c x
      unfold sndPay holds
      iintro H
      iexists fs; isplitr; · ipureintro; exact hfs
      iexact H)
    (by
      rw [payload_kcell]
      show _ ⊢ rcvPay A Bm (tgt c x) x
      unfold rcvPay holds
      iintro H
      iexists _; isplitr
      swap; · iexact H
      ipureintro
      rw [View.read_write_univ, hfs]
      unfold rcvVal
      rw [frm_tgt]
      rfl)) $$ [Hs Hl HO Ht1 Ht2]
  · isplitr; · iapply (known_inv A Bm K c (some (false, x))) $$ HK
    isplitr; · iapply (known_inv A Bm K (tgt c x) (some (true, x))) $$ HK
    isplitl [Hs]; · iexact Hs
    isplitl [Hl]; · iexact Hl
    isplitl [HO]; · iexact HO
    isplitl [Ht1]; · iexact Ht1
    isplitr; · iapply (known_reached A Bm K c (some (false, x))) $$ HK
    isplitl [Ht2]; · iexact Ht2
    iapply (known_reached A Bm K (tgt c x) (some (true, x))) $$ HK
  iintro ⟨Hc, HO⟩
  iapply Hk
  ihave Hp := (Entails.of_eq (plA_half (A := A) (Bm := Bm) c (srcP x) (srcSt_range x).2).symm) $$ [Hp]
  · unfold holds; iexact Hp
  ihave H2 := (bigSep_univ_turn (fun p n => plA A Bm c p n) (Function.update f (srcP x) 9) (srcP x)) $$ H2
  icases H2 with ⟨-, H2⟩
  ihave H2 := H2 $$ %(srcSt x + 4) Hp
  rw [Function.update_idem]
  isplitl [H1]; · iexact H1
  isplitl [H2]; · iexact H2
  isplitl [H3 Hc Ha]
  · iapply H3
    unfold depA
    rw [if_neg (by omega), if_pos hv]
    isplitl [Hc]; · iexact Hc
    iexact Ha
  isplitl [H4]; · iexact H4
  iexists W; iexact HO

/-- Waiting for the next transfer to have landed: its tile is there. -/
theorem wp_recvT (K : Dev nD × CK → ℕ) (x : Tr) (hl : lvl (idx x) < lvl k ∨ 124 ≤ k) {Q : PUnit → sProp 𝕄} {kk : PUnit → TP F} :
    iprop(known A Bm K ∗ mach A Bm c f k (idx x) v)
      ⊢ iprop((mach A Bm c f k (idx x + 1) v -∗ WP c (kk ⟨⟩) Q) -∗ WP c (.op (.waitDma2 (rcvS x) (pcM c (srcP x)) (slM x) (pcM_exact c _) (slM_exact x)) kk) Q) := by
  have hm : ∀ y, k ≤ idx y → lvOf (kindOf (.dma (rcvS x))) < lvl (idx y) := fun y hy => by
    rw [kindOf_rcv]
    rcases hl with h | h
    · exact lt_of_lt_of_le h (lvl_mono hy)
    · have := idx_lt y; omega
  have hw : known A Bm K ⊢ MayWait (c : Thread nD τ) (.dma (rcvS x)) () (owed c k) := known_may A Bm K c _ k hm
  unfold mach
  iintro ⟨#HK, H1, H2, H3, H4, %W, HO⟩ Hk
  ihave H4 := (bigSep_univ_update (Φ := arrA A Bm c (idx x)) (Ψ := arrA A Bm c (idx x + 1)) x (fun y h => arrA_step c x y h)) $$ H4
  icases H4 with ⟨Hx, H4⟩
  ihave Hx := (Entails.of_eq (show arrA A Bm c (idx x) x = _ from if_pos (Nat.le_refl _))) $$ Hx
  icases Hx with ⟨Hc, Ha⟩
  iapply (Rounds.wp_wait_rest_token 𝒱₀ ER (Rd A Bm) (c : Thread nD τ) none (κ := K (c, some (true, x)))
      (wpE_waitDma2_eq 𝒱₀ (c : Thread nD τ) none Set.univ) (Set.mem_univ _) () (O := owed c k) (W := W) (R := 0) (m := 0) (T := ∅)
      (by rw [Nat.zero_add]; exact (credit_sl x).trans (expect_dma A Bm c (true, x)).symm)) $$ [Hc HO Ha]
  · isplitr; · iapply (known_inv A Bm K c (some (true, x))) $$ HK
    isplitl [Hc]
    · rw [credit_sl]; iexact Hc
    isplitl [HO]; · iexact HO
    isplitr
    · iapply hw $$ HK
    iexact Ha
  iintro ⟨HO, Ha, -, Hp⟩
  ihave Hp := (show bigSep ((Rd A Bm).duties (recvCell c x) 0 \ ∅) (fun d => (Rd A Bm).payload (recvCell c x) 0 d) ⊢ rcvPay A Bm c x from Entails.of_eq (rest_dma A Bm c (true, x))) $$ Hp
  iapply Hk
  isplitl [H1]; · iexact H1
  isplitl [H2]; · iexact H2
  isplitl [H3]; · iexact H3
  isplitl [H4 Hp Ha]
  · iapply H4
    unfold arrA
    rw [if_neg (by omega)]
    isplitl [Hp]; · iexact Hp
    iexact Ha
  iexists _; iexact HO

/-- Waiting for the next departure: the place is whole again. -/
theorem wp_swT (K : Dev nD × CK → ℕ) (x : Tr) (hk : idx x < k) (hf : f (srcP x) = srcSt x + 4) {Q : PUnit → sProp 𝕄} {kk : PUnit → TP F} :
    iprop(known A Bm K ∗ mach A Bm c f k j (wno x))
      ⊢ iprop((mach A Bm c (Function.update f (srcP x) (srcSt x)) k j (wno x + 1) -∗ WP c (kk ⟨⟩) Q) -∗ WP c (.op (.waitDma2 (sndS x) (slM x) (pcM c (srcP x)) (slM_exact x) (pcM_exact c _)) kk) Q) := by
  have hm : ∀ y, k ≤ idx y → lvOf (kindOf (.dma (sndS x))) < lvl (idx y) := fun y _ => by
    rw [kindOf_snd]
    exact lt_of_lt_of_le (show 0 < 2 from Nat.two_pos) (two_le_lvl (idx y))
  have hw : known A Bm K ⊢ MayWait (c : Thread nD τ) (.dma (sndS x)) () (owed c k) := known_may A Bm K c _ k hm
  iintro ⟨#HK, H⟩ Hk
  ihave H := (mach_take (srcP x)) $$ H
  icases H with ⟨Hp, H⟩
  ihave Hp := (Entails.of_eq ((congrArg _ hf).trans (plA_half c (srcP x) (srcSt_range x).2))) $$ Hp
  unfold mach
  icases H with ⟨H1, H2, H3, H4, %W, HO⟩
  ihave H3 := (bigSep_univ_update (Φ := depA (F := F) c k (wno x)) (Ψ := depA (F := F) c k (wno x + 1)) x (fun y h => depA_done c x y h)) $$ H3
  icases H3 with ⟨Hx, H3⟩
  ihave Hx := (Entails.of_eq (show depA (F := F) c k (wno x) x = _ from (if_neg (Nat.not_le.mpr hk)).trans (if_pos (Nat.le_refl _)))) $$ Hx
  icases Hx with ⟨Hc, Ha⟩
  iapply (Rounds.wp_wait_rest_token 𝒱₀ ER (Rd A Bm) (c : Thread nD τ) none (κ := K (c, some (false, x)))
      (wpE_waitDma2_eq 𝒱₀ (c : Thread nD τ) none Set.univ) (Set.mem_univ _) () (O := owed c k) (W := W) (R := 0) (m := 0) (T := ∅)
      (by rw [Nat.zero_add]; exact (credit_pc c _).trans (expect_dma A Bm c (false, x)).symm)) $$ [Hc HO Ha]
  · isplitr; · iapply (known_inv A Bm K c (some (false, x))) $$ HK
    isplitl [Hc]
    · rw [credit_pc]; iexact Hc
    isplitl [HO]; · iexact HO
    isplitr
    · iapply hw $$ HK
    iexact Ha
  iintro ⟨HO, Ha, -, Hs⟩
  ihave Hs := (show bigSep ((Rd A Bm).duties (sendCell c x) 0 \ ∅) (fun d => (Rd A Bm).payload (sendCell c x) 0 d) ⊢ sndPay A Bm c x from Entails.of_eq (rest_dma A Bm c (false, x))) $$ Hs
  iapply Hk
  unfold sndPay
  ihave Hp := (show _ ⊢ holds (pcM c (srcP x)).view c fullShare (pcVal A Bm c (srcP x) (srcSt x)) from
    holds_whole (pcM c (srcP x)).view c (trVal A Bm c x)) $$ [Hp Hs]
  · isplitl [Hp]; · iexact Hp
    iexact Hs
  ihave Hp := (Entails.of_eq (plA_full (A := A) (Bm := Bm) c (srcP x) (srcSt_range x).1 (srcSt_range x).2).symm) $$ Hp
  ihave H2 := (bigSep_univ_turn (fun p n => plA A Bm c p n) (Function.update f (srcP x) 9) (srcP x)) $$ H2
  icases H2 with ⟨-, H2⟩
  ihave H2 := H2 $$ %(srcSt x) Hp
  rw [Function.update_idem]
  isplitl [H1]; · iexact H1
  isplitl [H2]; · iexact H2
  isplitl [H3 Ha]
  · iapply H3
    unfold depA
    rw [if_neg (by omega), if_neg (by omega)]
    iexact Ha
  isplitl [H4]; · iexact H4
  iexists _; iexact HO

end Cert.Reduce

end
-- ==== Proof.Tiles.lean ====
/-
# Buffers in tiles

How a buffer, a chunk of rows or a slab falls into tiles, and the assertions that go with it: what holds a value holds
its tiles, and tiles make up what holds a value.
-/
module

public import proofs.«01_k».proof.Proof.Holds

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Tiles of sixteen rows -/

section Two
variable {n : ℕ} {T : Type} (a : T → ℕ) (ha : ∀ t, ∀ x, (![a t, 0] : Fin 2 → ℕ) x + S16x1024.size x ≤ (⟨2, ![n, 1024]⟩ : Shape).size x)

/-- Where tile `t` of sixteen rows lies among `n` rows. -/
abbrev g2 (t : T) : S16x1024.Idx ↪ (⟨2, ![n, 1024]⟩ : Shape).Idx := (Rect.unit (s := ⟨2, ![n, 1024]⟩) ![a t, 0] S16x1024.size (ha t)).emb

theorem g2_cover (h : ∀ p < n, ∃ t, a t ≤ p ∧ p < a t + 16) (i : (⟨2, ![n, 1024]⟩ : Shape).Idx) : ∃ t x, g2 a ha t x = i := by
  obtain ⟨t, h1, h2⟩ := h (i 0).val (i 0).isLt
  refine ⟨t, ValueIdx.ix2 (⟨(i 0).val - a t, by omega⟩ : Fin 16) (⟨(i 1).val, (i 1).isLt⟩ : Fin 1024), ?_⟩
  funext x
  fin_cases x
  · exact Fin.ext (show a t + 1 * ((i 0).val - a t) = (i 0).val by omega)
  · exact Fin.ext (show 0 + 1 * (i 1).val = (i 1).val by omega)

theorem g2_disj (h : ∀ t t', a t < a t' + 16 → a t' < a t + 16 → t = t') (t t' : T) (x x' : S16x1024.Idx) (e : g2 a ha t x = g2 a ha t' x') : t = t' := by
  have e0 : a t + 1 * (x 0).val = a t' + 1 * (x' 0).val := congrArg (fun i : (⟨2, ![n, 1024]⟩ : Shape).Idx => (i 0).val) e
  have h1 : (x 0).val < 16 := (x 0).isLt
  have h2 : (x' 0).val < 16 := (x' 0).isLt
  exact h t t' (by omega) (by omega)
end Two

/-! ## Tiles of sixteen rows of one layer -/

section Three
variable {n m : ℕ} {T : Type} (a b : T → ℕ) (ha : ∀ t, ∀ x, (![a t, b t, 0] : Fin 3 → ℕ) x + S1x16x1024.size x ≤ (⟨3, ![n, m, 1024]⟩ : Shape).size x)

/-- Where tile `t` of sixteen rows of one layer lies among `n` layers of `m` rows. -/
abbrev g3 (t : T) : S1x16x1024.Idx ↪ (⟨3, ![n, m, 1024]⟩ : Shape).Idx :=
  (Rect.unit (s := ⟨3, ![n, m, 1024]⟩) ![a t, b t, 0] S1x16x1024.size (ha t)).emb

theorem g3_cover (h : ∀ p < n, ∀ q < m, ∃ t, a t = p ∧ b t ≤ q ∧ q < b t + 16) (i : (⟨3, ![n, m, 1024]⟩ : Shape).Idx) : ∃ t x, g3 a b ha t x = i := by
  obtain ⟨t, h0, h1, h2⟩ := h (i 0).val (i 0).isLt (i 1).val (i 1).isLt
  refine ⟨t, ValueIdx.ix3 (⟨0, Nat.one_pos⟩ : Fin 1) (⟨(i 1).val - b t, by omega⟩ : Fin 16) (⟨(i 2).val, (i 2).isLt⟩ : Fin 1024), ?_⟩
  funext x
  fin_cases x
  · exact Fin.ext (show a t + 1 * 0 = (i 0).val by omega)
  · exact Fin.ext (show b t + 1 * ((i 1).val - b t) = (i 1).val by omega)
  · exact Fin.ext (show 0 + 1 * (i 2).val = (i 2).val by omega)

theorem g3_disj (h : ∀ t t', a t = a t' → b t < b t' + 16 → b t' < b t + 16 → t = t') (t t' : T) (x x' : S1x16x1024.Idx)
    (e : g3 a b ha t x = g3 a b ha t' x') : t = t' := by
  have e0 : a t + 1 * (x 0).val = a t' + 1 * (x' 0).val := congrArg (fun i : (⟨3, ![n, m, 1024]⟩ : Shape).Idx => (i 0).val) e
  have e1 : b t + 1 * (x 1).val = b t' + 1 * (x' 1).val := congrArg (fun i : (⟨3, ![n, m, 1024]⟩ : Shape).Idx => (i 1).val) e
  have h1 : (x 0).val < 1 := (x 0).isLt
  have h2 : (x' 0).val < 1 := (x' 0).isLt
  have h3 : (x 1).val < 16 := (x 1).isLt
  have h4 : (x' 1).val < 16 := (x' 1).isLt
  exact h t t' (by omega) (by omega) (by omega)
end Three

/-! ## Pieces at any contents -/

section Raw
variable {s st : Shape} {T : Type} [Fintype T] [DecidableEq T] {b : Ref sig .tc} {c : Dev nD}
variable {ι : s.Idx ↪ b.ty.Idx} {w : T → (st.Idx ↪ b.ty.Idx)} {g : T → (st.Idx ↪ s.Idx)} (hw : ∀ t x, w t x = ι (g t x))
  (hc : ∀ i, ∃ t x, g t x = i) (hd : ∀ t t' x x', g t x = g t' x' → t = t')

include hc hd in
/-- Contents of the pieces are the pieces of some contents. -/
theorem glue (U : T → st.Idx → Elt F b.ty.elt) : ∃ V : s.Idx → Elt F b.ty.elt, ∀ t x, V (g t x) = U t x := by
  choose t x h using hc
  refine ⟨fun i => U (t i) (x i), fun t' x' => ?_⟩
  have e : t (g t' x') = t' := hd _ _ _ _ (h _)
  have e2 := h (g t' x')
  show U (t (g t' x')) (x (g t' x')) = U t' x'
  generalize t (g t' x') = s1 at e e2
  generalize x (g t' x') = s2 at e2
  subst e
  rw [(g s1).injective e2]

include hw hc hd in
theorem raw_join_at : (bigSep Finset.univ fun t => iprop(∃ U, at_ b c (w t) fullShare U) : sProp 𝕄) ⊢ iprop(∃ V, at_ b c ι fullShare V) := by
  have : Nonempty (st.Idx → Elt F b.ty.elt) := ⟨fun _ => (Elt.inhabited F _).default⟩
  iintro H
  ihave H := (BI.bigSep_exists_pi Finset.univ fun (t : T) (U : st.Idx → Elt F b.ty.elt) => (at_ b c (w t) fullShare U : sProp 𝕄)) $$ H
  icases H with ⟨%U, H⟩
  obtain ⟨V, hV⟩ := glue (F := F) (b := b) hc hd U
  iexists V
  iapply (at_join hw hc hd hV) $$ H

include hw hc hd in
theorem raw_split_at : (iprop(∃ V, at_ b c ι fullShare V) : sProp 𝕄) ⊢ bigSep Finset.univ fun t => iprop(∃ U, at_ b c (w t) fullShare U) := by
  iintro ⟨%V, H⟩
  ihave H := (at_split hw hc hd) $$ H
  iapply (show _ ⊢ _ from bigSep_mono (s := Finset.univ) fun t _ => (show (at_ b c (w t) fullShare (fun x => V (g t x)) : sProp 𝕄) ⊢ iprop(∃ U, at_ b c (w t) fullShare U) from by
    iintro H; iexists _; iexact H)) $$ H
end Raw

/-! ## The tiles of the body -/

variable {c : Dev nD}

theorem chunk_surj : ∀ (c : Dev nD) (d : Bool) (q : Fin 8), ∃ k : Fin 8, chunk c d k.val = q.val := by decide +kernel
theorem chunk_inj (c : Dev nD) (d : Bool) (k k' : Fin 8) (h : chunk c d k.val = chunk c d k'.val) : k = k' := by
  revert c d k k'; decide +kernel
theorem slab_surj : ∀ (c : Dev nD) (q : Fin 4), ∃ l : Fin 4, slab c l.val = q.val := by decide +kernel
theorem slab_inj (c : Dev nD) (l l' : Fin 4) (h : slab c l.val = slab c l'.val) : l = l' := by
  revert c l l'; decide +kernel

/-- The rectangle of a chunk of the result. -/
abbrev chunkR (c : Dev nD) (d : Bool) (k : Fin 8) : Rect S1024x1024 :=
  Rect.unit (s := S1024x1024) ![chunkRow c d k.val, 0] S64x1024.size (chunkO_fits c d k)
/-- The rectangle of a slab. -/
abbrev slabR (c : Dev nD) (l : Fin 4) : Rect S4x32x1024 :=
  Rect.unit (s := S4x32x1024) ![slab c l.val, 0, 0] S1x32x1024.size (slabW_fits c l)

theorem t64_fits (h : Fin 4) : ∀ x, (![16 * h.val, 0] : Fin 2 → ℕ) x + S16x1024.size x ≤ (⟨2, ![64, 1024]⟩ : Shape).size x := by
  revert h; decide
theorem t64_cover (p : ℕ) (hp : p < 64) : ∃ t : Fin 4, 16 * t.val ≤ p ∧ p < 16 * t.val + 16 := ⟨⟨p / 16, by omega⟩, by show 16 * (p / 16) ≤ p; omega, by show p < 16 * (p / 16) + 16; omega⟩
theorem t64_disj (t t' : Fin 4) (h : 16 * t.val < 16 * t'.val + 16) (h' : 16 * t'.val < 16 * t.val + 16) : t = t' := Fin.ext (by omega)

/-- A tile of a chunk within the chunk. -/
abbrev gC (h : Fin 4) : S16x1024.Idx ↪ S64x1024.Idx := g2 (n := 64) (fun h : Fin 4 => 16 * h.val) t64_fits h

theorem gC_eq (d : Bool) (k : Fin 8) (h : Fin 4) (x : S16x1024.Idx) : (oRect (oOff c d k h) (oOff_fits c d k h)).emb x = (chunkR c d k).emb (gC h x) := by
  funext a
  fin_cases a
  · exact Fin.ext (show chunkRow c d k.val + 16 * h.val + 1 * (x 0).val = chunkRow c d k.val + 1 * (16 * h.val + 1 * (x 0).val) by omega)
  · exact Fin.ext (show 0 + 1 * (x 1).val = 0 + 1 * (0 + 1 * (x 1).val) by omega)

theorem gC_tile (X : Vec F S64x1024 .f32) (h : Fin 4) : (fun x => X (gC h x)) = tileOf X h := by
  funext x
  unfold tileOf
  congr 1
  funext a
  fin_cases a
  · exact Fin.ext (show 16 * h.val + 1 * (x 0).val = 16 * h.val + (x 0).val by omega)
  · exact Fin.ext (show 0 + 1 * (x 1).val = (x 1).val by omega)

/-- The four tiles of a chunk make up the chunk. -/
theorem chunk_join (d : Bool) (k : Fin 8) :
    (bigSep Finset.univ fun h : Fin 4 => raw (pcM c (.inl (d, k, h))).view c : sProp 𝕄) ⊢ raw (BB.o.access (chunkR c d k)) c :=
  raw_join_at (F := F) (s := S64x1024) (st := S16x1024) (b := cc0_stg2_0) (c := c) (ι := (chunkR c d k).emb)
    (w := fun h => (oRect (oOff c d k h) (oOff_fits c d k h)).emb) (g := gC) (gC_eq d k)
    (g2_cover _ _ t64_cover) (g2_disj _ _ t64_disj)
/-- A chunk that holds a value holds its tiles. -/
theorem chunk_split (d : Bool) (k : Fin 8) (X : Vec F S64x1024 .f32) :
    (holds (BB.o.access (chunkR c d k)) c fullShare X : sProp 𝕄)
      ⊢ bigSep Finset.univ fun h : Fin 4 => holds (pcM c (.inl (d, k, h))).view c fullShare (tileOf X h) := by
  rw [← show (fun h => fun x => X (gC h x)) = tileOf X from funext fun h => gC_tile X h]
  exact at_split (F := F) (s := S64x1024) (st := S16x1024) (b := cc0_stg2_0) (c := c) (ι := (chunkR c d k).emb)
    (w := fun h => (oRect (oOff c d k h) (oOff_fits c d k h)).emb) (g := fun h => gC h) (gC_eq d k)
    (g2_cover _ _ t64_cover) (g2_disj _ _ t64_disj)

/-! ## The halves of a slab -/

theorem half_cover (p : ℕ) (hp : p < 1) (q : ℕ) (hq : q < 32) : ∃ d : Bool, 0 = p ∧ half d ≤ q ∧ q < half d + 16 := by
  by_cases h : q < 16
  · exact ⟨true, by omega, by show 0 ≤ q; omega, by show q < 0 + 16; omega⟩
  · exact ⟨false, by omega, by show 16 ≤ q; omega, by show q < 16 + 16; omega⟩
theorem half_disj (d d' : Bool) (h : half d < half d' + 16) (h' : half d' < half d + 16) : d = d' := by
  revert d d'; decide
theorem half_fits (d : Bool) : ∀ x, (![0, half d, 0] : Fin 3 → ℕ) x + S1x16x1024.size x ≤ (⟨3, ![1, 32, 1024]⟩ : Shape).size x := by
  revert d; decide

/-- Half a slab within the slab. -/
abbrev gS (d : Bool) : S1x16x1024.Idx ↪ S1x32x1024.Idx := g3 (n := 1) (m := 32) (fun _ : Bool => 0) half half_fits d

theorem gS_eq (l : Fin 4) (d : Bool) (x : S1x16x1024.Idx) : (wRect (wOff c l d) (wOff_fits c l d)).emb x = (slabR c l).emb (gS d x) := by
  funext a
  fin_cases a
  · exact Fin.ext (show slab c l.val + 1 * (x 0).val = slab c l.val + 1 * (0 + 1 * (x 0).val) by omega)
  · exact Fin.ext (show half d + 1 * (x 1).val = 0 + 1 * (half d + 1 * (x 1).val) by omega)
  · exact Fin.ext (show 0 + 1 * (x 2).val = 0 + 1 * (0 + 1 * (x 2).val) by omega)

theorem gS_cover (i : S1x32x1024.Idx) : ∃ d x, gS d x = i := g3_cover _ _ _ half_cover i
theorem gS_disj (d d' : Bool) (x x' : S1x16x1024.Idx) (h : gS d x = gS d' x') : d = d' := g3_disj _ _ _ (fun d d' _ => half_disj d d') d d' x x' h

/-- The two halves make up the slab. -/
theorem slab_join (l : Fin 4) {U : Bool → Vec F S1x16x1024 .f32} {V : Vec F S1x32x1024 .f32} (hV : ∀ d x, V (gS d x) = U d x) :
    (bigSep Finset.univ fun d : Bool => holds (BB.zw.access (wRect (wOff c l d) (wOff_fits c l d))) c fullShare (U d) : sProp 𝕄)
      ⊢ holds (BB.zw.access (slabR c l)) c fullShare V :=
  at_join (F := F) (s := S1x32x1024) (st := S1x16x1024) (b := cc0_scratch2) (c := c) (ι := (slabR c l).emb)
    (w := fun d => (wRect (wOff c l d) (wOff_fits c l d)).emb) (g := fun d => gS d) (gS_eq l) gS_cover gS_disj hV
/-- A slab that holds a value holds its halves. -/
theorem slab_split (l : Fin 4) (V : Vec F S1x32x1024 .f32) :
    (holds (BB.zw.access (slabR c l)) c fullShare V : sProp 𝕄)
      ⊢ bigSep Finset.univ fun d : Bool => holds (BB.zw.access (wRect (wOff c l d) (wOff_fits c l d))) c fullShare fun x => V (gS d x) :=
  at_split (F := F) (s := S1x32x1024) (st := S1x16x1024) (b := cc0_scratch2) (c := c) (ι := (slabR c l).emb)
    (w := fun d => (wRect (wOff c l d) (wOff_fits c l d)).emb) (g := fun d => gS d) (gS_eq l) gS_cover gS_disj

/-! ## The whole buffers -/

theorem raw_sq (v : View sig .tc .vmem S1x16x1024 .f32) (c : Dev nD) : raw v c ⊢ (raw (F := F) (sqV v) c : sProp 𝕄) := by
  unfold raw
  iintro ⟨%W, H⟩
  ihave H := (holds_sq v c) $$ H
  iexists _; iexact H

theorem o_cover (c : Dev nD) (p : ℕ) (hp : p < 1024) :
    ∃ t : Bool × Fin 8 × Fin 4, chunkRow c t.1 t.2.1.val + 16 * t.2.2.val ≤ p ∧ p < chunkRow c t.1 t.2.1.val + 16 * t.2.2.val + 16 := by
  obtain ⟨k, hk⟩ := chunk_surj c (decide (p < 512)) ⟨p % 512 / 64, by omega⟩
  refine ⟨(decide (p < 512), k, ⟨p % 64 / 16, by omega⟩), ?_⟩
  dsimp only at hk
  simp only [chunkRow, hk, decide_eq_true_eq]
  split <;> omega
theorem o_disj (c : Dev nD) (t t' : Bool × Fin 8 × Fin 4) (h : chunkRow c t.1 t.2.1.val + 16 * t.2.2.val < chunkRow c t'.1 t'.2.1.val + 16 * t'.2.2.val + 16)
    (h' : chunkRow c t'.1 t'.2.1.val + 16 * t'.2.2.val < chunkRow c t.1 t.2.1.val + 16 * t.2.2.val + 16) : t = t' := by
  obtain ⟨d, k, h0⟩ := t
  obtain ⟨d', k', h0'⟩ := t'
  dsimp only at h h'
  have e1 := chunk_lt c d k.val
  have e2 := chunk_lt c d' k'.val
  have e3 := h0.isLt
  have e4 := h0'.isLt
  unfold chunkRow at h h'
  have ed : d = d' := by
    cases d <;> cases d' <;> first | rfl | (exfalso; simp only [Bool.false_eq_true, if_false, if_true] at h h'; omega)
  subst ed
  have ek : k = k' := chunk_inj c d k k' (by split at h <;> omega)
  subst ek
  have eh : h0 = h0' := Fin.ext (by omega)
  rw [eh]

theorem oT_cover (c : Dev nD) (i : S1024x1024.Idx) : ∃ (t : Bool × Fin 8 × Fin 4) (x : S16x1024.Idx), (oRect (oOff c t.1 t.2.1 t.2.2) (oOff_fits c t.1 t.2.1 t.2.2)).emb x = i :=
  g2_cover (n := 1024) (fun t : Bool × Fin 8 × Fin 4 => chunkRow c t.1 t.2.1.val + 16 * t.2.2.val) (fun t => oOff_fits c t.1 t.2.1 t.2.2) (o_cover c) i
theorem oT_disj (c : Dev nD) (t t' : Bool × Fin 8 × Fin 4) (x x' : S16x1024.Idx)
    (h : (oRect (oOff c t.1 t.2.1 t.2.2) (oOff_fits c t.1 t.2.1 t.2.2)).emb x = (oRect (oOff c t'.1 t'.2.1 t'.2.2) (oOff_fits c t'.1 t'.2.1 t'.2.2)).emb x') : t = t' :=
  g2_disj (n := 1024) (fun t : Bool × Fin 8 × Fin 4 => chunkRow c t.1 t.2.1.val + 16 * t.2.2.val) (fun t => oOff_fits c t.1 t.2.1 t.2.2) (o_disj c) t t' x x' h

/-- The result at any contents is its tiles at any contents. -/
theorem o_split : (raw BB.o.view c : sProp 𝕄) ⊢ bigSep Finset.univ fun t : Bool × Fin 8 × Fin 4 => raw (F := F) (pcM c (.inl t)).view c :=
  raw_split_at (F := F) (s := S1024x1024) (st := S16x1024) (b := cc0_stg2_0) (c := c) (ι := Function.Embedding.refl _)
    (w := fun t : Bool × Fin 8 × Fin 4 => (oRect (oOff c t.1 t.2.1 t.2.2) (oOff_fits c t.1 t.2.1 t.2.2)).emb)
    (g := fun t => (oRect (oOff c t.1 t.2.1 t.2.2) (oOff_fits c t.1 t.2.1 t.2.2)).emb) (fun _ _ => rfl) (oT_cover c) (oT_disj c)
/-- The tiles that hold the pieces of a value make up the result that holds it. -/
theorem o_join {U : Bool × Fin 8 × Fin 4 → Tile F} {V : Vec F S1024x1024 .f32}
    (hV : ∀ t x, V ((oRect (oOff c t.1 t.2.1 t.2.2) (oOff_fits c t.1 t.2.1 t.2.2)).emb x) = U t x) :
    (bigSep Finset.univ fun t : Bool × Fin 8 × Fin 4 => holds (pcM c (.inl t)).view c fullShare (U t) : sProp 𝕄) ⊢ holds BB.o.view c fullShare V :=
  at_join (F := F) (s := S1024x1024) (st := S16x1024) (b := cc0_stg2_0) (c := c) (ι := Function.Embedding.refl _)
    (w := fun t : Bool × Fin 8 × Fin 4 => (oRect (oOff c t.1 t.2.1 t.2.2) (oOff_fits c t.1 t.2.1 t.2.2)).emb)
    (g := fun t => (oRect (oOff c t.1 t.2.1 t.2.2) (oOff_fits c t.1 t.2.1 t.2.2)).emb) (fun _ _ => rfl) (oT_cover c) (oT_disj c) hV

/-! Landing buffers and slabs: layers of rows, by tiles of sixteen rows of one layer. -/

theorem p_cover (p : ℕ) (hp : p < 14) (q : ℕ) (hq : q < 64) : ∃ t : Fin 14 × Fin 4, t.1.val = p ∧ 16 * t.2.val ≤ q ∧ q < 16 * t.2.val + 16 :=
  ⟨(⟨p, hp⟩, ⟨q / 16, by omega⟩), rfl, by show 16 * (q / 16) ≤ q; omega, by show q < 16 * (q / 16) + 16; omega⟩
theorem p_disj (t t' : Fin 14 × Fin 4) (h : t.1.val = t'.1.val) (h1 : 16 * t.2.val < 16 * t'.2.val + 16) (h2 : 16 * t'.2.val < 16 * t.2.val + 16) : t = t' :=
  Prod.ext (Fin.ext h) (Fin.ext (by omega))
theorem z_cover (p : ℕ) (hp : p < 6) (q : ℕ) (hq : q < 32) : ∃ t : Fin 6 × Bool, t.1.val = p ∧ half t.2 ≤ q ∧ q < half t.2 + 16 := by
  obtain ⟨d, -, h⟩ := half_cover 0 Nat.one_pos q hq
  exact ⟨(⟨p, hp⟩, d), rfl, h⟩
theorem z_disj (t t' : Fin 6 × Bool) (h : t.1.val = t'.1.val) (h1 : half t.2 < half t'.2 + 16) (h2 : half t'.2 < half t.2 + 16) : t = t' :=
  Prod.ext (Fin.ext h) (half_disj _ _ h1 h2)
theorem w_cover (c : Dev nD) (p : ℕ) (hp : p < 4) (q : ℕ) (hq : q < 32) :
    ∃ t : Fin 4 × Bool, slab c t.1.val = p ∧ half t.2 ≤ q ∧ q < half t.2 + 16 := by
  obtain ⟨d, -, h⟩ := half_cover 0 Nat.one_pos q hq
  obtain ⟨l, hl⟩ := slab_surj c ⟨p, hp⟩
  exact ⟨(l, d), hl, h⟩
theorem w_disj (c : Dev nD) (t t' : Fin 4 × Bool) (h : slab c t.1.val = slab c t'.1.val) (h1 : half t.2 < half t'.2 + 16)
    (h2 : half t'.2 < half t.2 + 16) : t = t' :=
  Prod.ext (slab_inj c _ _ h) (half_disj _ _ h1 h2)

/-- Where a landing tile of a ring lies. -/
abbrev gP (t : Fin 14 × Fin 4) : S1x16x1024.Idx ↪ S14x64x1024.Idx :=
  g3 (n := 14) (m := 64) (fun t : Fin 14 × Fin 4 => t.1.val) (fun t => 16 * t.2.val) (fun t => slot_inb t.1 t.2) t
/-- Where a landing half slab lies. -/
abbrev gZ (t : Fin 6 × Bool) : S1x16x1024.Idx ↪ S6x32x1024.Idx :=
  g3 (n := 6) (m := 32) (fun t : Fin 6 × Bool => t.1.val) (fun t => half t.2) (fun t => zslot_inb t.1 t.2) t
/-- Where half a slab lies. -/
abbrev gW (c : Dev nD) (t : Fin 4 × Bool) : S1x16x1024.Idx ↪ S4x32x1024.Idx :=
  g3 (n := 4) (m := 32) (fun t : Fin 4 × Bool => slab c t.1.val) (fun t => half t.2) (fun t => wOff_fits c t.1 t.2) t

theorem gP_cover (i : S14x64x1024.Idx) : ∃ t x, gP t x = i :=
  g3_cover (n := 14) (m := 64) (fun t : Fin 14 × Fin 4 => t.1.val) (fun t => 16 * t.2.val) (fun t => slot_inb t.1 t.2) p_cover i
theorem gP_disj (t t' : Fin 14 × Fin 4) (x x' : S1x16x1024.Idx) (h : gP t x = gP t' x') : t = t' :=
  g3_disj (n := 14) (m := 64) (fun t : Fin 14 × Fin 4 => t.1.val) (fun t => 16 * t.2.val) (fun t => slot_inb t.1 t.2) p_disj t t' x x' h
theorem gZ_cover (i : S6x32x1024.Idx) : ∃ t x, gZ t x = i :=
  g3_cover (n := 6) (m := 32) (fun t : Fin 6 × Bool => t.1.val) (fun t => half t.2) (fun t => zslot_inb t.1 t.2) z_cover i
theorem gZ_disj (t t' : Fin 6 × Bool) (x x' : S1x16x1024.Idx) (h : gZ t x = gZ t' x') : t = t' :=
  g3_disj (n := 6) (m := 32) (fun t : Fin 6 × Bool => t.1.val) (fun t => half t.2) (fun t => zslot_inb t.1 t.2) z_disj t t' x x' h
theorem gW_cover (c : Dev nD) (i : S4x32x1024.Idx) : ∃ t x, gW c t x = i :=
  g3_cover (n := 4) (m := 32) (fun t : Fin 4 × Bool => slab c t.1.val) (fun t => half t.2) (fun t => wOff_fits c t.1 t.2) (w_cover c) i
theorem gW_disj (c : Dev nD) (t t' : Fin 4 × Bool) (x x' : S1x16x1024.Idx) (h : gW c t x = gW c t' x') : t = t' :=
  g3_disj (n := 4) (m := 32) (fun t : Fin 4 × Bool => slab c t.1.val) (fun t => half t.2) (fun t => wOff_fits c t.1 t.2) (w_disj c) t t' x x' h

theorem pT_cut : (raw (F := F) (BB.pc true).view c : sProp 𝕄) ⊢ (bigSep Finset.univ fun t : Fin 14 × Fin 4 => raw (F := F) ((BB.pc true).access (pRect t.1 t.2)) c) :=
  raw_split_at (F := F) (s := S14x64x1024) (st := S1x16x1024) (b := cc0_scratch0) (c := c) (ι := Function.Embedding.refl _)
    (w := fun t : Fin 14 × Fin 4 => (pRect t.1 t.2).emb) (g := gP) (fun _ _ => rfl) gP_cover gP_disj
theorem pT_sew : (bigSep Finset.univ fun t : Fin 14 × Fin 4 => raw (F := F) ((BB.pc true).access (pRect t.1 t.2)) c) ⊢ (raw (F := F) (BB.pc true).view c : sProp 𝕄) :=
  raw_join_at (F := F) (s := S14x64x1024) (st := S1x16x1024) (b := cc0_scratch0) (c := c) (ι := Function.Embedding.refl _)
    (w := fun t : Fin 14 × Fin 4 => (pRect t.1 t.2).emb) (g := gP) (fun _ _ => rfl) gP_cover gP_disj
theorem pT_sq : (bigSep Finset.univ fun t : Fin 14 × Fin 4 => raw (F := F) ((BB.pc true).access (pRect t.1 t.2)) c) ⊢ ((bigSep Finset.univ fun t : Fin 14 × Fin 4 => raw (F := F) (slM (.inl (true, t))).view c) : sProp 𝕄) := bigSep_mono fun t _ => raw_sq ((BB.pc true).access (pRect t.1 t.2)) c
theorem pT_unsq : (bigSep Finset.univ fun t : Fin 14 × Fin 4 => raw (F := F) (slM (.inl (true, t))).view c) ⊢ ((bigSep Finset.univ fun t : Fin 14 × Fin 4 => raw (F := F) ((BB.pc true).access (pRect t.1 t.2)) c) : sProp 𝕄) := bigSep_mono fun t _ => raw_unsq ((BB.pc true).access (pRect t.1 t.2)) c
/-- A landing buffer of the ring towards higher positions at any contents is its tiles at any contents. -/
theorem pT_split : (raw (F := F) (BB.pc true).view c : sProp 𝕄) ⊢ (bigSep Finset.univ fun t : Fin 14 × Fin 4 => raw (F := F) (slM (.inl (true, t))).view c) := pT_cut.trans pT_sq
theorem pT_join : (bigSep Finset.univ fun t : Fin 14 × Fin 4 => raw (F := F) (slM (.inl (true, t))).view c) ⊢ (raw (F := F) (BB.pc true).view c : sProp 𝕄) := pT_unsq.trans pT_sew

theorem pF_cut : (raw (F := F) (BB.pc false).view c : sProp 𝕄) ⊢ (bigSep Finset.univ fun t : Fin 14 × Fin 4 => raw (F := F) ((BB.pc false).access (pRect t.1 t.2)) c) :=
  raw_split_at (F := F) (s := S14x64x1024) (st := S1x16x1024) (b := cc0_scratch1) (c := c) (ι := Function.Embedding.refl _)
    (w := fun t : Fin 14 × Fin 4 => (pRect t.1 t.2).emb) (g := gP) (fun _ _ => rfl) gP_cover gP_disj
theorem pF_sew : (bigSep Finset.univ fun t : Fin 14 × Fin 4 => raw (F := F) ((BB.pc false).access (pRect t.1 t.2)) c) ⊢ (raw (F := F) (BB.pc false).view c : sProp 𝕄) :=
  raw_join_at (F := F) (s := S14x64x1024) (st := S1x16x1024) (b := cc0_scratch1) (c := c) (ι := Function.Embedding.refl _)
    (w := fun t : Fin 14 × Fin 4 => (pRect t.1 t.2).emb) (g := gP) (fun _ _ => rfl) gP_cover gP_disj
theorem pF_sq : (bigSep Finset.univ fun t : Fin 14 × Fin 4 => raw (F := F) ((BB.pc false).access (pRect t.1 t.2)) c) ⊢ ((bigSep Finset.univ fun t : Fin 14 × Fin 4 => raw (F := F) (slM (.inl (false, t))).view c) : sProp 𝕄) := bigSep_mono fun t _ => raw_sq ((BB.pc false).access (pRect t.1 t.2)) c
theorem pF_unsq : (bigSep Finset.univ fun t : Fin 14 × Fin 4 => raw (F := F) (slM (.inl (false, t))).view c) ⊢ ((bigSep Finset.univ fun t : Fin 14 × Fin 4 => raw (F := F) ((BB.pc false).access (pRect t.1 t.2)) c) : sProp 𝕄) := bigSep_mono fun t _ => raw_unsq ((BB.pc false).access (pRect t.1 t.2)) c
/-- A landing buffer of the ring towards lower positions at any contents is its tiles at any contents. -/
theorem pF_split : (raw (F := F) (BB.pc false).view c : sProp 𝕄) ⊢ (bigSep Finset.univ fun t : Fin 14 × Fin 4 => raw (F := F) (slM (.inl (false, t))).view c) := pF_cut.trans pF_sq
theorem pF_join : (bigSep Finset.univ fun t : Fin 14 × Fin 4 => raw (F := F) (slM (.inl (false, t))).view c) ⊢ (raw (F := F) (BB.pc false).view c : sProp 𝕄) := pF_unsq.trans pF_sew

theorem z_cut : (raw (F := F) BB.zc.view c : sProp 𝕄) ⊢ (bigSep Finset.univ fun t : Fin 6 × Bool => raw (F := F) (BB.zc.access (cRect t.1 t.2)) c) :=
  raw_split_at (F := F) (s := S6x32x1024) (st := S1x16x1024) (b := cc0_scratch3) (c := c) (ι := Function.Embedding.refl _)
    (w := fun t : Fin 6 × Bool => (cRect t.1 t.2).emb) (g := gZ) (fun _ _ => rfl) gZ_cover gZ_disj
theorem z_sew : (bigSep Finset.univ fun t : Fin 6 × Bool => raw (F := F) (BB.zc.access (cRect t.1 t.2)) c) ⊢ (raw (F := F) BB.zc.view c : sProp 𝕄) :=
  raw_join_at (F := F) (s := S6x32x1024) (st := S1x16x1024) (b := cc0_scratch3) (c := c) (ι := Function.Embedding.refl _)
    (w := fun t : Fin 6 × Bool => (cRect t.1 t.2).emb) (g := gZ) (fun _ _ => rfl) gZ_cover gZ_disj
theorem z_sq : (bigSep Finset.univ fun t : Fin 6 × Bool => raw (F := F) (BB.zc.access (cRect t.1 t.2)) c) ⊢ ((bigSep Finset.univ fun t : Fin 6 × Bool => raw (F := F) (slM (.inr t)).view c) : sProp 𝕄) := bigSep_mono fun t _ => raw_sq (BB.zc.access (cRect t.1 t.2)) c
theorem z_unsq : (bigSep Finset.univ fun t : Fin 6 × Bool => raw (F := F) (slM (.inr t)).view c) ⊢ ((bigSep Finset.univ fun t : Fin 6 × Bool => raw (F := F) (BB.zc.access (cRect t.1 t.2)) c) : sProp 𝕄) := bigSep_mono fun t _ => raw_unsq (BB.zc.access (cRect t.1 t.2)) c
/-- The landing buffer of the depth at any contents is its tiles at any contents. -/
theorem z_split : (raw (F := F) BB.zc.view c : sProp 𝕄) ⊢ (bigSep Finset.univ fun t : Fin 6 × Bool => raw (F := F) (slM (.inr t)).view c) := z_cut.trans z_sq
theorem z_join : (bigSep Finset.univ fun t : Fin 6 × Bool => raw (F := F) (slM (.inr t)).view c) ⊢ (raw (F := F) BB.zc.view c : sProp 𝕄) := z_unsq.trans z_sew

theorem w_cut : (raw (F := F) BB.zw.view c : sProp 𝕄) ⊢ (bigSep Finset.univ fun t : Fin 4 × Bool => raw (F := F) (BB.zw.access (wRect (wOff c t.1 t.2) (wOff_fits c t.1 t.2))) c) :=
  raw_split_at (F := F) (s := S4x32x1024) (st := S1x16x1024) (b := cc0_scratch2) (c := c) (ι := Function.Embedding.refl _)
    (w := fun t : Fin 4 × Bool => (wRect (wOff c t.1 t.2) (wOff_fits c t.1 t.2)).emb) (g := gW c) (fun _ _ => rfl) (gW_cover c) (gW_disj c)
theorem w_sew : (bigSep Finset.univ fun t : Fin 4 × Bool => raw (F := F) (BB.zw.access (wRect (wOff c t.1 t.2) (wOff_fits c t.1 t.2))) c) ⊢ (raw (F := F) BB.zw.view c : sProp 𝕄) :=
  raw_join_at (F := F) (s := S4x32x1024) (st := S1x16x1024) (b := cc0_scratch2) (c := c) (ι := Function.Embedding.refl _)
    (w := fun t : Fin 4 × Bool => (wRect (wOff c t.1 t.2) (wOff_fits c t.1 t.2)).emb) (g := gW c) (fun _ _ => rfl) (gW_cover c) (gW_disj c)
theorem w_sq : (bigSep Finset.univ fun t : Fin 4 × Bool => raw (F := F) (BB.zw.access (wRect (wOff c t.1 t.2) (wOff_fits c t.1 t.2))) c) ⊢ ((bigSep Finset.univ fun t : Fin 4 × Bool => raw (F := F) (pcM c (.inr t)).view c) : sProp 𝕄) := bigSep_mono fun t _ => raw_sq (BB.zw.access (wRect (wOff c t.1 t.2) (wOff_fits c t.1 t.2))) c
theorem w_unsq : (bigSep Finset.univ fun t : Fin 4 × Bool => raw (F := F) (pcM c (.inr t)).view c) ⊢ ((bigSep Finset.univ fun t : Fin 4 × Bool => raw (F := F) (BB.zw.access (wRect (wOff c t.1 t.2) (wOff_fits c t.1 t.2))) c) : sProp 𝕄) := bigSep_mono fun t _ => raw_unsq (BB.zw.access (wRect (wOff c t.1 t.2) (wOff_fits c t.1 t.2))) c
/-- The buffer of the slabs at any contents is its tiles at any contents. -/
theorem w_split : (raw (F := F) BB.zw.view c : sProp 𝕄) ⊢ (bigSep Finset.univ fun t : Fin 4 × Bool => raw (F := F) (pcM c (.inr t)).view c) := w_cut.trans w_sq
theorem w_join : (bigSep Finset.univ fun t : Fin 4 × Bool => raw (F := F) (pcM c (.inr t)).view c) ⊢ (raw (F := F) BB.zw.view c : sProp 𝕄) := w_unsq.trans w_sew

/-- The landing buffer of a ring direction at any contents is its tiles at any contents. -/
theorem p_split (d : Bool) : (raw (F := F) (BB.pc d).view c : sProp 𝕄) ⊢ bigSep Finset.univ fun t : Fin 14 × Fin 4 => raw (F := F) (slM (.inl (d, t))).view c := by
  cases d
  · exact pF_split
  · exact pT_split
theorem p_join (d : Bool) : (bigSep Finset.univ fun t : Fin 14 × Fin 4 => raw (F := F) (slM (.inl (d, t))).view c) ⊢ (raw (F := F) (BB.pc d).view c : sProp 𝕄) := by
  cases d
  · exact pF_join
  · exact pT_join

end Cert.Reduce

end
-- ==== Proof.Events.lean ====
/-
# Every event

What an event does to the resources of a device: which stages it needs, and which it leaves.
-/
module

public import proofs.«01_k».proof.Proof.Mach
public import proofs.«01_k».proof.Proof.Tiles
public import Idealize.ShloMosaic.Lib.VecWindow

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable {A : Dev nD → Vec F S1024x512 .f32} {Bm : Dev nD → Vec F S512x1024 .f32}
variable {c : Dev nD} {f : Pc → ℕ} {k j v : ℕ} {q : PosShare TreeShare}

/-! ## Loads and stores of a place or a landed tile -/

theorem ldO_wp {Q : PUnit → sProp 𝕄} {d : Bool} {i : Fin 8} {h : Fin 4} {V : Tile F} {hl} {kv : Vec F S16x1024 .f32 → TP F} :
    holds (pcM c (.inl (d, i, h))).view c q V
      ⊢ iprop((holds (pcM c (.inl (d, i, h))).view c q V -∗ WP c (kv V) Q)
        -∗ WP c (.op (.load BB.o (oRect (oOff c d i h) (oOff_fits c d i h)).toLoadRect hl) kv) Q) :=
  wp_ld c BB.o (oRect (oOff c d i h) (oOff_fits c d i h))
theorem stO_wp {Q : PUnit → sProp 𝕄} {kk : PUnit → TP F} {d : Bool} {i : Fin 8} {h : Fin 4} {w : Tile F} {hx} {hm} :
    raw (pcM c (.inl (d, i, h))).view c
      ⊢ iprop((holds (pcM c (.inl (d, i, h))).view c fullShare w -∗ WP c (kk ⟨⟩) Q)
        -∗ WP c (.op (.store BB.o (oRect (oOff c d i h) (oOff_fits c d i h)) w Finset.univ hx hm) kk) Q) :=
  wp_st c BB.o (oRect (oOff c d i h) (oOff_fits c d i h))

theorem ldW_wp {Q : PUnit → sProp 𝕄} {l : Fin 4} {d : Bool} {o : Fin 3 → ℕ} {ho : FitsW o} (e : o = wOff c l d) {V : Tile F} {hl} {kv : Vec F S1x16x1024 .f32 → TP F} :
    holds (pcM c (.inr (l, d))).view c q V
      ⊢ iprop((∀ w, ⌜sq w = V⌝ -∗ holds (pcM c (.inr (l, d))).view c q V -∗ WP c (kv w) Q)
        -∗ WP c (.op (.load BB.zw (wRect o ho).toLoadRect hl) kv) Q) := by
  subst e
  iintro H Hk
  ihave H := (show holds (pcM c (.inr (l, d))).view c q V ⊢ _ from holds_unsq (BB.zw.access (wRect (wOff c l d) ho)) c) $$ H
  icases H with ⟨%w, %hw, H⟩
  iapply (wp_ld c BB.zw (wRect (wOff c l d) ho)) $$ H
  iintro H
  ihave H := (holds_sq (BB.zw.access (wRect (wOff c l d) ho)) c) $$ H
  rw [hw]
  iapply Hk $$ %w %hw
  iexact H
theorem stW_wp {Q : PUnit → sProp 𝕄} {kk : PUnit → TP F} {l : Fin 4} {d : Bool} {o : Fin 3 → ℕ} {ho : FitsW o} (e : o = wOff c l d) {w : Vec F S1x16x1024 .f32} {hx} {hm} :
    raw (pcM c (.inr (l, d))).view c
      ⊢ iprop((holds (pcM c (.inr (l, d))).view c fullShare (sq w) -∗ WP c (kk ⟨⟩) Q)
        -∗ WP c (.op (.store BB.zw (wRect o ho) w Finset.univ hx hm) kk) Q) := by
  subst e
  iintro H Hk
  ihave H := (show raw (pcM c (.inr (l, d))).view c ⊢ _ from raw_unsq (F := F) (BB.zw.access (wRect (wOff c l d) ho)) c) $$ H
  iapply (wp_st c BB.zw (wRect (wOff c l d) ho)) $$ H
  iintro H
  ihave H := (holds_sq (BB.zw.access (wRect (wOff c l d) ho)) c) $$ H
  iapply Hk
  iexact H
theorem ldP_wp {Q : PUnit → sProp 𝕄} {d : Bool} {t : Fin 14} {h : Fin 4} {V : Tile F} {hl} {kv : Vec F S1x16x1024 .f32 → TP F} :
    holds (slM (.inl (d, t, h))).view c q V
      ⊢ iprop((∀ w, ⌜sq w = V⌝ -∗ holds (slM (.inl (d, t, h))).view c q V -∗ WP c (kv w) Q)
        -∗ WP c (.op (.load (BB.pc d) (pRect t h).toLoadRect hl) kv) Q) := by
  iintro H Hk
  ihave H := (show holds (slM (.inl (d, t, h))).view c q V ⊢ _ from holds_unsq ((BB.pc d).access (pRect t h)) c) $$ H
  icases H with ⟨%w, %hw, H⟩
  iapply (wp_ld c (BB.pc d) (pRect t h)) $$ H
  iintro H
  ihave H := (holds_sq ((BB.pc d).access (pRect t h)) c) $$ H
  rw [hw]
  iapply Hk $$ %w %hw
  iexact H
theorem ldC_wp {Q : PUnit → sProp 𝕄} {t : Fin 6} {d : Bool} {V : Tile F} {hl} {kv : Vec F S1x16x1024 .f32 → TP F} :
    holds (slM (.inr (t, d))).view c q V
      ⊢ iprop((∀ w, ⌜sq w = V⌝ -∗ holds (slM (.inr (t, d))).view c q V -∗ WP c (kv w) Q)
        -∗ WP c (.op (.load BB.zc (cRect t d).toLoadRect hl) kv) Q) := by
  iintro H Hk
  ihave H := (show holds (slM (.inr (t, d))).view c q V ⊢ _ from holds_unsq (BB.zc.access (cRect t d)) c) $$ H
  icases H with ⟨%w, %hw, H⟩
  iapply (wp_ld c BB.zc (cRect t d)) $$ H
  iintro H
  ihave H := (holds_sq (BB.zc.access (cRect t d)) c) $$ H
  rw [hw]
  iapply Hk $$ %w %hw
  iexact H

/-! ## A place at a stage -/

/-- A place not lent may be written. -/
theorem plA_raw (c : Dev nD) (p : Pc) {n : ℕ} (h : n < 4) : plA A Bm c p n ⊢ raw (pcM c p).view c := by
  unfold plA
  rw [if_pos h]
  split
  · exact BI.Entails.refl _
  exact holds_raw _ _ _
/-- A place at a stage, lent or not, may be read. -/
theorem plA_holds (c : Dev nD) (p : Pc) {n : ℕ} (hn : n < 8) (h : n % 4 ≠ 0) :
    ∃ q, plA A Bm c p n = holds (pcM c p).view c q (pcVal A Bm c p (n % 4)) := by
  by_cases h4 : n < 4
  · exact ⟨_, by rw [Nat.mod_eq_of_lt h4]; exact plA_full c p (fun e => h (by rw [e])) h4⟩
  · refine ⟨fullShare.left, ?_⟩
    have e : n = (n % 4) + 4 := by omega
    exact (congrArg (plA A Bm c p) e).trans (plA_half c p (Nat.mod_lt _ (by decide)))

variable (K : Dev nD × CK → ℕ)

/-- A place is taken out at the stage it is at. -/
theorem take_full (p : Pc) {n : ℕ} (hf : f p = n) (h0 : n ≠ 0) (h : n < 4) :
    mach A Bm c f k j v ⊢ iprop(holds (pcM c p).view c fullShare (pcVal A Bm c p n) ∗ mach A Bm c (Function.update f p 9) k j v) := by
  subst hf
  rw [← plA_full c p h0 h]
  exact mach_take p
/-- A place not lent is taken out to be written. -/
theorem take_raw (p : Pc) (hf : f p < 4) :
    mach A Bm c f k j v ⊢ iprop(raw (pcM c p).view c ∗ mach A Bm c (Function.update f p 9) k j v) := by
  iintro H
  ihave H := (mach_take p) $$ H
  icases H with ⟨Hp, H⟩
  isplitl [Hp]
  · iapply (plA_raw c p hf) $$ Hp
  iexact H
/-- A place is put back at a stage it has reached. -/
theorem put_back (p : Pc) (n : ℕ) (h0 : n ≠ 0) (h : n < 4) {a : ℕ} :
    iprop(holds (pcM c p).view c fullShare (pcVal A Bm c p n) ∗ mach A Bm c (Function.update f p a) k j v)
      ⊢ mach A Bm c (Function.update f p n) k j v := by
  rw [← plA_full c p h0 h, ← Function.update_idem a n f]
  exact mach_put p n

/-- Adding a landed tile to a tile of the result. -/
theorem sound_add {Q : PUnit → sProp 𝕄} {kk : PUnit → TP F} (d : Bool) (s : Fin 7) (h : Fin 4) (hj : j = idx (.inl (d, early s, h)))
    (hl : lvl j < lvl k ∨ 124 ≤ k) (hf : f (.inl (d, addK s, h)) = 1) :
    iprop(known A Bm K ∗ mach A Bm c f k j v)
      ⊢ iprop((mach A Bm c (Function.update f (.inl (d, addK s, h)) 2) k (j + 1) v -∗ WP c (kk ⟨⟩) Q) -∗ WP c (clEv c (.add d s h) >>= kk) Q) := by
  subst hj
  iintro ⟨#HK, H⟩ Hk
  simp only [clEv, uRecv, Prog.lift, Prog.bind_op, Prog.bind_ret]
  iapply (wp_recvT K (.inl (d, early s, h)) hl) $$ [H]
  · isplitr; · iexact HK
    iexact H
  iintro H
  ihave H := (take_full _ hf (by decide) (by decide)) $$ H
  icases H with ⟨Hp, H⟩
  iapply (ldO_wp (c := c) (q := fullShare)) $$ Hp; iintro Hp
  ihave H := (mach_landed (.inl (d, early s, h)) (Nat.lt_succ_self _)) $$ H
  icases H with ⟨Hx, H⟩
  unfold rcvPay
  iapply (ldP_wp (c := c) (q := fullShare)) $$ Hx; iintro %w %hw Hx
  ihave H := H $$ Hx
  iapply (ldO_wp (c := c) (q := fullShare)) $$ Hp; iintro Hp
  ihave Hp := (holds_raw _ _ _) $$ Hp
  iapply (stO_wp (c := c)) $$ Hp; iintro Hp
  rw [pay5_eq, hw, val_add]
  iapply Hk
  iapply (put_back (.inl (d, addK s, h)) 2 (by decide) (by decide))
  isplitl [Hp]; · iexact Hp
  iexact H

/-- Copying a landed tile into a tile of the result. -/
theorem sound_set {Q : PUnit → sProp 𝕄} {kk : PUnit → TP F} (d : Bool) (s : Fin 7) (h : Fin 4) (hj : j = idx (.inl (d, late s, h)))
    (hl : lvl j < lvl k ∨ 124 ≤ k) (hf : f (.inl (d, setK s, h)) < 4) :
    iprop(known A Bm K ∗ mach A Bm c f k j v)
      ⊢ iprop((mach A Bm c (Function.update f (.inl (d, setK s, h)) 3) k (j + 1) v -∗ WP c (kk ⟨⟩) Q) -∗ WP c (clEv c (.set d s h) >>= kk) Q) := by
  subst hj
  iintro ⟨#HK, H⟩ Hk
  simp only [clEv, uRecv, Prog.lift, Prog.bind_op, Prog.bind_ret]
  iapply (wp_recvT K (.inl (d, late s, h)) hl) $$ [H]
  · isplitr; · iexact HK
    iexact H
  iintro H
  ihave H := (take_raw _ hf) $$ H
  icases H with ⟨Hp, H⟩
  ihave H := (mach_landed (.inl (d, late s, h)) (Nat.lt_succ_self _)) $$ H
  icases H with ⟨Hx, H⟩
  unfold rcvPay
  iapply (ldP_wp (c := c) (q := fullShare)) $$ Hx; iintro %w %hw Hx
  ihave H := H $$ Hx
  unfold raw
  icases Hp with ⟨%V, Hp⟩
  iapply (ldO_wp (c := c) (q := fullShare)) $$ Hp; iintro Hp
  ihave Hp := (holds_raw _ _ _) $$ Hp
  iapply (stO_wp (c := c)) $$ Hp; iintro Hp
  rw [pay107_eq, hw, val_set]
  iapply Hk
  iapply (put_back (.inl (d, setK s, h)) 3 (by decide) (by decide))
  isplitl [Hp]; · iexact Hp
  iexact H

/-- Adding a landed half slab to a half slab. -/
theorem sound_zadd {Q : PUnit → sProp 𝕄} {kk : PUnit → TP F} (s : Fin 3) (d : Bool) (hj : j = idx (.inr (zearly s, d)))
    (hl : lvl j < lvl k ∨ 124 ≤ k) (hf : f (.inr (addL s, d)) = 1) :
    iprop(known A Bm K ∗ mach A Bm c f k j v)
      ⊢ iprop((mach A Bm c (Function.update f (.inr (addL s, d)) 2) k (j + 1) v -∗ WP c (kk ⟨⟩) Q) -∗ WP c (clEv c (.zadd s d) >>= kk) Q) := by
  subst hj
  iintro ⟨#HK, H⟩ Hk
  simp only [clEv, uRecv, Prog.lift, Prog.bind_op, Prog.bind_ret]
  iapply (wp_recvT K (.inr (zearly s, d)) hl) $$ [H]
  · isplitr; · iexact HK
    iexact H
  iintro H
  ihave H := (take_full _ hf (by decide) (by decide)) $$ H
  icases H with ⟨Hp, H⟩
  iapply (ldW_wp (c := c) (q := fullShare) rfl) $$ Hp; iintro %u %hu Hp
  ihave H := (mach_landed (.inr (zearly s, d)) (Nat.lt_succ_self _)) $$ H
  icases H with ⟨Hx, H⟩
  unfold rcvPay
  iapply (ldC_wp (c := c) (q := fullShare)) $$ Hx; iintro %w %hw Hx
  ihave H := H $$ Hx
  iapply (ldW_wp (c := c) (q := fullShare) rfl) $$ Hp; iintro %u' - Hp
  ihave Hp := (holds_raw _ _ _) $$ Hp
  iapply (stW_wp (c := c) rfl) $$ Hp; iintro Hp
  rw [sq_pay93, hu, hw, val_zadd]
  iapply Hk
  iapply (put_back (.inr (addL s, d)) 2 (by decide) (by decide))
  isplitl [Hp]; · iexact Hp
  iexact H

/-- Copying a landed half slab into a half slab. -/
theorem sound_zset {Q : PUnit → sProp 𝕄} {kk : PUnit → TP F} (s : Fin 3) (d : Bool) (hj : j = idx (.inr (zlate s, d)))
    (hl : lvl j < lvl k ∨ 124 ≤ k) (hf : f (.inr (setL s, d)) < 4) :
    iprop(known A Bm K ∗ mach A Bm c f k j v)
      ⊢ iprop((mach A Bm c (Function.update f (.inr (setL s, d)) 3) k (j + 1) v -∗ WP c (kk ⟨⟩) Q) -∗ WP c (clEv c (.zset s d) >>= kk) Q) := by
  subst hj
  iintro ⟨#HK, H⟩ Hk
  simp only [clEv, uRecv, Prog.lift, Prog.bind_op, Prog.bind_ret]
  iapply (wp_recvT K (.inr (zlate s, d)) hl) $$ [H]
  · isplitr; · iexact HK
    iexact H
  iintro H
  ihave H := (take_raw _ hf) $$ H
  icases H with ⟨Hp, H⟩
  ihave H := (mach_landed (.inr (zlate s, d)) (Nat.lt_succ_self _)) $$ H
  icases H with ⟨Hx, H⟩
  unfold rcvPay
  iapply (ldC_wp (c := c) (q := fullShare)) $$ Hx; iintro %w %hw Hx
  ihave H := H $$ Hx
  unfold raw
  icases Hp with ⟨%V, Hp⟩
  iapply (ldW_wp (c := c) (q := fullShare) rfl) $$ Hp; iintro %u' - Hp
  ihave Hp := (holds_raw _ _ _) $$ Hp
  iapply (stW_wp (c := c) rfl) $$ Hp; iintro Hp
  rw [sq_pay101, hw, val_zset]
  iapply Hk
  iapply (put_back (.inr (setL s, d)) 3 (by decide) (by decide))
  isplitl [Hp]; · iexact Hp
  iexact H

/-- The offset of slab `j` by its number is that of the slab by its distance. -/
theorem wOff_lof (c : Dev nD) (j : Fin 4) (d : Bool) : (![j.val, half d, 0] : Fin 3 → ℕ) = wOff c (lof c j) d := by
  have h : slab c (lof c j).val = j.val := congrArg Fin.val (slabF_lof c j)
  unfold wOff; rw [h]

/-- The stage of a half slab that comes down from the ring: the first is at once the sum of one. -/
def downSt (l : Fin 4) : ℕ := if l = 0 then 2 else 1
theorem downSt_range (l : Fin 4) : downSt l ≠ 0 ∧ downSt l < 4 := by revert l; decide
theorem val_downSt (c : Dev nD) (d : Bool) (i : Fin 4) :
    pcVal A Bm c (.inl (d, 7, i)) 2 = pcVal A Bm c (.inr (lof c i, d)) (downSt (lof c i)) := by
  rw [val_down]
  unfold downSt
  split
  · rename_i h; rw [h, val_down0]
  · rfl

/-- Copying a tile of the result down into half a slab. -/
theorem sound_down {Q : PUnit → sProp 𝕄} {kk : PUnit → TP F} (d : Bool) (i : Fin 4) (h1 : f (.inl (d, 7, i)) = 2) (h2 : f (.inr (lof c i, d)) < 4) :
    iprop(known A Bm K ∗ mach A Bm c f k j v)
      ⊢ iprop((mach A Bm c (Function.update f (.inr (lof c i, d)) (downSt (lof c i))) k j v -∗ WP c (kk ⟨⟩) Q) -∗ WP c (clEv c (.down d i) >>= kk) Q) := by
  iintro ⟨#HK, H⟩ Hk
  simp only [clEv, opDown, Prog.lift, Prog.bind_op, Prog.bind_ret]
  ihave H := (take_raw (.inr (lof c i, d)) h2) $$ H
  icases H with ⟨Hp, H⟩
  ihave H := (take_full (.inl (d, 7, i)) (n := 2) ((Function.update_of_ne (fun h => by cases h) _ _).trans h1) (by decide) (by decide)) $$ H
  icases H with ⟨Ho, H⟩
  iapply (ldO_wp (c := c) (q := fullShare)) $$ Ho; iintro Ho
  unfold raw
  icases Hp with ⟨%V, Hp⟩
  iapply (ldW_wp (c := c) (q := fullShare) (wOff_lof c i d)) $$ Hp; iintro %u' - Hp
  ihave Hp := (holds_raw _ _ _) $$ Hp
  iapply (stW_wp (c := c) (wOff_lof c i d)) $$ Hp; iintro Hp
  ihave H := (put_back (.inl (d, 7, i)) 2 (by decide) (by decide)) $$ [Ho H]
  · isplitl [Ho]; · iexact Ho
    iexact H
  rw [sq_pay84, val_downSt, Function.update_comm (fun h => by cases h), ← h1, Function.update_eq_self]
  iapply Hk
  iapply (put_back (.inr (lof c i, d)) _ (downSt_range _).1 (downSt_range _).2)
  isplitl [Hp]; · iexact Hp
  iexact H

/-- Copying half a slab up into a tile of the result. -/
theorem sound_up {Q : PUnit → sProp 𝕄} {kk : PUnit → TP F} (d : Bool) (i : Fin 4) (h1 : f (.inr (lof c i, d)) < 8) (h1' : f (.inr (lof c i, d)) % 4 = 3)
    (h2 : f (.inl (d, 7, i)) < 4) :
    iprop(known A Bm K ∗ mach A Bm c f k j v)
      ⊢ iprop((mach A Bm c (Function.update f (.inl (d, 7, i)) 3) k j v -∗ WP c (kk ⟨⟩) Q) -∗ WP c (clEv c (.up d i) >>= kk) Q) := by
  iintro ⟨#HK, H⟩ Hk
  simp only [clEv, opUp, Prog.lift, Prog.bind_op, Prog.bind_ret]
  ihave H := (take_raw (.inl (d, 7, i)) h2) $$ H
  icases H with ⟨Hp, H⟩
  ihave H := (mach_take (.inr (lof c i, d))) $$ H
  icases H with ⟨Ho, H⟩
  rw [Function.update_of_ne (fun h => by cases h)]
  obtain ⟨q, hq⟩ := plA_holds (A := A) (Bm := Bm) c (.inr (lof c i, d)) h1 (by rw [h1']; decide)
  ihave Ho := (Entails.of_eq hq) $$ Ho
  iapply (ldW_wp (c := c) (q := q) (wOff_lof c i d)) $$ Ho; iintro %u %hu Ho
  ihave Ho := (Entails.of_eq hq.symm) $$ Ho
  unfold raw
  icases Hp with ⟨%V, Hp⟩
  iapply (ldO_wp (c := c) (q := fullShare)) $$ Hp; iintro Hp
  ihave Hp := (holds_raw _ _ _) $$ Hp
  iapply (stO_wp (c := c)) $$ Hp; iintro Hp
  ihave H := (mach_put (.inr (lof c i, d)) _) $$ [Ho H]
  · isplitl [Ho]; · iexact Ho
    iexact H
  rw [Function.update_idem, Function.update_comm (fun h => by cases h), Function.update_eq_self, pay107_eq, hu, h1', val_up]
  iapply Hk
  iapply (put_back (.inl (d, 7, i)) 3 (by decide) (by decide))
  isplitl [Hp]; · iexact Hp
  iexact H

/-! ## The activation -/

/-- Both directions, one by one. -/
theorem both (Φ : Bool → sProp 𝕄) : bigSep Finset.univ Φ = iprop(Φ true ∗ Φ false) :=
  bigSep_univ_eq_bigSepL [true, false] (by decide) (by decide) Φ
/-- Four tiles, one by one. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Squeezing the activation of half a slab is the activation of the squeezed half. -/
theorem sq_gelu (V : Vec F S1x32x1024 .f32) (d : Bool) {U : Vec F S1x16x1024 .f32} (hU : ∀ x, V (gS d x) = U x) :
    sq (fun x => k0_pay100 V (gS d x)) = fun i => geluS (sq U i) := by
  have e : (fun x => k0_pay100 V (gS d x)) = fun x => geluS (U x) := funext fun x => by rw [pay100_apply, hU]
  rw [e]; rfl

/-- The two halves of a slab, squeezed, make up the slab, at some value whose halves they are. -/
theorem slab_whole (l : Fin 4) (W : Bool → Tile F) :
    (bigSep Finset.univ fun d : Bool => holds (pcM c (.inr (l, d))).view c fullShare (W d) : sProp 𝕄)
      ⊢ iprop(∃ V, ⌜∀ d, ∃ U, (∀ x, V (gS d x) = U x) ∧ sq U = W d⌝ ∗ holds (BB.zw.access (slabR c l)) c fullShare V) := by
  rw [both]
  iintro ⟨H1, H2⟩
  ihave H1 := (show holds (pcM c (.inr (l, true))).view c fullShare (W true) ⊢ _ from holds_unsq (BB.zw.access (wRect (wOff c l true) (wOff_fits c l true))) c) $$ H1
  ihave H2 := (show holds (pcM c (.inr (l, false))).view c fullShare (W false) ⊢ _ from holds_unsq (BB.zw.access (wRect (wOff c l false) (wOff_fits c l false))) c) $$ H2
  icases H1 with ⟨%U1, %h1, H1⟩
  icases H2 with ⟨%U2, %h2, H2⟩
  obtain ⟨V, hV⟩ := glue (F := F) (b := cc0_scratch2) (g := fun d => gS d) gS_cover gS_disj (fun d : Bool => if d then U1 else U2)
  iexists V
  isplitr
  · ipureintro
    intro d
    cases d
    · exact ⟨U2, hV false, h2⟩
    · exact ⟨U1, hV true, h1⟩
  iapply (slab_join (c := c) l hV)
  rw [both]
  isplitl [H1]; · iexact H1
  iexact H2

/-- The activation of a slab is the activation of its halves. -/
theorem slab_apart (l : Fin 4) (V : Vec F S1x32x1024 .f32) (W : Bool → Tile F) (h : ∀ d, ∃ U, (∀ x, V (gS d x) = U x) ∧ sq U = W d) :
    (holds (BB.zw.access (slabR c l)) c fullShare (k0_pay100 V) : sProp 𝕄)
      ⊢ bigSep Finset.univ fun d : Bool => holds (pcM c (.inr (l, d))).view c fullShare fun i => geluS (W d i) := by
  refine (slab_split (c := c) l (k0_pay100 V)).trans (bigSep_mono fun d _ => ?_)
  obtain ⟨U, hU, hW⟩ := h d
  rw [← hW, ← sq_gelu V d hU]
  exact holds_sq (BB.zw.access (wRect (wOff c l d) (wOff_fits c l d))) c

theorem sound_gelu {Q : PUnit → sProp 𝕄} {kk : PUnit → TP F} (h1 : f (.inr (3, true)) = 2) (h2 : f (.inr (3, false)) = 2) :
    iprop(known A Bm K ∗ mach A Bm c f k j v)
      ⊢ iprop((mach A Bm c (Function.update (Function.update f (.inr (3, true)) 3) (.inr (3, false)) 3) k j v -∗ WP c (kk ⟨⟩) Q) -∗ WP c (clEv c .gelu >>= kk) Q) := by
  iintro ⟨#HK, H⟩ Hk
  simp only [clEv, opGelu, Prog.lift, Prog.bind_op, Prog.bind_ret]
  ihave H := (take_full (.inr (3, true)) h1 (by decide) (by decide)) $$ H
  icases H with ⟨H1, H⟩
  ihave H := (take_full (.inr (3, false)) (n := 2) ((Function.update_of_ne (by decide) _ _).trans h2) (by decide) (by decide)) $$ H
  icases H with ⟨H2, H⟩
  ihave Hs := (slab_whole (c := c) 3 fun d => pcVal A Bm c (.inr (3, d)) 2) $$ [H1 H2]
  · rw [both]
    isplitl [H1]; · iexact H1
    iexact H2
  icases Hs with ⟨%V, %hV, Hs⟩
  iapply (wp_ld c BB.zw (slabR c 3)) $$ Hs; iintro Hs
  iapply (wp_ld c BB.zw (slabR c 3)) $$ Hs; iintro Hs
  ihave Hs := (holds_raw _ _ _) $$ Hs
  iapply (wp_st c BB.zw (slabR c 3)) $$ Hs; iintro Hs
  ihave Hs := (slab_apart (c := c) 3 V _ hV) $$ Hs
  ihave Hs := (Entails.of_eq (both _)) $$ Hs
  icases Hs with ⟨H1, H2⟩
  iapply Hk
  ihave H := (put_back (.inr (3, false)) 3 (by decide) (by decide)) $$ [H2 H]
  · isplitl [H2]; · iexact H2
    iexact H
  have e : Function.update (Function.update f (.inr (3, true)) 9) (.inr (3, false)) 3 = Function.update (Function.update f (.inr (3, false)) 3) (.inr (3, true)) 9 :=
    Function.update_comm (by decide) _ _ _
  have e' : Function.update (Function.update f (.inr (3, true)) 3) (.inr (3, false)) 3 = Function.update (Function.update f (.inr (3, false)) 3) (.inr (3, true)) 3 :=
    Function.update_comm (by decide) _ _ _
  rw [e, e']
  ihave H := (put_back (.inr (3, true)) 3 (by decide) (by decide)) $$ [H1 H]
  · isplitl [H1]; · iexact H1
    iexact H
  iexact H

/-! ## A block product -/

/-- Loading a rectangle of a buffer that holds `V` gives that part of `V`. -/
theorem wp_ld_sub {Q : PUnit → sProp 𝕄} {s : Shape} (m : Memref sig .tc .vmem s .f32) (r : Rect s) {V : Vec F s .f32} {hl} {kv : Vec F r.shape .f32 → TP F} :
    holds m.view c q V
      ⊢ iprop((holds m.view c q V -∗ WP c (kv fun i => V (r.emb i)) Q) -∗ WP c (.op (.load m r hl) kv) Q) := by
  unfold holds
  iintro ⟨%g, %hg, H⟩ Hk
  iapply (wp_load_rect 𝒱₀ (c : Thread nD τ) none Set.univ (m := m) (r := r) (View.set_slice_subset _ r)) $$ H
  iintro H
  have e : (m.access r).read (Elt F) g = fun i => V (r.emb i) := by rw [← hg]; rfl
  rw [e]
  iapply Hk
  iexists g; isplitr; · ipureintro; exact hg
  iexact H

/-- The stages with the four tiles of a chunk at stage `n`. -/
def upd4 (f : Pc → ℕ) (d : Bool) (i : Fin 8) (n : ℕ) : Pc → ℕ :=
  Function.update (Function.update (Function.update (Function.update f (.inl (d, i, 0)) n) (.inl (d, i, 1)) n) (.inl (d, i, 2)) n) (.inl (d, i, 3)) n
theorem upd4_apply (f : Pc → ℕ) (d : Bool) (i : Fin 8) (n : ℕ) (p : Pc) :
    upd4 f d i n p = if p = .inl (d, i, 3) then n else if p = .inl (d, i, 2) then n else if p = .inl (d, i, 1) then n else if p = .inl (d, i, 0) then n else f p := by
  simp only [upd4, Function.update_apply]
theorem upd4_idem (f : Pc → ℕ) (d : Bool) (i : Fin 8) (m n : ℕ) : upd4 (upd4 f d i m) d i n = upd4 f d i n := by
  funext p
  simp only [upd4_apply]
  split_ifs <;> rfl
theorem ne_tile (d : Bool) (i : Fin 8) {h h' : Fin 4} (e : h ≠ h') : (Sum.inl (d, i, h) : Pc) ≠ Sum.inl (d, i, h') :=
  fun x => e (congrArg (fun p : Bool × Fin 8 × Fin 4 => p.2.2) (Sum.inl.inj x))

/-- The four tiles of a chunk are taken out to be written. -/
theorem take_chunk (d : Bool) (i : Fin 8) (hf : ∀ h, f (.inl (d, i, h)) < 4) :
    mach A Bm c f k j v ⊢ iprop(raw (BB.o.access (chunkR c d i)) c ∗ mach A Bm c (upd4 f d i 9) k j v) := by
  iintro H
  ihave H := (take_raw (.inl (d, i, 0)) (hf 0)) $$ H
  icases H with ⟨H0, H⟩
  ihave H := (take_raw (.inl (d, i, 1)) (by rw [Function.update_of_ne (ne_tile d i (by decide))]; exact hf 1)) $$ H
  icases H with ⟨H1, H⟩
  ihave H := (take_raw (.inl (d, i, 2)) (by rw [Function.update_of_ne (ne_tile d i (by decide)), Function.update_of_ne (ne_tile d i (by decide))]; exact hf 2)) $$ H
  icases H with ⟨H2, H⟩
  ihave H := (take_raw (.inl (d, i, 3)) (by rw [Function.update_of_ne (ne_tile d i (by decide)), Function.update_of_ne (ne_tile d i (by decide)), Function.update_of_ne (ne_tile d i (by decide))]; exact hf 3)) $$ H
  icases H with ⟨H3, H⟩
  isplitl [H0 H1 H2 H3]
  · iapply (chunk_join (c := c) d i)
    rw [four]
    isplitl [H0]; · iexact H0
    isplitl [H1]; · iexact H1
    isplitl [H2]; · iexact H2
    iexact H3
  iexact H

/-- The stage of a tile just multiplied: the device's own chunk is at once the sum of one. -/
def mmSt (i : Fin 8) : ℕ := if i = 0 then 2 else 1
theorem mmSt_range (i : Fin 8) : mmSt i ≠ 0 ∧ mmSt i < 4 := by revert i; decide
theorem val_mmSt (d : Bool) (i : Fin 8) (h : Fin 4) : tileOf (mmC A Bm c d i.val) h = pcVal A Bm c (.inl (d, i, h)) (mmSt i) := by
  unfold mmSt
  split
  · rename_i e; rw [e, val_mm0]; rfl
  · rfl

/-- The four tiles of a chunk are put back multiplied. -/
theorem put_chunk (d : Bool) (i : Fin 8) :
    iprop(holds (BB.o.access (chunkR c d i)) c fullShare (mmC A Bm c d i.val) ∗ mach A Bm c f k j v) ⊢ mach A Bm c (upd4 f d i (mmSt i)) k j v := by
  iintro ⟨Ho, H⟩
  ihave Ho := (chunk_split (c := c) d i _) $$ Ho
  ihave Ho := (show _ ⊢ bigSep Finset.univ fun h : Fin 4 => plA A Bm c (.inl (d, i, h)) (mmSt i) from bigSep_mono fun h _ => Entails.of_eq
    ((congrArg _ (val_mmSt (A := A) (Bm := Bm) (c := c) d i h)).trans (plA_full c (.inl (d, i, h)) (mmSt_range i).1 (mmSt_range i).2).symm)) $$ Ho
  ihave Ho := (Entails.of_eq (four _)) $$ Ho
  icases Ho with ⟨H0, H1, H2, H3⟩
  ihave H := (mach_put (.inl (d, i, 0)) _) $$ [H0 H]
  · isplitl [H0]; · iexact H0
    iexact H
  ihave H := (mach_put (.inl (d, i, 1)) _) $$ [H1 H]
  · isplitl [H1]; · iexact H1
    iexact H
  ihave H := (mach_put (.inl (d, i, 2)) _) $$ [H2 H]
  · isplitl [H2]; · iexact H2
    iexact H
  iapply (mach_put (.inl (d, i, 3)) _)
  isplitl [H3]; · iexact H3
  iexact H

/-- The rows loaded for a block product. -/
theorem rows_eq (X : Vec F S1024x512 .f32) (r : ℕ) (hr : r + 64 ≤ 1024) (ha : ∀ a, (![r, 0] : Fin 2 → ℕ) a + S64x512.size a ≤ S1024x512.size a) :
    (fun i => X ((Rect.unit (s := S1024x512) ![r, 0] S64x512.size ha).emb i)) = rowsOf X r hr := by
  funext i
  unfold rowsOf
  congr 1
  funext a
  fin_cases a
  · exact Fin.ext (show r + 1 * (i 0).val = r + (i 0).val by omega)
  · exact Fin.ext (show 0 + 1 * (i 1).val = (i 1).val by omega)

theorem sound_mm {Q : PUnit → sProp 𝕄} {kk : PUnit → TP F} (d : Bool) (i : Fin 8) (hf : ∀ h, f (.inl (d, i, h)) < 4) :
    iprop(known A Bm K ∗ mach A Bm c f k j v)
      ⊢ iprop((mach A Bm c (upd4 f d i (mmSt i)) k j v -∗ WP c (kk ⟨⟩) Q) -∗ WP c (clEv c (.mm d i) >>= kk) Q) := by
  iintro ⟨#HK, H⟩ Hk
  simp only [clEv, opMm, Prog.lift, Prog.bind_op, Prog.bind_ret]
  ihave H := (mach_ops) $$ H
  icases H with ⟨Hab, H⟩
  unfold opsA
  icases Hab with ⟨Ha, Hb⟩
  iapply (wp_ld_sub (c := c) (q := fullShare) BB.a _) $$ Ha; iintro Ha
  iapply (wp_ld_sub (c := c) (q := fullShare) BB.b _) $$ Hb; iintro Hb
  ihave H := H $$ [Ha Hb]
  · isplitl [Ha]; · iexact Ha
    iexact Hb
  ihave H := (take_chunk d i hf) $$ H
  icases H with ⟨Ho, H⟩
  unfold raw
  icases Ho with ⟨%V, Ho⟩
  iapply (wp_ld c BB.o (chunkR c d i)) $$ Ho; iintro Ho
  ihave Ho := (holds_raw _ _ _) $$ Ho
  iapply (wp_st c BB.o (chunkR c d i)) $$ Ho; iintro Ho
  rw [rows_eq (A c) _ (chunkRow_le c d i)]
  have e : (fun x => Bm c ((Rect.unit (s := S512x1024) ![0, 0] S512x1024.size inb_S512x1024_S512x1024_0_0).emb x)) = Bm c :=
    funext fun x => congrArg _ (Rect.emb_unit_full _ x)
  rw [e]
  iapply Hk
  ihave H := (put_chunk d i) $$ [Ho H]
  · isplitl [Ho]; · iexact Ho
    iexact H
  rw [upd4_idem f d i 9]
  iexact H

/-! ## Transfers -/

theorem sound_send {Q : PUnit → sProp 𝕄} {kk : PUnit → TP F} (x : Tr) (hk : k = idx x) (hv : v ≤ wno x) (hf : f (srcP x) = srcSt x) :
    iprop(known A Bm K ∗ mach A Bm c f k j v)
      ⊢ iprop((mach A Bm c (Function.update f (srcP x) (srcSt x + 4)) (k + 1) j v -∗ WP c (kk ⟨⟩) Q) -∗ WP c (uSend c x >>= kk) Q) := by
  subst hk
  simp only [uSend, Prog.lift, Prog.bind_op, Prog.bind_ret]
  exact wp_sendT K x hv hf

theorem sound_sw {Q : PUnit → sProp 𝕄} {kk : PUnit → TP F} (x : Tr) (hv : v = wno x) (hk : idx x < k) (hf : f (srcP x) = srcSt x + 4) :
    iprop(known A Bm K ∗ mach A Bm c f k j v)
      ⊢ iprop((mach A Bm c (Function.update f (srcP x) (srcSt x)) k j (v + 1) -∗ WP c (kk ⟨⟩) Q) -∗ WP c (uSw c x >>= kk) Q) := by
  subst hv
  simp only [uSw, Prog.lift, Prog.bind_op, Prog.bind_ret]
  exact wp_swT K x hk hf

end Cert.Reduce

end
-- ==== Proof.Machine.lean ====
/-
# The run of the events

A device's events are checked by a small machine that keeps only the stage of every place and the counts of transfers
sent, received and known to have left. A step of the machine is sound for the resources, and the machine runs through
all the events; how far behind the slabs are depends only on a device's depth.
-/
module

public import proofs.«01_k».proof.Proof.Events

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The stages as a list -/

/-- The list with `a` in place `i`, filled up with zeros. -/
def put : List ℕ → ℕ → ℕ → List ℕ
  | [], 0, a => [a]
  | [], i + 1, a => 0 :: put [] i a
  | _ :: l, 0, a => a :: l
  | x :: l, i + 1, a => x :: put l i a

theorem nth_put (l : List ℕ) (i a j : ℕ) : (put l i a).getD j 0 = if j = i then a else l.getD j 0 := by
  induction i generalizing l j with
  | zero => cases l <;> cases j <;> simp [put]
  | succ i ih =>
    cases l <;> cases j <;> simp [put]
    · simpa using ih [] _
    · simpa using ih _ _

/-- The place of a place in the list. -/
def pix : Pc → ℕ
  | .inl (d, k, h) => (if d then 0 else 32) + 4 * k.val + h.val
  | .inr (l, d) => 64 + 2 * l.val + (if d then 0 else 1)

theorem pix_inj : Function.Injective pix := by
  have : ∀ x y : Pc, pix x = pix y → x = y := by decide +kernel
  exact this

/-- The stages a list gives. -/
def codes (l : List ℕ) (p : Pc) : ℕ := l.getD (pix p) 0

theorem codes_put (l : List ℕ) (p : Pc) (n : ℕ) : codes (put l (pix p) n) = Function.update (codes l) p n := by
  funext r
  rw [Function.update_apply]
  unfold codes
  rw [nth_put]
  simp only [pix_inj.eq_iff]

/-! ## The machine -/

/-- The stages and the counts of transfers sent, received and known to have left. -/
structure St where
  l : List ℕ
  k : ℕ
  j : ℕ
  v : ℕ

/-- A place is put at a stage. -/
def St.at (s : St) (p : Pc) (n : ℕ) : St := ⟨put s.l (pix p) n, s.k, s.j, s.v⟩
/-- The stage of a place. -/
def St.of (s : St) (p : Pc) : ℕ := codes s.l p
/-- A transfer more has been received. -/
def St.got (s : St) : St := ⟨s.l, s.k, s.j + 1, s.v⟩

/-- How far behind the slab `j` is on a device of depth `z`. -/
def lofz (z : ℕ) (j : Fin 4) : Fin 4 := ⟨(z + 4 - j.val) % 4, Nat.mod_lt _ (by decide)⟩

/-- The next transfer to be received is `x`, and it is received before anything that depends on what is to be sent. -/
def St.gets (s : St) (x : Tr) : Prop := s.j = idx x ∧ (lvl s.j < lvl s.k ∨ 124 ≤ s.k)
instance (s : St) (x : Tr) : Decidable (s.gets x) := inferInstanceAs (Decidable (_ ∧ _))

/-- The next transfer to be sent is `x`. -/
def sendSt (x : Tr) (s : St) : Option St :=
  if s.k = idx x ∧ s.v ≤ wno x ∧ s.of (srcP x) = srcSt x then some ⟨put s.l (pix (srcP x)) (srcSt x + 4), s.k + 1, s.j, s.v⟩ else none
/-- The next transfer to have left is `x`. -/
def leftSt (x : Tr) (s : St) : Option St :=
  if s.v = wno x ∧ idx x < s.k ∧ s.of (srcP x) = srcSt x + 4 then some ⟨put s.l (pix (srcP x)) (srcSt x), s.k, s.j, s.v + 1⟩ else none

/-- One event of a device of depth `z`. -/
def step (z : ℕ) : Ev → St → Option St
  | .mm d i, s => if ∀ h : Fin 4, s.of (.inl (d, i, h)) < 4 then
      some ((((s.at (.inl (d, i, 0)) (mmSt i)).at (.inl (d, i, 1)) (mmSt i)).at (.inl (d, i, 2)) (mmSt i)).at (.inl (d, i, 3)) (mmSt i)) else none
  | .send d t h, s => sendSt (.inl (d, t, h)) s
  | .add d i h, s => if s.gets (.inl (d, early i, h)) ∧ s.of (.inl (d, addK i, h)) = 1 then some (s.got.at (.inl (d, addK i, h)) 2) else none
  | .set d i h, s => if s.gets (.inl (d, late i, h)) ∧ s.of (.inl (d, setK i, h)) < 4 then some (s.got.at (.inl (d, setK i, h)) 3) else none
  | .down d i, s => if s.of (.inl (d, 7, i)) = 2 ∧ s.of (.inr (lofz z i, d)) < 4 then some (s.at (.inr (lofz z i, d)) (downSt (lofz z i))) else none
  | .up d i, s => if s.of (.inr (lofz z i, d)) < 8 ∧ s.of (.inr (lofz z i, d)) % 4 = 3 ∧ s.of (.inl (d, 7, i)) < 4 then some (s.at (.inl (d, 7, i)) 3) else none
  | .zsend t d, s => sendSt (.inr (t, d)) s
  | .zadd i d, s => if s.gets (.inr (zearly i, d)) ∧ s.of (.inr (addL i, d)) = 1 then some (s.got.at (.inr (addL i, d)) 2) else none
  | .zset i d, s => if s.gets (.inr (zlate i, d)) ∧ s.of (.inr (setL i, d)) < 4 then some (s.got.at (.inr (setL i, d)) 3) else none
  | .gelu, s => if s.of (.inr (3, true)) = 2 ∧ s.of (.inr (3, false)) = 2 then some ((s.at (.inr (3, true)) 3).at (.inr (3, false)) 3) else none
  | .sw d t h, s => leftSt (.inl (d, t, h)) s
  | .zsw t d, s => leftSt (.inr (t, d)) s

/-- Events one after the other. -/
def run (z : ℕ) : List Ev → St → Option St
  | [], s => some s
  | e :: es, s => (step z e s).bind (run z es)

/-- The state at the end: everything final, everything sent, received and left. -/
def St.done (s : St) : Bool := s.l == List.replicate 72 3 && s.k == 124 && s.j == 124 && s.v == 124

/-- On a device of any depth the machine runs through all the events. -/
theorem run_done : ∀ z : Fin 4, ((run z.val evs ⟨[], 0, 0, 0⟩).elim false St.done) = true := by decide +kernel

theorem codes_final : codes (List.replicate 72 3) = fun _ => 3 := by
  have : ∀ p : Pc, codes (List.replicate 72 3) p = 3 := by decide +kernel
  exact funext this

theorem dep_lt4 (c : Dev nD) : dep c < 4 := by revert c; decide

/-- The final state. -/
theorem run_evs (c : Dev nD) : ∃ s, run (dep c) evs ⟨[], 0, 0, 0⟩ = some s ∧ codes s.l = (fun _ => 3) ∧ s.k = 124 ∧ s.j = 124 ∧ s.v = 124 := by
  have h := run_done ⟨dep c, dep_lt4 c⟩
  revert h
  show (run (dep c) evs ⟨[], 0, 0, 0⟩).elim false St.done = true → _
  cases run (dep c) evs ⟨[], 0, 0, 0⟩ with
  | none => intro h; cases h
  | some s =>
    intro h
    have h : s.done = true := h
    simp only [St.done, Bool.and_eq_true, beq_iff_eq] at h
    obtain ⟨⟨⟨h1, h2⟩, h3⟩, h4⟩ := h
    exact ⟨s, rfl, by rw [h1]; exact codes_final, h2, h3, h4⟩

/-! ## It is sound -/

variable {F : FTy → Type} [FloatOps F]

local notation "𝕄" => MT nD τ sig Unit (Elt F) ℕ UU ℕ

variable {A : Dev nD → Vec F S1024x512 .f32} {Bm : Dev nD → Vec F S512x1024 .f32} {K : Dev nD × CK → ℕ} {c : Dev nD}

/-- The resources a state of the machine stands for. -/
abbrev machS (A : Dev nD → Vec F S1024x512 .f32) (Bm : Dev nD → Vec F S512x1024 .f32) (c : Dev nD) (s : St) : sProp 𝕄 := mach A Bm c (codes s.l) s.k s.j s.v

theorem send_sound {Q : PUnit → sProp 𝕄} {kk : PUnit → TP F} (x : Tr) {s s' : St} (h : sendSt x s = some s') :
    iprop(known A Bm K ∗ machS A Bm c s) ⊢ iprop((machS A Bm c s' -∗ WP c (kk ⟨⟩) Q) -∗ WP c (uSend c x >>= kk) Q) := by
  unfold sendSt at h
  split at h
  · rename_i g
    cases h
    unfold machS
    rw [codes_put]
    exact sound_send K x g.1 g.2.1 g.2.2
  · cases h
theorem left_sound {Q : PUnit → sProp 𝕄} {kk : PUnit → TP F} (x : Tr) {s s' : St} (h : leftSt x s = some s') :
    iprop(known A Bm K ∗ machS A Bm c s) ⊢ iprop((machS A Bm c s' -∗ WP c (kk ⟨⟩) Q) -∗ WP c (uSw c x >>= kk) Q) := by
  unfold leftSt at h
  split at h
  · rename_i g
    cases h
    unfold machS
    rw [codes_put]
    exact sound_sw K x g.1 g.2.1 g.2.2
  · cases h

/-- A step of the machine is sound. -/
theorem step_sound {Q : PUnit → sProp 𝕄} {kk : PUnit → TP F} (e : Ev) {s s' : St} (h : step (dep c) e s = some s') :
    iprop(known A Bm K ∗ machS A Bm c s) ⊢ iprop((machS A Bm c s' -∗ WP c (kk ⟨⟩) Q) -∗ WP c (clEv c e >>= kk) Q) := by
  cases e with
  | send d t h' => exact send_sound _ h
  | zsend t d => exact send_sound _ h
  | sw d t h' => exact left_sound _ h
  | zsw t d => exact left_sound _ h
  | mm d i =>
    simp only [step] at h
    split at h
    · rename_i g
      cases h
      unfold machS
      simp only [St.at, codes_put]
      exact sound_mm K d i g
    · cases h
  | add d i h' =>
    simp only [step] at h
    split at h
    · rename_i g
      cases h
      unfold machS
      simp only [St.at, St.got, codes_put]
      exact sound_add K d i h' g.1.1 g.1.2 g.2
    · cases h
  | set d i h' =>
    simp only [step] at h
    split at h
    · rename_i g
      cases h
      unfold machS
      simp only [St.at, St.got, codes_put]
      exact sound_set K d i h' g.1.1 g.1.2 g.2
    · cases h
  | zadd i d =>
    simp only [step] at h
    split at h
    · rename_i g
      cases h
      unfold machS
      simp only [St.at, St.got, codes_put]
      exact sound_zadd K i d g.1.1 g.1.2 g.2
    · cases h
  | zset i d =>
    simp only [step] at h
    split at h
    · rename_i g
      cases h
      unfold machS
      simp only [St.at, St.got, codes_put]
      exact sound_zset K i d g.1.1 g.1.2 g.2
    · cases h
  | down d i =>
    simp only [step] at h
    split at h
    · rename_i g
      cases h
      unfold machS
      simp only [St.at, codes_put]
      exact sound_down K d i g.1 g.2
    · cases h
  | up d i =>
    simp only [step] at h
    split at h
    · rename_i g
      cases h
      unfold machS
      simp only [St.at, codes_put]
      exact sound_up K d i g.1 g.2.1 g.2.2
    · cases h
  | gelu =>
    simp only [step] at h
    split at h
    · rename_i g
      cases h
      unfold machS
      simp only [St.at, codes_put]
      exact sound_gelu K g.1 g.2
    · cases h

/-- A run of the machine is sound. -/
theorem run_sound {Q : PUnit → sProp 𝕄} (es : List Ev) {s s' : St} (h : run (dep c) es s = some s') :
    iprop(known A Bm K ∗ machS A Bm c s) ⊢ iprop((machS A Bm c s' -∗ |={Set.univ}=> Q ⟨⟩) -∗ WP c (seqs (es.map (clEv c))) Q) := by
  induction es generalizing s with
  | nil =>
    cases h
    iintro ⟨#HK, H⟩ Hk
    simp only [List.map_nil, seqs, Prog.pure_eq_ret]
    unfold WP
    rw [wp_ret]
    iapply Hk
    iexact H
  | cons e es ih =>
    unfold run at h
    cases g : step (dep c) e s with
    | none => rw [g] at h; cases h
    | some s₁ =>
      rw [g] at h
      iintro ⟨#HK, H⟩ Hk
      rw [List.map_cons, seqs]
      iapply (step_sound e g) $$ [H]
      · isplitr; · iexact HK
        iexact H
      iintro H
      iapply (ih h) $$ [H]
      · isplitr; · iexact HK
        iexact H
      iexact Hk

end Cert.Reduce

end
-- ==== Proof.Body.lean ====
/-
# The body

The entry handshake brings a device the landing tiles on its neighbours; with them the run of the events begins, and at
its end every buffer is whole again, the result is final, and every semaphore of the device is back at zero.
-/
module

public import proofs.«01_k».proof.Proof.Machine

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Conjunctions over all transfers and all cells -/

/-- Over all transfers: the two ring directions and the depth. -/
theorem over_tr (Φ : Tr → sProp 𝕄) : bigSep Finset.univ Φ
    = iprop(((bigSep Finset.univ fun y : Fin 14 × Fin 4 => Φ (.inl (true, y))) ∗ (bigSep Finset.univ fun y : Fin 14 × Fin 4 => Φ (.inl (false, y))))
      ∗ bigSep Finset.univ fun y : Fin 6 × Bool => Φ (.inr y)) := by
  refine (bigSep_univ_sum Φ).trans ?_
  rw [bigSep_univ_prod, both]
  rfl
/-- Over all cells: the barrier's, those of the departures, and those of the arrivals. -/
theorem over_ck (Φ : CK → sProp 𝕄) : bigSep Finset.univ Φ
    = iprop(Φ none ∗ (bigSep Finset.univ fun x : Tr => Φ (some (false, x))) ∗ bigSep Finset.univ fun x : Tr => Φ (some (true, x))) := by
  rw [bigSep_univ_equiv ((Equiv.sumComm _ _).trans (Equiv.optionEquivSumPUnit.{0} (Bool × Tr)).symm) Φ]
  refine (bigSep_univ_sum _).trans ?_
  have e : (bigSep Finset.univ fun a : PUnit.{1} => Φ (((Equiv.sumComm _ _).trans (Equiv.optionEquivSumPUnit.{0} (Bool × Tr)).symm) (.inl a)) : sProp 𝕄) = Φ none := by
    rw [Finset.univ_unique, bigSep_singleton]; rfl
  rw [e, bigSep_univ_prod, bigSep_univ_eq_bigSepL [false, true] (by decide) (by decide)]
  rfl

variable (A : Dev nD → Vec F S1024x512 .f32) (Bm : Dev nD → Vec F S512x1024 .f32)

/-! ## The entry handshake -/

/-- What a device owes at the start: the arrivals of its transfers, and a unit to each of the four barriers it signals,
the first signalled last in the sum. -/
def O₁ (c : Dev nD) : CellTallies nD τ sig Unit := owed c 0 + tallyAt (barCell (nxt true c)) () 1
def O₂ (c : Dev nD) : CellTallies nD τ sig Unit := O₁ c + tallyAt (barCell (nxt false c)) () 1
def O₃ (c : Dev nD) : CellTallies nD τ sig Unit := O₂ c + tallyAt (barCell (up c)) () 1
def O₀ (c : Dev nD) : CellTallies nD τ sig Unit := O₃ c + tallyAt (barCell (dn c)) () 1

/-- The tokens of the units a device pays to the barriers of its neighbours. -/
def barToks (c : Dev nD) : sProp 𝕄 :=
  iprop(dutyTok ER (barCell (dn c)) 0 0 ∗ dutyTok ER (barCell (up c)) 0 1 ∗ dutyTok ER (barCell (nxt false c)) 0 2 ∗ dutyTok ER (barCell (nxt true c)) 0 3)

theorem mem_bar (c : Dev nD) (d : Fin 4) : d ∈ (Rd A Bm).duties (barCell c) 0 := by
  rw [show (Rd A Bm).duties (barCell c) 0 = Finset.univ from duties_kcell A Bm c none]; exact Finset.mem_univ _
theorem amount_bar (c : Dev nD) (d : Fin 4) : (Rd A Bm).amount (barCell c) 0 d = (1#32 : BitVec 32).toNat := amount_kcell A Bm c none d
theorem payload_bar (c : Dev nD) (d : Fin 4) : (Rd A Bm).payload (barCell c) 0 d = barPay c d := payload_kcell A Bm c none d

/-- What a device pays its neighbours: its landing tiles. -/
theorem pay_dn (c : Dev nD) : (bigSep Finset.univ fun y : Fin 6 × Bool => land (F := F) c (.inr y)) = barPay (F := F) (dn c) 0 := by
  show _ = bigSep Finset.univ fun y : Fin 6 × Bool => land (F := F) (up (dn c)) (.inr y)
  rw [up_dn]
theorem pay_nf (c : Dev nD) : (bigSep Finset.univ fun y : Fin 14 × Fin 4 => land (F := F) c (.inl (true, y))) = barPay (F := F) (nxt false c) 2 := by
  show _ = bigSep Finset.univ fun y : Fin 14 × Fin 4 => land (F := F) (nxt true (nxt false c)) (.inl (true, y))
  rw [show nxt true (nxt false c) = c from nxt_nxt false c]
theorem pay_nt (c : Dev nD) : (bigSep Finset.univ fun y : Fin 14 × Fin 4 => land (F := F) c (.inl (false, y))) = barPay (F := F) (nxt true c) 3 := by
  show _ = bigSep Finset.univ fun y : Fin 14 × Fin 4 => land (F := F) (nxt false (nxt true c)) (.inl (false, y))
  rw [show nxt false (nxt true c) = c from nxt_nxt true c]

variable {A Bm}

/-- The handshake: a device gives its landing tiles away and gets those on its neighbours. -/
theorem wp_hand (K : Dev nD × CK → ℕ) (c : Dev nD) (W : Waits sig Unit) {Q : PUnit → sProp 𝕄} (rest : TP F) :
    iprop(known A Bm K ∗ owes (c : Thread nD τ) (O₀ c) W ∗ barToks c ∗ (bigSep Finset.univ fun x : Tr => land (F := F) c x)
        ∗ cred (tallyAt (barCell c) () 4) ∗ atPos ER (barCell c) 0 ∅ 0)
      ⊢ iprop((((∃ W, owes (c : Thread nD τ) (owed c 0) W) ∗ atPos ER (barCell c) 1 ∅ 0 ∗ (bigSep Finset.univ fun x : Tr => land (F := F) (tgt c x) x)) -∗ WP c rest Q)
        -∗ WP c (handshake c rest) Q) := by
  unfold handshake WP
  simp only [semSignalWord, semWaitWord, Prog.lift, Prog.bind_op, Prog.bind_ret, Prog.pure_eq_ret]
  rw [prDev1_eq, prDev2_eq, prDev3_eq, prDev4_eq]
  unfold barToks
  iintro ⟨#HK, HO, ⟨T0, T1, T2, T3⟩, HL, Hc, Hat⟩ Hk
  ihave HL := (Entails.of_eq (over_tr _)) $$ HL
  icases HL with ⟨⟨Lt, Lf⟩, Lz⟩
  ihave Lz := (Entails.of_eq ((pay_dn c).trans (payload_bar A Bm (dn c) 0).symm)) $$ Lz
  ihave Lt := (Entails.of_eq ((pay_nf c).trans (payload_bar A Bm (nxt false c) 2).symm)) $$ Lt
  ihave Lf := (Entails.of_eq ((pay_nt c).trans (payload_bar A Bm (nxt true c) 3).symm)) $$ Lf
  iapply (Rounds.wp_signal 𝒱₀ ER (Rd A Bm) (c : Thread nD τ) none (dst := (dn c : Thread nD τ)) (κ := K (dn c, none))
      (d := 0) (mem_bar A Bm _ _) (amount_bar A Bm (dn c) 0) () (O₃ c) rfl) $$ [HO T0 Lz]
  · isplitr; · iapply (known_inv A Bm K (dn c) none); iexact HK
    isplitl [HO]; · iexact HO
    isplitl [T0]; · iexact T0
    isplitl [Lz]; · iexact Lz
    iapply (known_reached A Bm K (dn c) none); iexact HK
  iintro HO
  iapply (Rounds.wp_signal 𝒱₀ ER (Rd A Bm) (c : Thread nD τ) none (dst := (up c : Thread nD τ)) (κ := K (up c, none))
      (d := 1) (mem_bar A Bm _ _) (amount_bar A Bm (up c) 1) () (O₂ c) rfl) $$ [HO T1]
  · isplitr; · iapply (known_inv A Bm K (up c) none); iexact HK
    isplitl [HO]; · iexact HO
    isplitl [T1]; · iexact T1
    isplitr; · rw [payload_bar]; unfold barPay; iempintro
    iapply (known_reached A Bm K (up c) none); iexact HK
  iintro HO
  iapply (Rounds.wp_signal 𝒱₀ ER (Rd A Bm) (c : Thread nD τ) none (dst := (nxt false c : Thread nD τ)) (κ := K (nxt false c, none))
      (d := 2) (mem_bar A Bm _ _) (amount_bar A Bm (nxt false c) 2) () (O₁ c) rfl) $$ [HO T2 Lt]
  · isplitr; · iapply (known_inv A Bm K (nxt false c) none); iexact HK
    isplitl [HO]; · iexact HO
    isplitl [T2]; · iexact T2
    isplitl [Lt]; · iexact Lt
    iapply (known_reached A Bm K (nxt false c) none); iexact HK
  iintro HO
  iapply (Rounds.wp_signal 𝒱₀ ER (Rd A Bm) (c : Thread nD τ) none (dst := (nxt true c : Thread nD τ)) (κ := K (nxt true c, none))
      (d := 3) (mem_bar A Bm _ _) (amount_bar A Bm (nxt true c) 3) () (owed c 0) rfl) $$ [HO T3 Lf]
  · isplitr; · iapply (known_inv A Bm K (nxt true c) none); iexact HK
    isplitl [HO]; · iexact HO
    isplitl [T3]; · iexact T3
    isplitl [Lf]; · iexact Lf
    iapply (known_reached A Bm K (nxt true c) none); iexact HK
  iintro HO
  iapply (Rounds.wp_wait_rest_token 𝒱₀ ER (Rd A Bm) (c : Thread nD τ) none (κ := K (c, none))
      (wpE_semWait_eq 𝒱₀ (c : Thread nD τ) none Set.univ) (Set.mem_univ _) () (O := owed c 0) (W := W) (R := 0) (m := 0) (T := ∅)
      (by rw [expect_bar]; decide)) $$ [Hc HO Hat]
  · isplitr; · iapply (known_inv A Bm K c none); iexact HK
    isplitl [Hc]; · iexact Hc
    isplitl [HO]; · iexact HO
    isplitr
    · iapply (known_may A Bm K c (.reg barS) 0 (fun x _ => by rw [kindOf_bar]; exact lt_of_lt_of_le (show 1 < 2 from Nat.one_lt_two) (two_le_lvl _))); iexact HK
    iexact Hat
  iintro ⟨HO, Hat, -, Hp⟩
  ihave Hp := (Entails.of_eq (rest_bar A Bm c)) $$ Hp
  unfold barPay
  icases Hp with ⟨Lz, -, Lt, Lf⟩
  iapply Hk
  isplitl [HO]; · iexists _; iexact HO
  isplitl [Hat]; · iexact Hat
  rw [over_tr]
  isplitl [Lt Lf]
  · isplitl [Lt]; · iexact Lt
    iexact Lf
  iexact Lz

/-! ## The end -/

variable (A Bm) in
/-- Some contents have the final tiles. -/
theorem outV_exists (c : Dev nD) : ∃ V : Vec F S1024x1024 .f32, ∀ (t : Bool × Fin 8 × Fin 4) (x : S16x1024.Idx),
    V ((oRect (oOff c t.1 t.2.1 t.2.2) (oOff_fits c t.1 t.2.1 t.2.2)).emb x) = pcVal A Bm c (.inl t) 3 x :=
  glue (F := F) (b := cc0_stg2_0) (g := fun t : Bool × Fin 8 × Fin 4 => (oRect (oOff c t.1 t.2.1 t.2.2) (oOff_fits c t.1 t.2.1 t.2.2)).emb)
    (oT_cover c) (oT_disj c) (fun t => pcVal A Bm c (.inl t) 3)
variable (A Bm) in
/-- The result of a device: the contents whose tiles are the final ones. -/
def outV (c : Dev nD) : Vec F S1024x1024 .f32 := Classical.choose (outV_exists (A := A) (Bm := Bm) c)
theorem outV_tile (c : Dev nD) (t : Bool × Fin 8 × Fin 4) (x : S16x1024.Idx) :
    outV A Bm c ((oRect (oOff c t.1 t.2.1 t.2.2) (oOff_fits c t.1 t.2.1 t.2.2)).emb x) = pcVal A Bm c (.inl t) 3 x :=
  Classical.choose_spec (outV_exists (A := A) (Bm := Bm) c) t x

/-- The scratch buffers, at any contents. -/
def scratch (c : Dev nD) : sProp 𝕄 :=
  iprop(raw (F := F) (BB.pc true).view c ∗ raw (F := F) (BB.pc false).view c ∗ raw (F := F) BB.zw.view c ∗ raw (F := F) BB.zc.view c)

/-- What every device knows serves each of many. -/
theorem each_known (K : Dev nD × CK → ℕ) {I : Type} {S : Finset I} {Φ Ψ : I → sProp 𝕄} (h : ∀ i, iprop(known A Bm K ∗ Φ i) ⊢ Ψ i) :
    iprop(known A Bm K ∗ bigSep S Φ) ⊢ bigSep S Ψ := by
  classical
  refine (sep_mono_left (BI.bigSep_of_persistent S (known A Bm K))).trans ?_
  rw [← bigSep_sep']
  exact bigSep_mono fun i _ => h i

/-- All cells of a device close with their semaphores at zero. -/
theorem close_all (K : Dev nD × CK → ℕ) (c : Dev nD) :
    iprop(known A Bm K ∗ bigSep Finset.univ fun k : CK => atPos ER ((c : Thread nD τ), csem k) 1 ∅ 0)
      ⊢ (|={Set.univ}=> bigSep Finset.univ fun k : CK => semVal ((c : Thread nD τ), csem k) 0 : sProp 𝕄) := by
  refine (each_known K (Ψ := fun k : CK => iprop(|={Set.univ}=> semVal ((c : Thread nD τ), csem k) 0)) fun k => ?_).trans (bigSep_fupd _ _)
  iintro ⟨#HK, H⟩
  imod (Rounds.cell_close ER (Rd A Bm) (Set.mem_univ (K (c, k))) (fun h => h) (R := 0 + 1) (duties_later A Bm ((c : Thread nD τ), csem k))) $$ [H] with Hz
  · isplitr; · iapply (known_inv A Bm K c k); iexact HK
    iexact H
  imodintro
  iexact Hz

theorem depA_end (c : Dev nD) (x : Tr) : depA (F := F) c 124 124 x = atPos ER (sendCell c x) 1 ∅ 0 := by
  unfold depA
  rw [if_neg (by have := idx_lt x; omega), if_neg (by have := wno_lt x; omega)]
theorem arrA_end (c : Dev nD) (x : Tr) : arrA A Bm c 124 x = iprop(rcvPay A Bm c x ∗ atPos ER (recvCell c x) 1 ∅ 0) := by
  unfold arrA
  rw [if_neg (by have := idx_lt x; omega)]

/-- The places at the end: the result is final and the slabs are whole. -/
theorem places_end (c : Dev nD) :
    (bigSep Finset.univ fun p : Pc => plA A Bm c p 3) ⊢ iprop(holds BB.o.view c fullShare (outV A Bm c) ∗ raw (F := F) BB.zw.view c) := by
  rw [bigSep_univ_sum]
  refine BI.sep_mono ?_ ?_
  · exact (bigSep_mono fun t _ => Entails.of_eq (plA_full c (.inl t) (by decide) (by decide))).trans (o_join (F := F) (outV_tile c))
  · exact (bigSep_mono fun t _ => (Entails.of_eq (plA_full c (.inr t) (by decide) (by decide))).trans (holds_raw _ _ _)).trans w_join

/-- The landing buffers at the end are whole. -/
theorem lands_whole (c : Dev nD) :
    (bigSep Finset.univ fun x : Tr => rcvPay A Bm c x) ⊢ iprop((raw (F := F) (BB.pc true).view c ∗ raw (F := F) (BB.pc false).view c) ∗ raw (F := F) BB.zc.view c) := by
  rw [over_tr]
  refine BI.sep_mono (sep_mono ?_ ?_) ?_
  · exact (bigSep_mono fun t _ => (holds_raw _ _ _)).trans (p_join true)
  · exact (bigSep_mono fun t _ => (holds_raw _ _ _)).trans (p_join false)
  · exact (bigSep_mono fun t _ => (holds_raw _ _ _)).trans z_join

/-- What a device ends with. -/
def ended (A : Dev nD → Vec F S1024x512 .f32) (Bm : Dev nD → Vec F S512x1024 .f32) (c : Dev nD) : sProp 𝕄 :=
  iprop(opsA A Bm c ∗ holds BB.o.view c fullShare (outV A Bm c) ∗ scratch c ∗ (bigSep Finset.univ fun k : CK => semVal ((c : Thread nD τ), csem k) 0)
    ∗ ∃ W, owes (c : Thread nD τ) 0 W)

theorem mach_end (K : Dev nD × CK → ℕ) (c : Dev nD) :
    iprop(known A Bm K ∗ atPos ER (barCell c) 1 ∅ 0 ∗ mach A Bm c (fun _ => 3) 124 124 124) ⊢ (|={Set.univ}=> ended A Bm c : sProp 𝕄) := by
  unfold mach
  iintro ⟨#HK, Hb, Ho, Hp, Hd, Ha, HO⟩
  ihave Hp := (places_end c) $$ Hp
  icases Hp with ⟨Hout, Hw⟩
  ihave Hd := (show _ ⊢ bigSep Finset.univ fun x : Tr => (atPos ER (sendCell c x) 1 ∅ 0 : sProp 𝕄) from bigSep_mono fun x _ => Entails.of_eq (depA_end c x)) $$ Hd
  ihave Ha := (show _ ⊢ iprop((bigSep Finset.univ fun x : Tr => rcvPay A Bm c x) ∗ bigSep Finset.univ fun x : Tr => (atPos ER (recvCell c x) 1 ∅ 0 : sProp 𝕄)) from
    (bigSep_mono fun x _ => Entails.of_eq (arrA_end c x)).trans (Entails.of_eq (bigSep_sep' _ _ _))) $$ Ha
  icases Ha with ⟨Hr, Ha⟩
  ihave Hr := (lands_whole c) $$ Hr
  icases Hr with ⟨⟨Hpt, Hpf⟩, Hz⟩
  imod (close_all K c) $$ [Hb Hd Ha] with Hs
  · isplitr; · iexact HK
    iapply (Entails.of_eq (over_ck fun k : CK => (atPos ER ((c : Thread nD τ), csem k) 1 ∅ 0 : sProp 𝕄)).symm)
    isplitl [Hb]; · iexact Hb
    isplitl [Hd]; · iexact Hd
    iexact Ha
  imodintro
  unfold ended scratch
  isplitl [Ho]; · iexact Ho
  isplitl [Hout]; · iexact Hout
  isplitl [Hpt Hpf Hw Hz]
  · isplitl [Hpt]; · iexact Hpt
    isplitl [Hpf]; · iexact Hpf
    isplitl [Hw]; · iexact Hw
    iexact Hz
  isplitl [Hs]; · iexact Hs
  rw [owed_end]
  iexact HO

/-! ## The whole body -/

/-- What is dealt to a device at the start: its positions, the tokens of what it pays, and the credit of what it is paid. -/
def dealt (c : Dev nD) : sProp 𝕄 :=
  iprop((atPos ER (barCell c) 0 ∅ 0 ∗ (bigSep Finset.univ fun x : Tr => atPos ER (sendCell c x) 0 ∅ 0) ∗ (bigSep Finset.univ fun x : Tr => atPos ER (recvCell c x) 0 ∅ 0))
    ∗ barToks c ∗ (bigSep Finset.univ fun x : Tr => dutyTok ER (sendCell c x) 0 0) ∗ (bigSep Finset.univ fun x : Tr => dutyTok ER (recvCell (tgt c x) x) 0 0))
/-- The credit of a device at the start. -/
def credit (c : Dev nD) : sProp 𝕄 :=
  iprop(cred (tallyAt (barCell c) () 4) ∗ bigSep Finset.univ fun x : Tr => cred (tallyAt (recvCell c x) () N))

/-- The places at the start: cut out of the result and the slabs. -/
theorem places_start (c : Dev nD) : iprop(raw (F := F) BB.o.view c ∗ raw (F := F) BB.zw.view c) ⊢ bigSep Finset.univ fun p : Pc => plA A Bm c p 0 := by
  rw [bigSep_univ_sum]
  refine BI.sep_mono ?_ ?_
  · exact o_split
  · exact w_split
/-- The landing tiles at the start: cut out of the landing buffers. -/
theorem lands_start (c : Dev nD) :
    iprop((raw (F := F) (BB.pc true).view c ∗ raw (F := F) (BB.pc false).view c) ∗ raw (F := F) BB.zc.view c) ⊢ bigSep Finset.univ fun x : Tr => land (F := F) c x := by
  rw [over_tr]
  exact BI.sep_mono (BI.sep_mono (p_split true) (p_split false)) z_split
theorem depA_start (c : Dev nD) (x : Tr) :
    iprop(dutyTok ER (sendCell c x) 0 0 ∗ dutyTok ER (recvCell (tgt c x) x) 0 0 ∗ land (F := F) (tgt c x) x ∗ atPos ER (sendCell c x) 0 ∅ 0) = depA (F := F) c 0 0 x := by
  unfold depA; rw [if_pos (Nat.zero_le _)]
theorem arrA_start (c : Dev nD) (x : Tr) :
    iprop(cred (tallyAt (recvCell c x) () N) ∗ atPos ER (recvCell c x) 0 ∅ 0) = arrA A Bm c 0 x := by
  unfold arrA; rw [if_pos (Nat.zero_le _)]
theorem deps_start (c : Dev nD) :
    iprop((bigSep Finset.univ fun x : Tr => dutyTok ER (sendCell c x) 0 0) ∗ (bigSep Finset.univ fun x : Tr => dutyTok ER (recvCell (tgt c x) x) 0 0)
        ∗ (bigSep Finset.univ fun x : Tr => land (F := F) (tgt c x) x) ∗ bigSep Finset.univ fun x : Tr => atPos ER (sendCell c x) 0 ∅ 0)
      ⊢ (bigSep Finset.univ (depA (F := F) c 0 0) : sProp 𝕄) := by
  rw [← bigSep_sep', ← bigSep_sep', ← bigSep_sep']
  exact bigSep_mono fun x _ => Entails.of_eq (depA_start c x)
theorem arrs_start (c : Dev nD) :
    iprop((bigSep Finset.univ fun x : Tr => cred (tallyAt (recvCell c x) () N)) ∗ bigSep Finset.univ fun x : Tr => atPos ER (recvCell c x) 0 ∅ 0)
      ⊢ bigSep Finset.univ (arrA A Bm c 0) := by
  rw [← bigSep_sep']
  exact bigSep_mono fun x _ => Entails.of_eq (arrA_start c x)

theorem mach_start (c : Dev nD) :
    iprop(opsA A Bm c ∗ (raw (F := F) BB.o.view c ∗ raw (F := F) BB.zw.view c)
        ∗ ((bigSep Finset.univ fun x : Tr => dutyTok ER (sendCell c x) 0 0) ∗ (bigSep Finset.univ fun x : Tr => dutyTok ER (recvCell (tgt c x) x) 0 0)
          ∗ (bigSep Finset.univ fun x : Tr => land (F := F) (tgt c x) x) ∗ bigSep Finset.univ fun x : Tr => atPos ER (sendCell c x) 0 ∅ 0)
        ∗ ((bigSep Finset.univ fun x : Tr => cred (tallyAt (recvCell c x) () N)) ∗ bigSep Finset.univ fun x : Tr => atPos ER (recvCell c x) 0 ∅ 0)
        ∗ ∃ W, owes (c : Thread nD τ) (owed c 0) W)
      ⊢ machS A Bm c ⟨[], 0, 0, 0⟩ :=
  BI.sep_mono (BI.Entails.refl _) (BI.sep_mono (places_start c) (BI.sep_mono (deps_start c) (BI.sep_mono (arrs_start c) (BI.Entails.refl _))))

/-- The events of the body, from the first state of the machine to the last. -/
theorem wp_evs (K : Dev nD × CK → ℕ) (c : Dev nD) {Q : PUnit → sProp 𝕄} :
    iprop(known A Bm K ∗ machS A Bm c ⟨[], 0, 0, 0⟩)
      ⊢ iprop((mach A Bm c (fun _ => 3) 124 124 124 -∗ |={Set.univ}=> Q ⟨⟩) -∗ WP c (seqs (evs.map (clEv c))) Q) := by
  obtain ⟨s, hs, hf, hk, hj, hv⟩ := run_evs c
  have h := run_sound (A := A) (Bm := Bm) (Q := Q) (K := K) evs hs
  have e : machS A Bm c s = mach A Bm c (fun _ => 3) 124 124 124 := by unfold machS; rw [hf, hk, hj, hv]
  rw [e] at h
  exact h

/-- The body, from what is dealt to a device and its buffers to what it ends with. -/
theorem wp_body (K : Dev nD × CK → ℕ) (c : Dev nD) (W : Waits sig Unit) {Q : PUnit → sProp 𝕄} :
    iprop(known A Bm K ∗ dealt c ∗ credit c ∗ scratch c ∗ opsA A Bm c ∗ raw (F := F) BB.o.view c ∗ owes (c : Thread nD τ) (O₀ c) W)
      ⊢ iprop((ended A Bm c -∗ Q ⟨⟩) -∗ WP c (handshake c (seqs (evs.map (clEv c)))) Q) := by
  unfold dealt credit scratch
  iintro ⟨#HK, ⟨⟨Hab, Has, Har⟩, Hbt, Hts, Htr⟩, ⟨Hcb, Hcr⟩, ⟨Hpt, Hpf, Hw, Hz⟩, Hops, Ho, HO⟩ Hk
  ihave HL := (lands_start c) $$ [Hpt Hpf Hz]
  · isplitl [Hpt Hpf]
    · isplitl [Hpt]; · iexact Hpt
      iexact Hpf
    iexact Hz
  iapply (wp_hand K c W) $$ [HO Hbt HL Hcb Hab]
  · isplitr; · iexact HK
    isplitl [HO]; · iexact HO
    isplitl [Hbt]; · iexact Hbt
    isplitl [HL]; · iexact HL
    isplitl [Hcb]; · iexact Hcb
    iexact Hab
  iintro ⟨HO, Hab, HL⟩
  ihave HM := (mach_start (A := A) (Bm := Bm) c) $$ [HO HL Hops Ho Hw Has Har Hts Htr Hcr]
  · isplitl [Hops]; · iexact Hops
    isplitl [Ho Hw]
    · isplitl [Ho]; · iexact Ho
      iexact Hw
    isplitl [HL Hts Htr Has]
    · isplitl [Hts]; · iexact Hts
      isplitl [Htr]; · iexact Htr
      isplitl [HL]; · iexact HL
      iexact Has
    isplitl [Hcr Har]
    · isplitl [Hcr]; · iexact Hcr
      iexact Har
    iexact HO
  iapply (wp_evs K c) $$ [HM]
  · isplitr; · iexact HK
    iexact HM
  iintro H
  imod (mach_end K c) $$ [Hab H] with H
  · isplitr; · iexact HK
    isplitl [Hab]; · iexact Hab
    iexact H
  imodintro
  iapply Hk
  iexact H

end Cert.Reduce

end
-- ==== Proof.Deal.lean ====
/-
# Dealing the run

What the launch mints is turned into what each device starts with: the cells' invariants, known to all; the positions of
its own cells; the tokens of the payments it makes, brought from the devices it pays; and the credit of what it is paid.
-/
module

public import proofs.«01_k».proof.Proof.Body

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S1024x512 .f32) (Bm : Dev nD → Vec F S512x1024 .f32)

/-! ## The cells and the tokens minted -/

/-- Over all cells: the barrier's, and those of the transfers. -/
theorem over_opt (Φ : CK → sProp 𝕄) : bigSep Finset.univ Φ = iprop(Φ none ∗ bigSep Finset.univ fun bx : Bool × Tr => Φ (some bx)) := by
  rw [over_ck, bigSep_univ_prod, bigSep_univ_eq_bigSepL [false, true] (by decide) (by decide)]
  rfl

def allCells : Finset (GSem nD τ sig) := Finset.univ.map ⟨kcell, kcell_injective⟩

/-- The token of a payment into one of a device's cells: the four of the barrier, and one of each transfer's cell. -/
def tokOf : Dev nD × (Fin 4 ⊕ Bool × Tr) → GSem nD τ sig × ℕ × Fin 4
  | (c, .inl d) => (barCell c, 0, d)
  | (c, .inr bx) => (((c : Thread nD τ), csem (some bx)), 0, 0)
theorem tokOf_injective : Function.Injective tokOf := by
  rintro ⟨c, d | bx⟩ ⟨c', d' | bx'⟩ h
  all_goals have h1 : c = c' := congrArg (fun x : GSem nD τ sig × ℕ × Fin 4 => x.1.1.1) h
  all_goals subst h1
  · rw [show d = d' from congrArg (fun x : GSem nD τ sig × ℕ × Fin 4 => x.2.2) h]
  · have := @csem_injective none (some bx') (congrArg (fun x : GSem nD τ sig × ℕ × Fin 4 => x.1.2) h)
    cases this
  · have := @csem_injective (some bx) none (congrArg (fun x : GSem nD τ sig × ℕ × Fin 4 => x.1.2) h)
    cases this
  · have := @csem_injective (some bx) (some bx') (congrArg (fun x : GSem nD τ sig × ℕ × Fin 4 => x.1.2) h)
    cases this; rfl
def allToks : Finset (GSem nD τ sig × ℕ × Fin 4) := Finset.univ.map ⟨tokOf, tokOf_injective⟩

def u₀ : UU := (initOf (Pipeline.cells cfgs cellOf_inj) (Pipeline.launchToks cfgs cellOf_inj), initOf allCells allToks)

/-- The tokens of the payments into a device's own cells. -/
def toks (c : Dev nD) : sProp 𝕄 :=
  iprop((dutyTok ER (barCell c) 0 0 ∗ dutyTok ER (barCell c) 0 1 ∗ dutyTok ER (barCell c) 0 2 ∗ dutyTok ER (barCell c) 0 3)
    ∗ (bigSep Finset.univ fun x : Tr => dutyTok ER (sendCell c x) 0 0) ∗ bigSep Finset.univ fun x : Tr => dutyTok ER (recvCell c x) 0 0)

theorem toks_eq (c : Dev nD) : (bigSep Finset.univ fun j : Fin 4 ⊕ Bool × Tr => (dutyTok ER (tokOf (c, j)).1 (tokOf (c, j)).2.1 (tokOf (c, j)).2.2 : sProp 𝕄)) = toks c := by
  refine (bigSep_univ_sum _).trans ?_
  rw [bigSep_univ_prod, bigSep_univ_eq_bigSepL [false, true] (by decide) (by decide), bigSep_univ_eq_bigSepL [0, 1, 2, 3] (by decide) (by decide)]
  rfl

/-- What the launch mints for a device. -/
def G (c : Dev nD) : sProp 𝕄 :=
  iprop((bigSep Finset.univ fun k : CK => roundState ER (Rd A Bm) (kcell (c, k)) 0)
    ∗ ((bigSep Finset.univ fun k : CK => atPos ER (kcell (c, k)) 0 ∅ 0) ∗ bigSep Finset.univ fun k : CK => reached ER (kcell (c, k)) 0) ∗ toks c)

theorem mint : BI.own (ER (initOf allCells allToks)) ⊢ (|==> bigSep Finset.univ (G A Bm) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (Rd A Bm) allCells allToks) $$ HX with ⟨Hst, Hr, Hat, Htok⟩
  imodintro
  ihave Hst := (Entails.of_eq (hX fun g => roundState ER (Rd A Bm) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-! ## The invariants -/

/-- The semaphores of the transfers are the kernel's own. -/
def osem (bx : Bool × Tr) : SemLoc sig := csem (some bx)

theorem unscoped_eq (c : Dev nD) : (unscopedSems0 c : sProp 𝕄) = semVal (barCell c) 0 := by
  unfold unscopedSems0; rw [bigSep_eq_bigSepL_of_eq [SemLoc.reg barS] (by decide +kernel) (by decide)]; rfl

/-- All semaphores of a device at zero: the kernel's own and the barrier's. -/
theorem sems_eq (c : Dev nD) :
    (iprop(unscopedSems0 c ∗ Pipeline.ownSems0 (Ix := Unit) (Name := ℕ) (U := UU) (Lvl := ℕ) (Val := Elt F) (τ := τ) osem c) : sProp 𝕄)
      = bigSep Finset.univ fun k : CK => semVal (kcell (c, k)) 0 := by
  rw [unscoped_eq, over_opt]
  rfl

theorem alloc (c : Dev nD) :
    iprop(Pipeline.ownSems0 (Ix := Unit) (Name := ℕ) (U := UU) (Lvl := ℕ) (Val := Elt F) (τ := τ) osem c ∗ unscopedSems0 c ∗ G A Bm c)
      ⊢ |={Set.univ}=> iprop((bigSep Finset.univ fun k : CK => iprop(∃ κ : ℕ, cellInv ER (Rd A Bm) κ (kcell (c, k))))
          ∗ ((bigSep Finset.univ fun k : CK => atPos ER (kcell (c, k)) 0 ∅ 0) ∗ bigSep Finset.univ fun k : CK => reached ER (kcell (c, k)) 0) ∗ toks c) := by
  unfold G
  iintro ⟨Hos, Hus, Hst, Hat, Htok⟩
  ihave Hv := (Entails.of_eq (sems_eq (F := F) c)) $$ [Hos Hus]
  · isplitl [Hus]; · iexact Hus
    iexact Hos
  imod (show iprop((bigSep Finset.univ fun k : CK => semVal (kcell (c, k)) 0) ∗ bigSep Finset.univ fun k : CK => roundState ER (Rd A Bm) (kcell (c, k)) 0)
      ⊢ (|={Set.univ}=> bigSep Finset.univ fun k : CK => iprop(∃ κ : ℕ, cellInv ER (Rd A Bm) κ (kcell (c, k))) : sProp 𝕄) from by
        rw [← bigSep_sep']
        exact (bigSep_mono fun k _ => (Rounds.body_intro ER (Rd A Bm) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- The invariants of all cells under the names `K`, and that their round has begun. -/
def records (K : Dev nD × CK → ℕ) : sProp 𝕄 :=
  bigSep Finset.univ fun ck : Dev nD × CK => iprop(cellInv ER (Rd A Bm) (K ck) (kcell ck) ∗ reached ER (kcell ck) 0)
instance records_persistent (K : Dev nD × CK → ℕ) : BI.Persistent (records A Bm K) := by unfold records; infer_instance

/-! ## The tokens brought to the payers -/

def ringE (d : Bool) : Dev nD ≃ Dev nD := ⟨nxt d, nxt (!d), nxt_nxt d, fun c => by have := nxt_nxt (!d) c; rwa [Bool.not_not] at this⟩
def upE : Dev nD ≃ Dev nD := ⟨up, dn, dn_up, up_dn⟩
def tgtE : Dev nD × Tr ≃ Dev nD × Tr :=
  ⟨fun cx => (tgt cx.1 cx.2, cx.2), fun cx => (frm cx.1 cx.2, cx.2), fun cx => Prod.ext (frm_tgt cx.1 cx.2) rfl, fun cx => Prod.ext (tgt_frm cx.1 cx.2) rfl⟩

/-- The tokens of the payments a device makes. -/
def payToks (c : Dev nD) : sProp 𝕄 :=
  iprop(barToks c ∗ (bigSep Finset.univ fun x : Tr => dutyTok ER (sendCell c x) 0 0) ∗ bigSep Finset.univ fun x : Tr => dutyTok ER (recvCell (tgt c x) x) 0 0)

theorem recv_around : (bigSep Finset.univ fun c : Dev nD => bigSep Finset.univ fun x : Tr => (dutyTok ER (recvCell c x) 0 0 : sProp 𝕄))
    = bigSep Finset.univ fun c : Dev nD => bigSep Finset.univ fun x : Tr => dutyTok ER (recvCell (tgt c x) x) 0 0 := by
  rw [← bigSep_univ_prod (fun cx : Dev nD × Tr => (dutyTok ER (recvCell cx.1 cx.2) 0 0 : sProp 𝕄)),
    ← bigSep_univ_prod (fun cx : Dev nD × Tr => (dutyTok ER (recvCell (tgt cx.1 cx.2) cx.2) 0 0 : sProp 𝕄)),
    bigSep_univ_equiv tgtE (fun cx : Dev nD × Tr => (dutyTok ER (recvCell cx.1 cx.2) 0 0 : sProp 𝕄))]
  rfl

theorem toks_around : (bigSep Finset.univ fun c : Dev nD => (toks c : sProp 𝕄)) = bigSep Finset.univ fun c : Dev nD => payToks c := by
  unfold toks payToks barToks
  simp only [bigSep_sep']
  rw [recv_around, bigSep_univ_equiv upE.symm (fun c : Dev nD => (dutyTok ER (barCell c) 0 0 : sProp 𝕄)),
    bigSep_univ_equiv upE (fun c : Dev nD => (dutyTok ER (barCell c) 0 1 : sProp 𝕄)),
    bigSep_univ_equiv (ringE false) (fun c : Dev nD => (dutyTok ER (barCell c) 0 2 : sProp 𝕄)),
    bigSep_univ_equiv (ringE true) (fun c : Dev nD => (dutyTok ER (barCell c) 0 3 : sProp 𝕄))]
  rfl

/-- What a device gets: that all know the cells, and what is dealt to it. -/
def G' (c : Dev nD) : sProp 𝕄 := iprop(∃ K, records A Bm K ∗ dealt c)

theorem get_intro (K : Dev nD × CK → ℕ) (c : Dev nD) : iprop(records A Bm K ∗ dealt c) ⊢ G' A Bm c := by
  unfold G'
  iintro H; iexists K; iexact H

theorem dealt_intro (c : Dev nD) : iprop((bigSep Finset.univ fun k : CK => (atPos ER (kcell (c, k)) 0 ∅ 0 : sProp 𝕄)) ∗ payToks c) ⊢ dealt c := by
  rw [over_ck]
  exact Entails.of_eq rfl

theorem regroup :
    (bigSep Finset.univ fun c : Dev nD => iprop((bigSep Finset.univ fun k : CK => iprop(∃ κ : ℕ, cellInv ER (Rd A Bm) κ (kcell (c, k))))
          ∗ ((bigSep Finset.univ fun k : CK => atPos ER (kcell (c, k)) 0 ∅ 0) ∗ bigSep Finset.univ fun k : CK => reached ER (kcell (c, k)) 0) ∗ toks c) : sProp 𝕄)
      ⊢ bigSep Finset.univ (G' A Bm) := by
  classical
  rw [bigSep_sep', bigSep_sep', bigSep_sep', toks_around, ← bigSep_univ_prod (fun ck : Dev nD × CK => iprop(∃ κ : ℕ, cellInv ER (Rd A Bm) κ (kcell ck))),
    ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd A Bm) κ (kcell ck) : sProp 𝕄))) $$ HI
  icases HK with ⟨%K, #HI⟩
  ihave #Hrec := (show _ ⊢ records A Bm K from Entails.of_eq (bigSep_sep' Finset.univ (fun ck : Dev nD × CK => (cellInv ER (Rd A Bm) (K ck) (kcell ck) : sProp 𝕄)) (fun ck => reached ER (kcell ck) 0)).symm) $$ []
  · isplitr; · iexact HI
    iexact HR
  ihave Hd := (show _ ⊢ bigSep Finset.univ (dealt (F := F)) from (Entails.of_eq (bigSep_sep' Finset.univ
      (fun c : Dev nD => bigSep Finset.univ fun k : CK => (atPos ER (kcell (c, k)) 0 ∅ 0 : sProp 𝕄)) payToks).symm).trans
      (bigSep_mono fun c _ => dealt_intro c)) $$ [Hat Htok]
  · isplitl [Hat]; · iexact Hat
    iexact Htok
  iapply (show iprop(records A Bm K ∗ bigSep Finset.univ (dealt (F := F))) ⊢ bigSep Finset.univ (G' A Bm) from
    (sep_mono_left (BI.bigSep_of_persistent Finset.univ (records A Bm K))).trans (by
      rw [← bigSep_sep']
      exact bigSep_mono fun c _ => get_intro A Bm K c))
  isplitr; · iexact Hrec
  iexact Hd

/-- The step at the launch, over all devices at once. -/
theorem deal : (bigSep Finset.univ fun c => iprop(Pipeline.ownSems0 (Ix := Unit) (Name := ℕ) (U := UU) (Lvl := ℕ) (Val := Elt F) (τ := τ) osem c ∗ unscopedSems0 c ∗ G A Bm c) : sProp 𝕄)
    ⊢ |={Set.univ}=> bigSep Finset.univ (G' A Bm) :=
  ((bigSep_mono fun c _ => alloc A Bm c).trans (bigSep_fupd _ _)).trans (BI.fupd_mono (regroup A Bm))

/-! ## The launch credit -/

theorem cell_iff {a b : Dev nD} {k l : CK} : Iff (((a : Thread nD τ), csem k) = (((b : Thread nD τ), csem l) : GSem nD τ sig)) ((a, k) = (b, l)) :=
  ⟨fun h => kcell_injective (a₁ := (a, k)) (a₂ := (b, l)) h, fun h => by cases h; rfl⟩

/-- What all devices owe to one cell of a device, where each owes to that cell of the device it maps to. -/
theorem sum_tally (k : CK) (e : Dev nD ≃ Dev nD) (n : ℕ) (c : Dev nD) :
    ∑ d : Dev nD, (tallyAt ((e d : Thread nD τ), csem k) () n : CellTallies nD τ sig Unit) ((c : Thread nD τ), csem k) () = n := by
  rw [Finset.sum_congr rfl fun d _ => show _ = if d = e.symm c then n else 0 from by
    rw [tallyAt_apply]
    by_cases h : d = e.symm c
    · subst h; rw [if_pos ⟨by rw [e.apply_symm_apply], rfl⟩, if_pos rfl]
    · rw [if_neg h, if_neg fun h' => h (by
        have := (Prod.ext_iff.mp (cell_iff.mp h'.1)).1
        rw [show c = e d from this, e.symm_apply_apply])]]
  rw [Finset.sum_ite_eq' Finset.univ (e.symm c), if_pos (Finset.mem_univ _)]
theorem tally_other {a b : Dev nD} {k l : CK} (h : k ≠ l) (n : ℕ) :
    (tallyAt ((a : Thread nD τ), csem k) () n : CellTallies nD τ sig Unit) ((b : Thread nD τ), csem l) () = 0 := by
  rw [tallyAt_apply, if_neg fun h' => h (Prod.ext_iff.mp (cell_iff.mp h'.1)).2.symm]

theorem owed_at (d c : Dev nD) (k : CK) :
    owed d 0 ((c : Thread nD τ), csem k) () = ∑ x : Tr, (tallyAt (recvCell (tgt d x) x) () N : CellTallies nD τ sig Unit) ((c : Thread nD τ), csem k) () := by
  unfold owed
  rw [tally_sum_apply]
  exact Finset.sum_congr rfl fun x _ => by rw [if_pos (Nat.zero_le _)]

theorem O₀_at (d : Dev nD) (g : GSem nD τ sig) : O₀ d g () = owed d 0 g () + tallyAt (barCell (nxt true d)) () 1 g () + tallyAt (barCell (nxt false d)) () 1 g ()
    + tallyAt (barCell (up d)) () 1 g () + tallyAt (barCell (dn d)) () 1 g () := by
  unfold O₀ O₃ O₂ O₁
  simp only [Pi.add_apply, Finsupp.add_apply]

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => O₀_at d (barCell c)]
  simp only [Finset.sum_add_distrib]
  have h1 := sum_tally none (ringE true) 1 c
  have h2 := sum_tally none (ringE false) 1 c
  have h3 := sum_tally none upE 1 c
  have h4 := sum_tally none upE.symm 1 c
  have h0 : ∑ d : Dev nD, owed d 0 (barCell c) () = 0 := Finset.sum_eq_zero fun d _ =>
    (owed_at d c none).trans (Finset.sum_eq_zero fun x _ => tally_other (k := some (true, x)) (l := none) (by intro h; cases h) N)
  exact congrArg₂ (· + ·) (congrArg₂ (· + ·) (congrArg₂ (· + ·) (congrArg₂ (· + ·) h0 h1) h2) h3) h4

def tgtX (x : Tr) : Dev nD ≃ Dev nD := ⟨fun c => tgt c x, fun c => frm c x, fun c => frm_tgt c x, fun c => tgt_frm c x⟩

theorem launch_recv (c : Dev nD) (x : Tr) :
    tallyOn (recvCell c x) (launchCredit (Pipeline.owing O₀) 0 (recvCell c x)) = (tallyAt (recvCell c x) () N : CellTallies nD τ sig Unit) := by
  unfold tallyAt; refine congrArg _ (Finsupp.ext fun u => ?_); cases u
  rw [Pipeline.launchCredit_owing, Finsupp.single_eq_same, Finset.sum_congr rfl fun d _ => O₀_at d (recvCell c x)]
  simp only [Finset.sum_add_distrib]
  have hb (f : Dev nD → Dev nD) : ∑ d : Dev nD, (tallyAt (barCell (f d)) () 1 : CellTallies nD τ sig Unit) (recvCell c x) () = 0 :=
    Finset.sum_eq_zero fun d _ => tally_other (k := none) (l := some (true, x)) (by intro h; cases h) 1
  have h0 : ∑ d : Dev nD, owed d 0 (recvCell c x) () = N := by
    refine (Finset.sum_congr rfl fun d _ => (owed_at d c (some (true, x))).trans (Finset.sum_eq_single x (fun y _ hy =>
      tally_other (k := some (true, y)) (l := some (true, x)) (fun h => hy (by cases h; rfl)) N) (fun h => absurd (Finset.mem_univ _) h))).trans ?_
    exact sum_tally (some (true, x)) (tgtX x) N c
  exact congrArg₂ (· + ·) (congrArg₂ (· + ·) (congrArg₂ (· + ·) (congrArg₂ (· + ·) h0 (hb _)) (hb _)) (hb _)) (hb _)

theorem credits (c : Dev nD) : (Pipeline.launchCred O₀ c : sProp 𝕄) ⊢ credit c := by
  classical
  unfold Pipeline.launchCred
  refine (bigSep_subset (t := Finset.univ.map ⟨csem, csem_injective⟩) (Finset.subset_univ _)).trans ?_
  rw [bigSep_map, over_ck]
  unfold credit
  exact BI.sep_mono (Entails.of_eq (congrArg cred (launch_bar c)))
    ((BI.sep_and.trans and_elimR).trans (bigSep_mono fun x _ => Entails.of_eq (congrArg cred (launch_recv c x))))

/-! ## Waiting on the staging semaphores -/

theorem O₀_pos {c : Dev nD} {g : GSem nD τ sig} {u : Unit} (h : 0 < O₀ c g u) : ∃ (d : Dev nD) (k : CK), g = ((d : Thread nD τ), csem k) ∧ 0 < lvOf (some k) := by
  cases u
  rw [O₀_at] at h
  have bar (f : Dev nD) (h : (tallyAt (barCell f) () 1 : CellTallies nD τ sig Unit) g () ≠ 0) : ∃ (d : Dev nD) (k : CK), g = ((d : Thread nD τ), csem k) ∧ 0 < lvOf (some k) := by
    rw [tallyAt_apply] at h
    by_cases hg : g = barCell f ∧ (() : Unit) = ()
    · exact ⟨f, none, hg.1, Nat.one_pos⟩
    · rw [if_neg hg] at h; exact absurd rfl h
  by_cases h1 : 0 < owed c 0 g ()
  · obtain ⟨x, -, rfl⟩ := owed_pos h1
    exact ⟨tgt c x, some (true, x), rfl, lt_of_lt_of_le (by decide) (two_le_lvl (idx x))⟩
  by_cases h2 : (tallyAt (barCell (nxt true c)) () 1 : CellTallies nD τ sig Unit) g () ≠ 0
  · exact bar _ h2
  by_cases h3 : (tallyAt (barCell (nxt false c)) () 1 : CellTallies nD τ sig Unit) g () ≠ 0
  · exact bar _ h3
  by_cases h4 : (tallyAt (barCell (up c)) () 1 : CellTallies nD τ sig Unit) g () ≠ 0
  · exact bar _ h4
  · exact bar (dn c) (by omega)

theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, k, rfl, -⟩ := O₀_pos hg; exact Finset.mem_singleton_self _)
      (fun p hp => by
        rw [Finset.mem_singleton.mp hp]
        have e : kindOf (.dma q) = none := if_pos hq
        show lvOf (kindOf (.dma q)) ≤ 0
        rw [e]; exact le_refl 0)
      (fun g u hg => by
        obtain ⟨d, k, rfl, h⟩ := O₀_pos hg
        show 0 < lvOf (kindOf (csem k))
        rw [kindOf_csem]; exact h)
  · rw [MayWait_zero]; iintro -; iempintro

end Cert.Reduce

end
-- ==== Proof.Launch.lean ====
/-
# The launch

From any memory with its semaphores at zero, the program on all devices ends, its arguments unchanged, its result on
every device the contents the body leaves, and every semaphore at zero again.
-/
module

public import proofs.«01_k».proof.Proof.Deal
public import Idealize.ShloMosaic.Lib.Pipeline.CollectiveSegs

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- The operands a device stages. -/
def opA (c : Dev nD) : Vec F S1024x512 .f32 := (win0_0.blk (0 : Fin 1)).view.read (Elt F) ((s₀ m ρ).mem ((c : Thread nD τ).loc main_arg0))
def opB (c : Dev nD) : Vec F S512x1024 .f32 := (win0_1.blk (0 : Fin 1)).view.read (Elt F) ((s₀ m ρ).mem ((c : Thread nD τ).loc main_arg1))
/-- The result a device leaves. -/
def outB (c : Dev nD) : Vec F S1024x1024 .f32 := outV (opA m ρ) (opB m ρ) c

def Φ₀ (c : Dev nD) : sProp 𝕄 := iprop(((∃ K, known (opA m ρ) (opB m ρ) K ∗ dealt c) ∗ credit c) ∗ scratch c)
def Φ₁ (c : Dev nD) : sProp 𝕄 := iprop(scratch (F := F) c ∗ bigSep Finset.univ fun k : CK => semVal ((c : Thread nD τ), csem k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => opA m ρ c
    | ⟨1, _⟩ => opB m ρ c
    | ⟨2, _⟩ => outB m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_a (t : Fin cfg0.N) : (cfg0.win (0 : Fin 3)).fetch t = true := by rw [show t = t0_0 from fin_N0 t]; rfl
theorem fetch_b (t : Fin cfg0.N) : (cfg0.win (1 : Fin 3)).fetch t = true := by rw [show t = t0_0 from fin_N0 t]; rfl

/-- A buffer at a value is its whole view holding the value. -/
theorem owns_holds (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜(Memref.whole b).view.read (Elt F) f = X⌝
        ∗ ((Memref.whole b).view.loc (c : Thread nD τ) ↦[(Memref.whole b).view.set]{fullShare} f)) := rfl

def bodyPre (c : Dev nD) : sProp 𝕄 :=
  iprop(Φ₀ m ρ c ∗ (dats m ρ 0 c).owesAt () t0_0.castSucc
    ∗ (∃ d, holds BB.a.view c fullShare ((dats m ρ 0 c).before (0 : Fin 3) t0_0 d))
    ∗ (∃ d, holds BB.b.view c fullShare ((dats m ρ 0 c).before (1 : Fin 3) t0_0 d))
    ∗ (∃ d, holds BB.o.view c fullShare ((dats m ρ 0 c).before (2 : Fin 3) t0_0 d)))
def bodyPost (c : Dev nD) : sProp 𝕄 :=
  iprop(Φ₁ c ∗ (dats m ρ 0 c).owesAt () t0_0.succ ∗ holds BB.a.view c fullShare (opA m ρ c) ∗ holds BB.b.view c fullShare (opB m ρ c)
    ∗ holds BB.o.view c fullShare (outB m ρ c))

theorem sound_body (c : Dev nD) : bodyPre m ρ c ⊢ WP c (handshake c (seqs (evs.map (clEv c)))) (fun _ => bodyPost m ρ c) := by
  unfold bodyPre Φ₀
  iintro ⟨⟨⟨⟨%K, #HK, Hd⟩, Hc⟩, Hs⟩, Ho, ⟨%d0, Ha⟩, ⟨%d1, Hb⟩, ⟨%d2, Hr⟩⟩
  have ea : (dats m ρ 0 c).before (0 : Fin 3) t0_0 d0 = opA m ρ c := by unfold Dat.before; rw [if_pos (fetch_a t0_0)]; rfl
  have eb : (dats m ρ 0 c).before (1 : Fin 3) t0_0 d1 = opB m ρ c := by unfold Dat.before; rw [if_pos (fetch_b t0_0)]; rfl
  rw [ea, eb]
  unfold Dat.owesAt Pipeline.owesWithin
  icases Ho with ⟨%W, %hW, HO⟩
  rw [show (dats m ρ 0 c).owed t0_0.castSucc = O₀ c from rfl]
  iapply (wp_body K c W) $$ [Hd Hc Hs HO Ha Hb Hr]
  · isplitr; · iexact HK
    isplitl [Hd]; · iexact Hd
    isplitl [Hc]; · iexact Hc
    isplitl [Hs]; · iexact Hs
    isplitl [Ha Hb]
    · unfold opsA
      isplitl [Ha]; · iexact Ha
      iexact Hb
    isplitl [Hr]; · iapply holds_raw; iexact Hr
    iexact HO
  unfold ended opsA
  iintro ⟨⟨Ha, Hb⟩, Hr, Hs, Hv, ⟨%W', HO⟩⟩
  unfold bodyPost Φ₁ Dat.owesAt Pipeline.owesWithin
  isplitl [Hs Hv]
  · isplitl [Hs]; · iexact Hs
    iexact Hv
  isplitl [HO]
  · iexists W'
    isplitr; · ipureintro; exact fun _ _ => Or.inl trivial
    iexact HO
  isplitl [Ha]; · iexact Ha
  isplitl [Hb]; · iexact Hb
  iexact Hr

/-- A program that first asks for its device is run as that device's. -/
theorem wp_who {α : Type} (c : Dev nD) (k : Dev nD → Prog (TpuEff nD τ sig (Elt F) Λ₀ .tc) α) (Q : α → sProp 𝕄) :
    WP c (Prog.lift .deviceId >>= k) Q = WP c (k c) Q := by
  unfold WP
  simp only [Prog.lift, Prog.bind_op, Prog.bind_ret, wp_deviceId]

attribute [local irreducible] cc0_body in
set_option maxRecDepth 8000 in
/-- The body's obligation. -/
theorem body_obligation (c : Dev nD) : BodyObligation (dats (F := F) m ρ 0 c) (defs₀ (F := F)) 𝒱₀ () Set.univ := fun t => by
  rw [show t = t0_0 from fin_N0 t]
  rw [bigSep_W0, bigSep_W0]
  show bodyPre m ρ c ⊢ WP c (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7 cc0_scratch8
      cc0_scratch9) (fun _ => bodyPost m ρ c)
  rw [body_eq, wp_who]
  exact sound_body m ρ c

/-! ## The side conditions -/

theorem ownSemFacts : Pipeline.OwnSemFacts cfg0.spec osem where
  isScoped := fun bx => by revert bx; decide +kernel
  inj := fun bx bx' h => Option.some.inj (csem_injective h)
  disj := fun bx w s h => by
    have e := congrArg kindOf h
    rw [show kindOf (osem bx) = some (some bx) from kindOf_csem (some bx)] at e
    revert e
    fin_cases w <;> fin_cases s <;> exact fun e => by cases e

theorem share_eq (c : Dev nD) (w : Fin cfg0.W) : (dats m ρ 0 c).share w = fullShare := by unfold Dat.share; split <;> rfl

def start (c : Dev nD) : sProp 𝕄 := iprop((∃ K, known (opA m ρ) (opB m ρ) K ∗ dealt c) ∗ credit c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (opA m ρ) (opB m ρ) c)
      ⊢ |={Set.univ}=> iprop(start m ρ c ∗ emp) := by
  unfold G'
  iintro ⟨-, Hlev, Hcr, -, ⟨%K, Hrec, Hd⟩⟩
  ihave Hc := (credits (F := F) c) $$ Hcr
  imodintro
  unfold start
  isplitl
  · isplitl [Hlev Hrec Hd]
    · iexists K
      isplitl [Hlev Hrec]
      · unfold known
        isplitl [Hrec]; · unfold records; iexact Hrec
        iexact Hlev
      iexact Hd
    iexact Hc
  · iempintro

/-- A whole buffer at any contents, as a view. -/
theorem raw_whole {s : Shape} {e : EltTy} (v : View sig .tc .vmem s e) (hv : v.set = Finset.univ) (c : Dev nD) :
    (raw (F := F) v c : sProp 𝕄) ⊣⊢ iprop(∃ f : Buf (Elt F) (v.loc (c : Thread nD τ)), (v.loc (c : Thread nD τ)) ↦{fullShare} f) := by
  unfold raw holds
  rw [hv]
  constructor
  · iintro ⟨%V, %f, -, H⟩
    iexists f; iexact H
  · iintro ⟨%f, H⟩
    iexists _; iexists f
    isplitr; · ipureintro; rfl
    iexact H

/-- The four scratch buffers. -/
theorem scratch_in (c : Dev nD) : (Pipeline.scopedRest (Ix := Unit) (Name := ℕ) (U := UU) (Lvl := ℕ) (Val := Elt F) spec0 c : sProp 𝕄) ⊢ scratch c := by
  rw [scopedRest0_eq]
  exact BI.sep_mono (raw_whole (BB.pc true).view (View.set_whole _) c).2 (BI.sep_mono (raw_whole (BB.pc false).view (View.set_whole _) c).2
    (BI.sep_mono (raw_whole BB.zw.view (View.set_whole _) c).2 (raw_whole BB.zc.view (View.set_whole _) c).2))
theorem scratch_back (c : Dev nD) : scratch c ⊢ (Pipeline.scopedRest (Ix := Unit) (Name := ℕ) (U := UU) (Lvl := ℕ) (Val := Elt F) spec0 c : sProp 𝕄) := by
  rw [scopedRest0_eq]
  exact BI.sep_mono (raw_whole (BB.pc true).view (View.set_whole _) c).1 (BI.sep_mono (raw_whole (BB.pc false).view (View.set_whole _) c).1
    (BI.sep_mono (raw_whole BB.zw.view (View.set_whole _) c).1 (raw_whole BB.zc.view (View.set_whole _) c).1))

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · unfold start; iexact Hs
  iapply (scratch_in c) $$ Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  iintro ⟨Hr, Hz⟩
  ihave Hr := (scratch_back c) $$ Hr
  ihave Hz := (Entails.of_eq (sems_eq (F := F) c).symm) $$ Hz
  icases Hz with ⟨Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

attribute [local irreducible] cc0_body in
set_option maxRecDepth 8000 in
/-- The run of the program on all devices. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (opA m ρ) (opB m ρ)) (G' := G' (opA m ρ) (opB m ρ)) (u₀ := u₀)
    (hu₀ := by
      unfold u₀
      iintro Hu
      ihave H := (ownU_pair _ _) $$ Hu
      icases H with ⟨HP, HX⟩
      imod (mint (opA m ρ) (opB m ρ)) $$ HX with HG
      imodintro
      isplitl [HP]; · iexact HP
      iexact HG)
    (hglob := deal (opA m ρ) (opB m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Cert.Reduce

end
-- ==== Proof.Final.lean ====
/-
# What the arrays hold at the end

The two arguments hold what they held, and the result holds what the body left in its window, which is the whole array.
-/
module

public import proofs.«01_k».proof.Proof.Launch

@[expose] public section

noncomputable section

namespace Cert.Reduce

open Cert.KernelIdeal Cert.KernelIdeal.Gen
open Idealize.ShloMosaic
open Idealize.ShloMosaic.TcCoe
open Idealize.SL.Sem
open Idealize.ShloMosaic.Pipeline (Dat Cfg Window)

variable {F : FTy → Type} [FloatOps F]

variable (m : (ℓ : Loc nD τ sig) → Buf (Elt F) ℓ) (ρ : Dev nD → PrngReg)

/-- The one block of each window is its whole array. -/
theorem blk_a (f : main_arg0.ty.Contents (Elt F)) : (win0_0.blk (0 : Fin 1)).view.read (Elt F) f = f :=
  Memref.read_access_unit_zero (Elt F) main_arg0 (off := fun a => win0_0.index (0 : Fin 1) a * main_arg0.ty.shape.size a)
    (funext fun _ => Nat.zero_mul _) (fun _ => by rw [show win0_0.index (0 : Fin 1) _ = 0 from rfl, Nat.zero_mul, Nat.zero_add]) f
theorem blk_b (f : main_arg1.ty.Contents (Elt F)) : (win0_1.blk (0 : Fin 1)).view.read (Elt F) f = f :=
  Memref.read_access_unit_zero (Elt F) main_arg1 (off := fun a => win0_1.index (0 : Fin 1) a * main_arg1.ty.shape.size a)
    (funext fun _ => Nat.zero_mul _) (fun _ => by rw [show win0_1.index (0 : Fin 1) _ = 0 from rfl, Nat.zero_mul, Nat.zero_add]) f
theorem blk_o (f : main_v1.ty.Contents (Elt F)) : (win0_2.blk (0 : Fin 1)).view.read (Elt F) f = f :=
  Memref.read_access_unit_zero (Elt F) main_v1 (off := fun a => win0_2.index (0 : Fin 1) a * main_v1.ty.shape.size a)
    (funext fun _ => Nat.zero_mul _) (fun _ => by rw [show win0_2.index (0 : Fin 1) _ = 0 from rfl, Nat.zero_mul, Nat.zero_add]) f

theorem opA_eq (c : Dev nD) : opA m ρ c = m ((c : Thread nD τ).loc main_arg0) := blk_a _
theorem opB_eq (c : Dev nD) : opB m ρ c = m ((c : Thread nD τ).loc main_arg1) := blk_b _

theorem final_a (c : Dev nD) : finalA m ρ c (0 : Fin 3) = m ((c : Thread nD τ).loc main_arg0) :=
  (dats m ρ 0 c).arrAt_in (0 : Fin 3) rfl _
theorem final_b (c : Dev nD) : finalA m ρ c (1 : Fin 3) = m ((c : Thread nD τ).loc main_arg1) :=
  (dats m ρ 0 c).arrAt_in (1 : Fin 3) rfl _

theorem flush_o : (cfg0.win (2 : Fin 3)).flush t0_0 = true := by decide

theorem final_o_read (c : Dev nD) : (win0_2.blk (0 : Fin 1)).view.read (Elt F) (finalA m ρ c (2 : Fin 3)) = outB m ρ c := by
  unfold finalA
  rw [show cfg0.N = t0_0.val + 1 from rfl, (dats m ρ 0 c).arrAt_succ (2 : Fin 3) t0_0, if_pos flush_o]
  exact View.read_write_univ _ _

theorem final_o (c : Dev nD) : finalA m ρ c (2 : Fin 3) = outB m ρ c :=
  (blk_o _).symm.trans (final_o_read m ρ c)

/-- The run: the result, the arguments and the semaphores. -/
theorem run_values : θ_run defs (onTc (τ := τ) (main (F := F))) ⟨m, fun _ => 0, ρ⟩ (fun r => (∀ c : Dev nD,
      r.2.mem ((c : Thread nD τ).loc main_v1) = outV (fun c => m ((c : Thread nD τ).loc main_arg0)) (fun c => m ((c : Thread nD τ).loc main_arg1)) c
      ∧ r.2.mem ((c : Thread nD τ).loc main_arg0) = m ((c : Thread nD τ).loc main_arg0)
      ∧ r.2.mem ((c : Thread nD τ).loc main_arg1) = m ((c : Thread nD τ).loc main_arg1))
      ∧ r.2.sem = fun _ => 0) := by
  have ho : ∀ c, outB m ρ c = outV (fun c => m ((c : Thread nD τ).loc main_arg0)) (fun c => m ((c : Thread nD τ).loc main_arg1)) c := by
    intro c
    unfold outB
    rw [show opA m ρ = _ from funext (opA_eq m ρ), show opB m ρ = _ from funext (opB_eq m ρ)]
  exact (θ_run defs _ _).mono (fun _ h => ⟨fun c => ⟨(h.1 c (2 : Fin 3)).trans ((final_o m ρ c).trans (ho c)),
    (h.1 c (0 : Fin 3)).trans (final_a m ρ c), (h.1 c (1 : Fin 3)).trans (final_b m ρ c)⟩, h.2⟩) (run_main m ρ)

end Cert.Reduce

end
-- ==== Proof.Frames.lean ====
/-
# The runs claimed

Each of the three programs ends with its arguments unchanged and its semaphores at zero. The program before the
idealization is the same text, so the run at any float values gives it too.
-/
module

public import proofs.«01_k».proof.Defs
public import proofs.«01_k».proof.Proof.Final
public import proofs.«01_k».proof.Proof.Gen.Kernel
public import proofs.«01_k».proof.Proof.Gen.ReferenceIdeal.Run

@[expose] public section

noncomputable section

namespace Cert.Reduce

open Idealize.ShloMosaic Idealize.SL.Sem

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_values (F := Ideal) m ρ)

section
attribute [local instance] Cert.Kernel.Gen.facts Cert.KernelIdeal.Gen.facts
variable {F : FTy → Type} [FloatOps F]

/-- The two texts run the same body. -/
theorem defs₀_same : Cert.Kernel.defs₀ (F := F) = Cert.KernelIdeal.defs₀ (F := F) := by
  unfold Cert.Kernel.defs₀ Cert.KernelIdeal.defs₀
  refine congrArg Defs.onTc ?_
  funext l a
  match l, a with
  | 0, (t, s) => exact congrFun rfl _

theorem defs_same : Cert.Kernel.defs (F := F) = Cert.KernelIdeal.defs (F := F) :=
  congrArg (Pipeline.defs Cert.KernelIdeal.pcfgs) defs₀_same
end

theorem frame_bits : Cert.quiescent_Kernel (hKernel := Cert.Kernel.Gen.facts) := fun m ρ _ => by
  rw [defs_same]
  exact (θ_run Cert.KernelIdeal.defs _ _).mono (fun _ h => ⟨fun c => (h.1 c).2, h.2⟩) (run_values (F := Bits) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

end Cert.Reduce

end
-- ==== Proof.Sums.lean ====
/-
# The sums, in extended reals

At the ideal values a block product is a sum of products, the ring and the depth add up the block products of all
thirty-two devices, and so every device ends with the activation of the whole sum.
-/
module

public import proofs.«01_k».proof.Proof.Body
public import Idealize.ShloMosaic.Lib.MatmulPlain

@[expose] public section

noncomputable section

namespace Cert.Reduce

open Cert.KernelIdeal Cert.KernelIdeal.Gen
open Idealize.ShloMosaic Idealize.ShloMosaic.ValueIdx

variable (A : Dev nD → Vec Ideal S1024x512 .f32) (Bm : Dev nD → Vec Ideal S512x1024 .f32)

/-- A row given by a number. -/
def rowF (n : ℕ) : Fin 1024 := ⟨n % 1024, Nat.mod_lt _ (by decide)⟩
theorem rowF_lt {n : ℕ} (h : n < 1024) : rowF n = ⟨n, h⟩ := Fin.ext (Nat.mod_eq_of_lt h)

/-- One device's part of an element of the result. -/
def part (c : Dev nD) (r j : Fin 1024) : EReal := ∑ k : Fin 512, A c (ix2 r k) * Bm c (ix2 k j)

theorem dot_plain : dot_S64x512_S512x1024_S64x1024_1_0_0_1_n_n = DotDims.plain 64 512 1024 := rfl

theorem pay1_apply (v : FVec Ideal S64x512 .f32) (w : FVec Ideal S512x1024 .f32) (r : Fin 64) (j : Fin 1024) :
    k0_pay1 v w (ix2 r j) = ∑ k : Fin 512, v (ix2 r k) * w (ix2 k j) := by
  show matmul dot_S64x512_S512x1024_S64x1024_1_0_0_1_n_n none (shapeCast S64x512 v shapeCasts_S64x512_S64x512)
    (shapeCast S512x1024 w shapeCasts_S512x1024_S512x1024) (constant S64x1024 .f32 0x00000000#32) (ix2 r j) = _
  have hv : shapeCast S64x512 v shapeCasts_S64x512_S64x512 = v := by
    funext i; unfold shapeCast; rw [Shape.reshapeEquiv_self]
  have hw : shapeCast S512x1024 w shapeCasts_S512x1024_S512x1024 = w := by
    funext i; unfold shapeCast; rw [Shape.reshapeEquiv_self]
  rw [hv, hw]
  simp only [matmul]
  rw [dot_plain, Ideal.matmul_plain_apply]
  refine (congrArg (· + _) ?_).trans (zero_add _)
  exact Ideal.ofBits_zero_f32

theorem mmT_apply (c : Dev nD) (d : Bool) (k : ℕ) (h : Fin 4) (i : S16x1024.Idx) :
    mmT A Bm c d k h i = part A Bm c (rowF (chunkRow c d k + 16 * h.val + (i 0).val)) (rowF (i 1).val) := by
  have hi : (i 0).val < 16 := (i 0).isLt
  have hh := h.isLt
  have hc := chunkRow_le c d k
  have hj : (i 1).val < 1024 := (i 1).isLt
  unfold mmT tileOf mmC
  rw [pay1_apply, rowF_lt (by omega), rowF_lt hj]
  refine Finset.sum_congr rfl fun q _ => ?_
  congr 1
  unfold rowsOf
  congr 2
  exact Fin.ext (Nat.add_assoc _ _ _).symm

theorem chunkRow_nxt (c : Dev nD) (d : Bool) {s : ℕ} (hs : s < 7) : chunkRow (nxt (!d) c) d s = chunkRow c d (s + 1) := by
  have : ∀ (c : Dev nD) (d : Bool) (s : Fin 7), chunkRow (nxt (!d) c) d s.val = chunkRow c d (s.val + 1) := by decide +kernel
  exact this c d ⟨s, hs⟩
theorem chunkRow_dn (c : Dev nD) (d : Bool) : chunkRow (dn c) d 7 = chunkRow c d 7 := by revert c d; decide +kernel
theorem slab_dn (c : Dev nD) {s : ℕ} (hs : s < 3) : slab (dn c) s = slab c (s + 1) := by
  have : ∀ (c : Dev nD) (s : Fin 3), slab (dn c) s.val = slab c (s.val + 1) := by decide +kernel
  exact this c ⟨s, hs⟩

/-- Along a ring the parts of the devices passed add up. -/
theorem acc_apply (d : Bool) (h : Fin 4) (i : S16x1024.Idx) (s : ℕ) (hs : s < 8) (c : Dev nD) :
    acc A Bm d h s c i =
      ∑ t ∈ Finset.range (s + 1), part A Bm ((nxt (!d))^[t] c) (rowF (chunkRow c d s + 16 * h.val + (i 0).val)) (rowF (i 1).val) := by
  induction s generalizing c with
  | zero => rw [Finset.sum_range_one]; exact mmT_apply A Bm c d 0 h i
  | succ s ih =>
    rw [Finset.sum_range_succ', add_comm (∑ _ ∈ _, _) _]
    show mmT A Bm c d (s + 1) h i + acc A Bm d h s (nxt (!d) c) i = _
    rw [mmT_apply, ih (by omega), chunkRow_nxt c d (by omega)]
    rfl

/-- Along the depth the sums of the rings add up. -/
theorem zacc_apply (d : Bool) (i : S16x1024.Idx) (s : ℕ) (hs : s < 4) (c : Dev nD) :
    zacc A Bm d s c i =
      ∑ l ∈ Finset.range (s + 1), ∑ t ∈ Finset.range 8,
        part A Bm ((nxt (!d))^[t] (dn^[l] c)) (rowF (chunkRow c d 7 + 16 * slab c s + (i 0).val)) (rowF (i 1).val) := by
  induction s generalizing c with
  | zero => rw [Finset.sum_range_one]; exact acc_apply A Bm d (slabF c 0) i 7 (by omega) c
  | succ s ih =>
    rw [Finset.sum_range_succ', add_comm (∑ _ ∈ _, _) _]
    show acc A Bm d (slabF c (s + 1)) 7 c i + zacc A Bm d s (dn c) i = _
    rw [acc_apply A Bm d _ i 7 (by omega), ih (by omega), chunkRow_dn, slab_dn c (by omega)]
    rfl

/-- The device that lies so many layers and so many steps along a ring away. -/
def away (c : Dev nD) (d : Bool) (x : Fin 4 × Fin 8) : Dev nD := (nxt (!d))^[x.2.val] (dn^[x.1.val] c)
/-- How many layers and steps away a device lies. -/
def dist (c : Dev nD) (d : Bool) (x : Dev nD) : Fin 4 × Fin 8 :=
  (⟨(dep c + 4 - dep x) % 4, Nat.mod_lt _ (by decide)⟩,
    ⟨(if d then pos c + 8 - pos x else pos x + 8 - pos c) % 8, Nat.mod_lt _ (by decide)⟩)
theorem away_dist (c : Dev nD) (d : Bool) (x : Dev nD) : away c d (dist c d x) = x := by revert c d x; decide +kernel

/-- Each device is passed once. -/
theorem away_bijective (c : Dev nD) (d : Bool) : Function.Bijective (away c d) :=
  (Fintype.bijective_iff_surjective_and_card _).mpr ⟨fun x => ⟨dist c d x, away_dist c d x⟩, by decide⟩

theorem sum_away (c : Dev nD) (d : Bool) (f : Dev nD → EReal) :
    (∑ l ∈ Finset.range 4, ∑ t ∈ Finset.range 8, f ((nxt (!d))^[t] (dn^[l] c))) = ∑ x, f x := by
  rw [← (away_bijective c d).sum_comp f, Fintype.sum_prod_type, Finset.sum_range]
  exact Finset.sum_congr rfl fun l _ => Finset.sum_range _

/-- The device whose activated slab a tile of the result is. -/
def maker (c : Dev nD) (d : Bool) (k : Fin 8) (h : Fin 4) : Dev nD :=
  dn^[((lof ((nxt (!d))^[(k.val + 1) % 8] c) h).val + 1) % 4] ((nxt (!d))^[(k.val + 1) % 8] c)
theorem maker_row (c : Dev nD) (d : Bool) (k : Fin 8) (h : Fin 4) :
    chunkRow (maker c d k h) d 7 + 16 * slab (maker c d k h) 3 = chunkRow c d k.val + 16 * h.val := by
  revert c d k h; decide +kernel

/-- Every device ends with the activation of the whole sum. -/
theorem outV_apply (c : Dev nD) (i : S1024x1024.Idx) : outV A Bm c i = geluS (F := Ideal) (∑ x, part A Bm x (i 0) (i 1)) := by
  obtain ⟨⟨d, k, h⟩, x, rfl⟩ := oT_cover c i
  rw [outV_tile]
  show geluS (F := Ideal) (zacc A Bm d 3 (maker c d k h) x) = _
  rw [zacc_apply A Bm d x 3 (by omega), maker_row]
  have hx : (x 0).val < 16 := (x 0).isLt
  have hj : (x 1).val < 1024 := (x 1).isLt
  have hc := chunkRow_le c d k.val
  have hh := h.isLt
  refine congrArg _ ((sum_away (maker c d k h) d fun y => part A Bm y _ _).trans ?_)
  refine Finset.sum_congr rfl fun y _ => ?_
  rw [rowF_lt (by omega), rowF_lt hj]
  refine congrArg₂ (part A Bm y) ?_ ?_
  · exact Fin.ext (by simp [oRect, oOff, Rect.emb, Rect.unit])
  · exact Fin.ext (by simp [oRect, oOff, Rect.emb, Rect.unit])

end Cert.Reduce

end
-- ==== Proof.Whole.lean ====
/-
# The reference's value

The reference multiplies the whole arrays and activates the product. A row of the one times a column of the other is
the sum, over the devices, of the parts of them the devices hold.
-/
module

public import proofs.«01_k».proof.Proof.Frames
public import proofs.«01_k».proof.Proof.Sums
public import Idealize.ShloMosaic.Lib.StackMember
public import Idealize.ShloMosaic.Lib.Layout

@[expose] public section

noncomputable section

namespace Cert.Reduce

open Idealize.ShloMosaic Idealize.ShloMosaic.ValueIdx Idealize.SL.Sem

attribute [local instance] Cert.Kernel.Gen.facts Cert.KernelIdeal.Gen.facts Cert.ReferenceIdeal.Gen.facts

variable (X : (⟨2, ![1024, 16384]⟩ : Shape).Idx → EReal) (Y : (⟨2, ![16384, 1024]⟩ : Shape).Idx → EReal)

/-- What the devices hold of the two arrays. -/
def colsOf (c : Fin 32) : (⟨2, ![1024, 512]⟩ : Shape).Idx → EReal := Layout.block ⟨2, ![1024, 512]⟩ ⟨2, ![1024, 16384]⟩ 1 32 c X
def rowsAt (c : Fin 32) : (⟨2, ![512, 1024]⟩ : Shape).Idx → EReal := Layout.block ⟨2, ![512, 1024]⟩ ⟨2, ![16384, 1024]⟩ 0 32 c Y

/-- The contracted coordinate that device `c` holds at `k`. -/
def at512 (c : Fin 32) (k : Fin 512) : Fin 16384 := ⟨k.val + 512 * c.val, by have := c.isLt; have := k.isLt; omega⟩

theorem colsOf_apply (c : Fin 32) (r : Fin 1024) (k : Fin 512) : colsOf X c (ix2 r k) = X (ix2 r (at512 c k)) := by
  refine congrArg X (funext fun a => Fin.ext ?_)
  rw [Layout.Tiles.idx_val]
  fin_cases a
  · rfl
  · exact (Nat.add_comm _ _).trans (congrArg (k.val + ·) (Nat.mul_comm _ _))
theorem rowsAt_apply (c : Fin 32) (k : Fin 512) (j : Fin 1024) : rowsAt Y c (ix2 k j) = Y (ix2 (at512 c k) j) := by
  refine congrArg Y (funext fun a => Fin.ext ?_)
  rw [Layout.Tiles.idx_val]
  fin_cases a
  · exact (Nat.add_comm _ _).trans (congrArg (k.val + ·) (Nat.mul_comm _ _))
  · rfl

/-- A sum over the contracted coordinate is the sum over the devices of the sums over what they hold. -/
theorem sum_16384 (f : Fin 16384 → EReal) : ∑ q, f q = ∑ c : Fin 32, ∑ k : Fin 512, f (at512 c k) := by
  rw [← Fintype.sum_prod_type', ← (finProdFinEquiv (m := 32) (n := 512)).sum_comp]
  rfl

theorem parts_eq (r j : Fin 1024) :
    ∑ c, part (colsOf X) (rowsAt Y) c r j = ∑ q : Fin 16384, X (ix2 r q) * Y (ix2 q j) := by
  rw [sum_16384]
  refine Finset.sum_congr rfl fun c _ => Finset.sum_congr rfl fun k _ => ?_
  rw [colsOf_apply, rowsAt_apply]

/-- The value both programs end with. -/
def value : (⟨2, ![1024, 1024]⟩ : Shape).Idx → EReal := fun i => geluS (F := Ideal) (∑ q : Fin 16384, X (ix2 (i 0) q) * Y (ix2 q (i 1)))

theorem outV_value (c : Dev Cert.KernelIdeal.nD) : outV (F := Ideal) (colsOf X) (rowsAt Y) c = value X Y := by
  funext i
  rw [outV_apply]
  exact congrArg _ (parts_eq X Y (i 0) (i 1))

theorem dot_whole : Cert.ReferenceIdeal.dot_S1024x16384_S16384x1024_S1024x1024_1_0_0_1_n_n = DotDims.plain 1024 16384 1024 := rfl

theorem product_apply (i : (⟨2, ![1024, 1024]⟩ : Shape).Idx) :
    Host.dotGeneral (F := Ideal) (φ₁ := .f32) (φ₂ := .f32) Cert.ReferenceIdeal.dot_S1024x16384_S16384x1024_S1024x1024_1_0_0_1_n_n none X Y i
      = ∑ q : Fin 16384, X (ix2 (i 0) q) * Y (ix2 q (i 1)) := by
  rw [dot_whole]
  conv_lhs => rw [eq_ix2 i]
  exact StackMember.dotGeneral_plain_apply _ _ _ _ _

/-- The reference's activation is the same, element by element. -/
theorem act_apply (z : FVec Ideal Cert.ReferenceIdeal.S1024x1024 .f32) (i : Cert.ReferenceIdeal.S1024x1024.Idx) :
    mulf (mulf (broadcastInDim Cert.ReferenceIdeal.S1024x1024 ![] Cert.ReferenceIdeal.Facts₀.bcast_S_S1024x1024 (constant Cert.ReferenceIdeal.S_ .f32 0x3F000000#32)) z)
      (addf (broadcastInDim Cert.ReferenceIdeal.S1024x1024 ![] Cert.ReferenceIdeal.Facts₀.bcast_S_S1024x1024 (constant Cert.ReferenceIdeal.S_ .f32 0x3F800000#32))
        (Host.tanh (mulf (broadcastInDim Cert.ReferenceIdeal.S1024x1024 ![] Cert.ReferenceIdeal.Facts₀.bcast_S_S1024x1024 (constant Cert.ReferenceIdeal.S_ .f32 0x3F4C422A#32))
          (addf z (mulf (mulf (mulf (broadcastInDim Cert.ReferenceIdeal.S1024x1024 ![] Cert.ReferenceIdeal.Facts₀.bcast_S_S1024x1024 (constant Cert.ReferenceIdeal.S_ .f32 0x3D372713#32)) z) z) z)))))
      i = geluS (F := Ideal) (z i) := rfl

theorem claim_value : Cert.algebraic_KernelIdeal_ReferenceIdeal := by
  intro m ρ m' ρ' _ hagree
  refine ⟨value (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h.1 c).1.trans ?_, (h.1 c).2⟩) (run_values (F := Ideal) m ρ)
    rw [show (fun c : Dev Cert.KernelIdeal.nD => m ((c.tc : Thread Cert.KernelIdeal.nD Cert.KernelIdeal.τ).loc Cert.KernelIdeal.main_arg0)) = _ from funext fun c => (hagree c).1,
      show (fun c : Dev Cert.KernelIdeal.nD => m ((c.tc : Thread Cert.KernelIdeal.nD Cert.KernelIdeal.τ).loc Cert.KernelIdeal.main_arg1)) = _ from funext fun c => (hagree c).2]
    exact outV_value _ _ c
  · refine (θ_run Cert.ReferenceIdeal.defs _ _).mono (fun r h => ⟨(h 0).1.trans ?_, (h 0).2⟩) (Cert.ReferenceIdeal.Value.run m' ρ')
    funext i
    exact (act_apply _ i).trans (congrArg _ (product_apply _ _ i))

end Cert.Reduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Whole
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Reduce.frame_bits, Cert.Reduce.frame_ideal, Cert.Reduce.frame_reference, trivial, Cert.Reduce.claim_value⟩

end Cert.Proof

end
